-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v26)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v26) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v24_0)) (v1 : (c : Dev Cert.MergeIdeal.nD) → Buf (Elt Ideal) ((c.tc : Thread Cert.MergeIdeal.nD Cert.MergeIdeal.τ).loc Cert.MergeIdeal.main_v24_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24_0) = v0 c
          ∧ r.2.mem ((c.tc : Thread Cert.MergeIdeal.nD Cert.MergeIdeal.τ).loc Cert.MergeIdeal.main_v24_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v78) = v0 c
          ∧ r.2.mem ((c.tc : Thread Cert.MergeRefIdeal.nD Cert.MergeRefIdeal.τ).loc Cert.MergeRefIdeal.main_v80) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v15_0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v15_0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v24) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def Claim : Prop :=
  ∃ (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Merge_MergeIdeal
    ∧ algebraic_MergeIdeal_MergeRefIdeal (hMergeIdeal := hMergeIdeal) (hMergeRefIdeal := hMergeRefIdeal)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
-- ==== Pre_finite.lean ====
abbrev S4x8192x8192 : Shape := ⟨3, ![4, 8192, 8192]⟩
abbrev S1x64 : Shape := ⟨2, ![1, 64]⟩
abbrev S1x128 : Shape := ⟨2, ![1, 128]⟩
abbrev S4x8192x3072 : Shape := ⟨3, ![4, 8192, 3072]⟩
abbrev S_ : Shape := ⟨0, ![]⟩

class Facts : Prop where
  slices_S4x8192x8192_S4x8192x3072_0_0_0 : S4x8192x8192.Slices ![0, 0, 0] S4x8192x3072
  bcast_S_S4x8192x3072 : S_.BroadcastsInDim S4x8192x3072 (![] : Fin 0 → Fin S4x8192x3072.rank)
  bcast_S_S1x64 : S_.BroadcastsInDim S1x64 (![] : Fin 0 → Fin S1x64.rank)

variable [Facts]

def fn {F : FTy → Type} [FloatOps F] (main_arg0 : FVec F S4x8192x8192 .f32) (main_arg1 : FVec F S1x64 .f32) (main_arg2 : FVec F S1x64 .f32) (main_arg3 : FVec F S1x64 .f32) (main_arg4 : FVec F S1x64 .f32) (main_arg5 : FVec F S1x128 .f32) : IVec S4x8192x3072 1 × IVec S1x64 1 × IVec S1x64 1 × IVec S1x64 1 × IVec S1x64 1 :=
  let main_v0 : FVec F S4x8192x3072 .f32 := (extractStridedSlice S4x8192x3072 ![0, 0, 0] · slices_S4x8192x8192_S4x8192x3072_0_0_0) main_arg0
  let main_v1 : FVec F S4x8192x3072 .f32 := Host.absf main_v0
  let main_cst : FVec F S_ .f32 := constant S_ .f32 0x7F800000#32
  let main_v2 : FVec F S4x8192x3072 .f32 := broadcastInDim S4x8192x3072 ![] bcast_S_S4x8192x3072 main_cst
  let main_v3 : IVec S4x8192x3072 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Attn.lean ====
abbrev S4x8192x8192 : Shape := ⟨3, ![4, 8192, 8192]⟩
abbrev S1x64 : Shape := ⟨2, ![1, 64]⟩
abbrev S1x128 : Shape := ⟨2, ![1, 128]⟩
abbrev S4x8192x1024 : Shape := ⟨3, ![4, 8192, 1024]⟩
abbrev S4x8192x4096 : Shape := ⟨3, ![4, 8192, 4096]⟩
abbrev S_ : Shape := ⟨0, ![]⟩
abbrev S4x8192x6144 : Shape := ⟨3, ![4, 8192, 6144]⟩
abbrev S4x16x512x8x128 : Shape := ⟨5, ![4, 16, 512, 8, 128]⟩
abbrev S4x16x8x128x512 : Shape := ⟨5, ![4, 16, 8, 128, 512]⟩
abbrev S4x16x8x16x512 : Shape := ⟨5, ![4, 16, 8, 16, 512]⟩
abbrev S4x16x8x144x512 : Shape := ⟨5, ![4, 16, 8, 144, 512]⟩
abbrev S64x1152x512 : Shape := ⟨3, ![64, 1152, 512]⟩
abbrev S64 : Shape := ⟨1, ![64]⟩
abbrev S128 : Shape := ⟨1, ![128]⟩
abbrev S128x1 : Shape := ⟨2, ![128, 1]⟩
abbrev S1x8192x128 : Shape := ⟨3, ![1, 8192, 128]⟩
abbrev S16x144x512 : Shape := ⟨3, ![16, 144, 512]⟩
abbrev S128x1024 : Shape := ⟨2, ![128, 1024]⟩
abbrev S1x1024 : Shape := ⟨2, ![1, 1024]⟩
abbrev S144x1024 : Shape := ⟨2, ![144, 1024]⟩
abbrev S512x1024 : Shape := ⟨2, ![512, 1024]⟩
abbrev S1x512x128 : Shape := ⟨3, ![1, 512, 128]⟩
abbrev S512x128 : Shape := ⟨2, ![512, 128]⟩
abbrev S128x512 : Shape := ⟨2, ![128, 512]⟩
abbrev S1024 : Shape := ⟨1, ![1024]⟩
abbrev S1x144x512 : Shape := ⟨3, ![1, 144, 512]⟩
abbrev S144x512 : Shape := ⟨2, ![144, 512]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 36
  | .vmem => 20
  | .smem => 0
  | _ => 0

abbrev bufTy : (tb : Table) → Fin (tcTables nBuf tb) → BufTy
  | .hbm, ⟨0, _⟩ => ⟨S4x8192x8192, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S4x8192x6144, .f32⟩
  | .hbm, ⟨17, _⟩ => ⟨S4x8192x6144, .bf16⟩
  | .hbm, ⟨18, _⟩ => ⟨S4x16x512x8x128, .f32⟩
  | .hbm, ⟨19, _⟩ => ⟨S4x16x8x128x512, .f32⟩
  | .hbm, ⟨20, _⟩ => ⟨S_, .f32⟩
  | .hbm, ⟨21, _⟩ => ⟨S4x16x8x16x512, .f32⟩
  | .hbm, ⟨22, _⟩ => ⟨S4x16x8x144x512, .f32⟩
  | .hbm, ⟨23, _⟩ => ⟨S4x16x8x144x512, .bf16⟩
  | .hbm, ⟨24, _⟩ => ⟨S64x1152x512, .bf16⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S128, .f32⟩
  | .hbm, ⟨34, _⟩ => ⟨S128x1, .f32⟩
  | .hbm, ⟨35, _⟩ => ⟨S4x8192x1024, .bf16⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S16x144x512, .bf16⟩
  | .local _ .vmem, ⟨5, _⟩ => ⟨S16x144x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x8192x128, .bf16⟩
  | .local _ .vmem, ⟨12, _⟩ => ⟨S1x8192x128, .bf16⟩
  | .local _ .vmem, ⟨13, _⟩ => ⟨S128x1024, .bf16⟩
  | .local _ .vmem, ⟨14, _⟩ => ⟨S128x1024, .bf16⟩
  | .local _ .vmem, ⟨15, _⟩ => ⟨S1x1024, .f32⟩
  | .local _ .vmem, ⟨16, _⟩ => ⟨S144x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S4x8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32 : BitVec 32 := 512#32
  let v1 : BitVec 32 := Scalar.muli arg18 c512_i32
  v1
def k0_off1 (k0_t1 : Fin k0_t1_loop.trips) : Fin 3 → Nat :=
  let c0 : Index := 0#32
  let c0_i32 : BitVec 32 := 0#32
  let c1_i32 : BitVec 32 := 1#32
  let arg18 : BitVec 32 := Scf.iv c0_i32 c1_i32 k0_t1
  let c512_i32 : BitVec 32 := 512#32
  let v1 : BitVec 32 := Scalar.muli arg18 c512_i32
  let v2 : BitVec 32 := v1
  let v3 : Index := Scalar.indexCast v2
  let c0_1 : Index := 0#32
  ![0, v3.toNat, 0]
def k0_mult2 (k0_t1 : Fin k0_t1_loop.trips) : BitVec 32 :=
  let c0_i32 : BitVec 32 := 0#32
  let c1_i32 : BitVec 32 := 1#32
  let arg18 : BitVec 32 := Scf.iv c0_i32 c1_i32 k0_t1
  let c1_i32_6 : BitVec 32 := 1#32
  let v24 : BitVec 32 := Scalar.addi arg18 c1_i32_6
  let c15_i32 : BitVec 32 := 15#32
  let v25 : BitVec 32 := Scalar.minsi v24 c15_i32
  let c512_i32_7 : BitVec 32 := 512#32
  let v26 : BitVec 32 := Scalar.muli v25 c512_i32_7
  v26
def k0_off2 (k0_t1 : Fin k0_t1_loop.trips) : Fin 3 → Nat :=
  let c0_8 : Index := 0#32
  let c0_i32 : BitVec 32 := 0#32
  let c1_i32 : BitVec 32 := 1#32
  let arg18 : BitVec 32 := Scf.iv c0_i32 c1_i32 k0_t1
  let c1_i32_6 : BitVec 32 := 1#32
  let v24 : BitVec 32 := Scalar.addi arg18 c1_i32_6
  let c15_i32 : BitVec 32 := 15#32
  let v25 : BitVec 32 := Scalar.minsi v24 c15_i32
  let c512_i32_7 : BitVec 32 := 512#32
  let v26 : BitVec 32 := Scalar.muli v25 c512_i32_7
  let v27 : BitVec 32 := v26
  let v28 : Index := Scalar.indexCast v27
  let c0_9 : Index := 0#32
  ![0, v28.toNat, 0]
def k0_cond1 (k0_t1 : Fin k0_t1_loop.trips) : BitVec 1 :=
  let c0_i32 : BitVec 32 := 0#32
  let c1_i32 : BitVec 32 := 1#32
  let arg18 : BitVec 32 := Scf.iv c0_i32 c1_i32 k0_t1
  let c0_i32_23 : BitVec 32 := 0#32
  let v57 : BitVec 1 := Scalar.cmpi .eq arg18 c0_i32_23
  let v58 : BitVec 32 := Scalar.extui v57
  let c0_i32_24 : BitVec 32 := 0#32
  let v59 : BitVec 1 := Scalar.cmpi .ne v58 c0_i32_24
  v59

def k0_mult3 : BitVec 32 :=
  let c0_i32_49 : BitVec 32 := 0#32
  c0_i32_49
def k0_mult4 : BitVec 32 :=
  let c0_i32_57 : BitVec 32 := 0#32
  c0_i32_57
def k0_cond2 (k0_t1 : Fin k0_t1_loop.trips) : BitVec 1 :=
  let c0_i32 : BitVec 32 := 0#32
  let c1_i32 : BitVec 32 := 1#32
  let arg18 : BitVec 32 := Scf.iv c0_i32 c1_i32 k0_t1
  let c0_i32_25 : BitVec 32 := 0#32
  let v60 : BitVec 1 := Scalar.cmpi .sgt arg18 c0_i32_25
  let v61 : BitVec 32 := Scalar.extui v60
  let c0_i32_26 : BitVec 32 := 0#32
  let v62 : BitVec 1 := Scalar.cmpi .ne v61 c0_i32_26
  v62

def k0_mult5 : BitVec 32 :=
  let c512_i32_49 : BitVec 32 := 512#32
  c512_i32_49
@[reducible] def k0_t2_loop (k0_t1 : Fin k0_t1_loop.trips) : Scf.Loop 32 :=
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_82 : BitVec 32 := 1#32
  ⟨c0_i32_80, v171, c1_i32_82⟩
def k0_mult6 (k0_t1 : Fin k0_t1_loop.trips) (k0_t2 : Fin (k0_t2_loop k0_t1).trips) : BitVec 32 :=
  let c4_i32_108 : BitVec 32 := 4#32
  let c0_i32_80 : BitVec 32 := 0#32
  let c1_i32_82 : BitVec 32 := 1#32
  let arg19 : BitVec 32 := Scf.iv c0_i32_80 c1_i32_82 k0_t2
  let v212 : BitVec 32 := Scalar.muli c4_i32_108 arg19
  let c1_i32_109 : BitVec 32 := 1#32
  let v213 : BitVec 32 := Scalar.addi v212 c1_i32_109
  let c1_i32_110 : BitVec 32 := 1#32
  let v214 : BitVec 32 := Scalar.addi v213 c1_i32_110
  let c512_i32_111 : BitVec 32 := 512#32
  let v215 : BitVec 32 := Scalar.muli v214 c512_i32_111
  v215
def k0_off3 (k0_t1 : Fin k0_t1_loop.trips) (k0_t2 : Fin (k0_t2_loop k0_t1).trips) (c1_i32_109 : BitVec 32) (c1_i32_110 : BitVec 32) : Fin 3 → Nat :=
  let c0_112 : Index := 0#32
  let c4_i32_108 : BitVec 32 := 4#32
  let c0_i32_80 : BitVec 32 := 0#32
  let c1_i32_82 : BitVec 32 := 1#32
  let arg19 : BitVec 32 := Scf.iv c0_i32_80 c1_i32_82 k0_t2
  let v212 : BitVec 32 := Scalar.muli c4_i32_108 arg19
  let v213 : BitVec 32 := Scalar.addi v212 c1_i32_109
  let v214 : BitVec 32 := Scalar.addi v213 c1_i32_110
  let c512_i32_111 : BitVec 32 := 512#32
  let v215 : BitVec 32 := Scalar.muli v214 c512_i32_111
  let v216 : BitVec 32 := v215
  let v217 : Index := Scalar.indexCast v216
  let c0_113 : Index := 0#32
  ![0, v217.toNat, 0]
def k0_off4 (k0_t1 : Fin k0_t1_loop.trips) (k0_t2 : Fin (k0_t2_loop k0_t1).trips) (c1_i32_109 : BitVec 32) : Fin 3 → Nat :=
  let c4_i32_108 : BitVec 32 := 4#32
  let c0_i32_80 : BitVec 32 := 0#32
  let c1_i32_82 : BitVec 32 := 1#32
  let arg19 : BitVec 32 := Scf.iv c0_i32_80 c1_i32_82 k0_t2
  let v212 : BitVec 32 := Scalar.muli c4_i32_108 arg19
  let v213 : BitVec 32 := Scalar.addi v212 c1_i32_109
  let v238 : Index := Scalar.indexCast v213
  let c0_126 : Index := 0#32
  let c0_127 : Index := 0#32
  ![v238.toNat, 0, 0]
def k0_mult7 (k0_t1 : Fin k0_t1_loop.trips) (k0_t2 : Fin (k0_t2_loop k0_t1).trips) : BitVec 32 :=
  let c4_i32_108 : BitVec 32 := 4#32
  let c0_i32_80 : BitVec 32 := 0#32
  let c1_i32_82 : BitVec 32 := 1#32
  let arg19 : BitVec 32 := Scf.iv c0_i32_80 c1_i32_82 k0_t2
  let v212 : BitVec 32 := Scalar.muli c4_i32_108 arg19
  let c1_i32_109 : BitVec 32 := 1#32
  let v213 : BitVec 32 := Scalar.addi v212 c1_i32_109
  let c2_i32_133 : BitVec 32 := 2#32
  let v250 : BitVec 32 := Scalar.addi v213 c2_i32_133
  let c512_i32_134 : BitVec 32 := 512#32
  let v251 : BitVec 32 := Scalar.muli v250 c512_i32_134
  v251
def k0_off5 (k0_t1 : Fin k0_t1_loop.trips) (k0_t2 : Fin (k0_t2_loop k0_t1).trips) (c1_i32_109 : BitVec 32) : Fin 3 → Nat :=
  let c4_i32_108 : BitVec 32 := 4#32
  let c0_i32_80 : BitVec 32 := 0#32
  let c1_i32_82 : BitVec 32 := 1#32
  let arg19 : BitVec 32 := Scf.iv c0_i32_80 c1_i32_82 k0_t2
  let v212 : BitVec 32 := Scalar.muli c4_i32_108 arg19
  let v213 : BitVec 32 := Scalar.addi v212 c1_i32_109
  let c1_i32_142 : BitVec 32 := 1#32
  let v261 : BitVec 32 := Scalar.addi v213 c1_i32_142
  let v275 : Index := Scalar.indexCast v261
  let c0_150 : Index := 0#32
  let c0_151 : Index := 0#32
  ![v275.toNat, 0, 0]
def k0_mult8 (k0_t1 : Fin k0_t1_loop.trips) (k0_t2 : Fin (k0_t2_loop k0_t1).trips) : BitVec 32 :=
  let c4_i32_157 : BitVec 32 := 4#32
  let c0_i32_80 : BitVec 32 := 0#32
  let c1_i32_82 : BitVec 32 := 1#32
  let arg19 : BitVec 32 := Scf.iv c0_i32_80 c1_i32_82 k0_t2
  let v287 : BitVec 32 := Scalar.muli c4_i32_157 arg19
  let c3_i32 : BitVec 32 := 3#32
  let v288 : BitVec 32 := Scalar.addi v287 c3_i32
  let c1_i32_158 : BitVec 32 := 1#32
  let v289 : BitVec 32 := Scalar.addi v288 c1_i32_158
  let c512_i32_159 : BitVec 32 := 512#32
  let v290 : BitVec 32 := Scalar.muli v289 c512_i32_159
  v290
def k0_mult9 (k0_t1 : Fin k0_t1_loop.trips) (k0_t2 : Fin (k0_t2_loop k0_t1).trips) : BitVec 32 :=
  let c4_i32_157 : BitVec 32 := 4#32
  let c0_i32_80 : BitVec 32 := 0#32
  let c1_i32_82 : BitVec 32 := 1#32
  let arg19 : BitVec 32 := Scf.iv c0_i32_80 c1_i32_82 k0_t2
  let v287 : BitVec 32 := Scalar.muli c4_i32_157 arg19
  let c3_i32 : BitVec 32 := 3#32
  let v288 : BitVec 32 := Scalar.addi v287 c3_i32
  let c2_i32_181 : BitVec 32 := 2#32
  let v325 : BitVec 32 := Scalar.addi v288 c2_i32_181
  let c512_i32_182 : BitVec 32 := 512#32
  let v326 : BitVec 32 := Scalar.muli v325 c512_i32_182
  v326
@[reducible] def k0_t3_loop (k0_t1 : Fin k0_t1_loop.trips) : Scf.Loop 32 :=
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let v168 : BitVec 32 := Scalar.addi c0_i32_80 v167
  let c1_i32_83 : BitVec 32 := 1#32
  ⟨v171, v168, c1_i32_83⟩
def k0_mult10 (k0_t1 : Fin k0_t1_loop.trips) (k0_t3 : Fin (k0_t3_loop k0_t1).trips) : BitVec 32 :=
  let c4_i32_108 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v212 : BitVec 32 := Scalar.muli c4_i32_108 arg19
  let c1_i32_109 : BitVec 32 := 1#32
  let v213 : BitVec 32 := Scalar.addi v212 c1_i32_109
  let c1_i32_110 : BitVec 32 := 1#32
  let v214 : BitVec 32 := Scalar.addi v213 c1_i32_110
  let c512_i32_111 : BitVec 32 := 512#32
  let v215 : BitVec 32 := Scalar.muli v214 c512_i32_111
  v215
def k0_off6 (k0_t1 : Fin k0_t1_loop.trips) (k0_t3 : Fin (k0_t3_loop k0_t1).trips) (c1_i32_109 : BitVec 32) (c1_i32_110 : BitVec 32) : Fin 3 → Nat :=
  let c0_112 : Index := 0#32
  let c4_i32_108 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v212 : BitVec 32 := Scalar.muli c4_i32_108 arg19
  let v213 : BitVec 32 := Scalar.addi v212 c1_i32_109
  let v214 : BitVec 32 := Scalar.addi v213 c1_i32_110
  let c512_i32_111 : BitVec 32 := 512#32
  let v215 : BitVec 32 := Scalar.muli v214 c512_i32_111
  let v216 : BitVec 32 := v215
  let v217 : Index := Scalar.indexCast v216
  let c0_113 : Index := 0#32
  ![0, v217.toNat, 0]
def k0_off7 (k0_t1 : Fin k0_t1_loop.trips) (k0_t3 : Fin (k0_t3_loop k0_t1).trips) (c1_i32_109 : BitVec 32) : Fin 3 → Nat :=
  let c4_i32_108 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v212 : BitVec 32 := Scalar.muli c4_i32_108 arg19
  let v213 : BitVec 32 := Scalar.addi v212 c1_i32_109
  let v238 : Index := Scalar.indexCast v213
  let c0_126 : Index := 0#32
  let c0_127 : Index := 0#32
  ![v238.toNat, 0, 0]
def k0_mult11 (k0_t1 : Fin k0_t1_loop.trips) (k0_t3 : Fin (k0_t3_loop k0_t1).trips) : BitVec 32 :=
  let c4_i32_108 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v212 : BitVec 32 := Scalar.muli c4_i32_108 arg19
  let c1_i32_109 : BitVec 32 := 1#32
  let v213 : BitVec 32 := Scalar.addi v212 c1_i32_109
  let c2_i32_133 : BitVec 32 := 2#32
  let v250 : BitVec 32 := Scalar.addi v213 c2_i32_133
  let c512_i32_134 : BitVec 32 := 512#32
  let v251 : BitVec 32 := Scalar.muli v250 c512_i32_134
  v251
def k0_off8 (k0_t1 : Fin k0_t1_loop.trips) (k0_t3 : Fin (k0_t3_loop k0_t1).trips) (c1_i32_109 : BitVec 32) : Fin 3 → Nat :=
  let c4_i32_108 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v212 : BitVec 32 := Scalar.muli c4_i32_108 arg19
  let v213 : BitVec 32 := Scalar.addi v212 c1_i32_109
  let c1_i32_142 : BitVec 32 := 1#32
  let v261 : BitVec 32 := Scalar.addi v213 c1_i32_142
  let v275 : Index := Scalar.indexCast v261
  let c0_150 : Index := 0#32
  let c0_151 : Index := 0#32
  ![v275.toNat, 0, 0]
def k0_mult12 (k0_t1 : Fin k0_t1_loop.trips) (k0_t3 : Fin (k0_t3_loop k0_t1).trips) : BitVec 32 :=
  let c4_i32_157 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v287 : BitVec 32 := Scalar.muli c4_i32_157 arg19
  let c3_i32 : BitVec 32 := 3#32
  let v288 : BitVec 32 := Scalar.addi v287 c3_i32
  let c1_i32_158 : BitVec 32 := 1#32
  let v289 : BitVec 32 := Scalar.addi v288 c1_i32_158
  let c512_i32_159 : BitVec 32 := 512#32
  let v290 : BitVec 32 := Scalar.muli v289 c512_i32_159
  v290
def k0_mult13 (k0_t1 : Fin k0_t1_loop.trips) (k0_t3 : Fin (k0_t3_loop k0_t1).trips) : BitVec 32 :=
  let c4_i32_157 : BitVec 32 := 4#32
  let c0_i32_80 : BitVec 32 := 0#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v167 : BitVec 32 := Scalar.subi v166 c0_i32_80
  let c1_i32_81 : BitVec 32 := 1#32
  let v169 : BitVec 32 := Scalar.divsi v167 c1_i32_81
  let v170 : BitVec 32 := Scalar.muli v169 c1_i32_81
  let v171 : BitVec 32 := Scalar.addi c0_i32_80 v170
  let c1_i32_83 : BitVec 32 := 1#32
  let arg19 : BitVec 32 := Scf.iv v171 c1_i32_83 k0_t3
  let v287 : BitVec 32 := Scalar.muli c4_i32_157 arg19
  let c3_i32 : BitVec 32 := 3#32
  let v288 : BitVec 32 := Scalar.addi v287 c3_i32
  let c2_i32_181 : BitVec 32 := 2#32
  let v325 : BitVec 32 := Scalar.addi v288 c2_i32_181
  let c512_i32_182 : BitVec 32 := 512#32
  let v326 : BitVec 32 := Scalar.muli v325 c512_i32_182
  v326
def k0_cond3 (k0_t1 : Fin k0_t1_loop.trips) : BitVec 1 :=
  let c0_i32 : BitVec 32 := 0#32
  let c1_i32 : BitVec 32 := 1#32
  let arg18 : BitVec 32 := Scf.iv c0_i32 c1_i32 k0_t1
  let c1_i32_84 : BitVec 32 := 1#32
  let v172 : BitVec 32 := Scalar.subi arg18 c1_i32_84
  let c4_i32_85 : BitVec 32 := 4#32
  let c0_i32_86 : BitVec 32 := 0#32
  let v173 : BitVec 1 := Scalar.cmpi .eq c4_i32_85 c0_i32_86
  let c1_i32_87 : BitVec 32 := 1#32
  let v174 : BitVec 32 := Scalar.select v173 c1_i32_87 c4_i32_85
  let v175 : BitVec 32 := Scalar.remsi v172 v174
  let c0_i32_89 : BitVec 32 := 0#32
  let v177 : BitVec 1 := Scalar.cmpi .slt v175 c0_i32_89
  let c0_i32_90 : BitVec 32 := 0#32
  let v178 : BitVec 1 := Scalar.cmpi .slt v174 c0_i32_90
  let v179 : BitVec 1 := Scalar.xori v177 v178
  let c0_i32_88 : BitVec 32 := 0#32
  let v176 : BitVec 1 := Scalar.cmpi .ne v175 c0_i32_88
  let v180 : BitVec 1 := Scalar.andi v179 v176
  let v181 : BitVec 32 := Scalar.addi v175 v174
  let v182 : BitVec 32 := Scalar.select v180 v181 v175
  let c2_i32 : BitVec 32 := 2#32
  let v183 : BitVec 1 := Scalar.cmpi .sge v182 c2_i32
  let v184 : BitVec 32 := Scalar.extui v183
  let c0_i32_91 : BitVec 32 := 0#32
  let v185 : BitVec 1 := Scalar.cmpi .ne v184 c0_i32_91
  v185

def k0_mult14 (k0_t1 : Fin k0_t1_loop.trips) : BitVec 32 :=
  let c4_i32_108 : BitVec 32 := 4#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v212 : BitVec 32 := Scalar.muli c4_i32_108 v166
  let c1_i32_109 : BitVec 32 := 1#32
  let v213 : BitVec 32 := Scalar.addi v212 c1_i32_109
  let c1_i32_110 : BitVec 32 := 1#32
  let v214 : BitVec 32 := Scalar.addi v213 c1_i32_110
  let c512_i32_111 : BitVec 32 := 512#32
  let v215 : BitVec 32 := Scalar.muli v214 c512_i32_111
  v215
def k0_off9 (k0_t1 : Fin k0_t1_loop.trips) (c1_i32_110 : BitVec 32) : Fin 3 → Nat :=
  let c0_112 : Index := 0#32
  let c4_i32_108 : BitVec 32 := 4#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v212 : BitVec 32 := Scalar.muli c4_i32_108 v166
  let c1_i32_109 : BitVec 32 := 1#32
  let v213 : BitVec 32 := Scalar.addi v212 c1_i32_109
  let v214 : BitVec 32 := Scalar.addi v213 c1_i32_110
  let c512_i32_111 : BitVec 32 := 512#32
  let v215 : BitVec 32 := Scalar.muli v214 c512_i32_111
  let v216 : BitVec 32 := v215
  let v217 : Index := Scalar.indexCast v216
  let c0_113 : Index := 0#32
  ![0, v217.toNat, 0]
def k0_off10 (k0_t1 : Fin k0_t1_loop.trips) : Fin 3 → Nat :=
  let c4_i32_108 : BitVec 32 := 4#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v212 : BitVec 32 := Scalar.muli c4_i32_108 v166
  let c1_i32_109 : BitVec 32 := 1#32
  let v213 : BitVec 32 := Scalar.addi v212 c1_i32_109
  let v238 : Index := Scalar.indexCast v213
  let c0_126 : Index := 0#32
  let c0_127 : Index := 0#32
  ![v238.toNat, 0, 0]
def k0_mult15 (k0_t1 : Fin k0_t1_loop.trips) : BitVec 32 :=
  let c4_i32_108 : BitVec 32 := 4#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v212 : BitVec 32 := Scalar.muli c4_i32_108 v166
  let c1_i32_109 : BitVec 32 := 1#32
  let v213 : BitVec 32 := Scalar.addi v212 c1_i32_109
  let c2_i32_133 : BitVec 32 := 2#32
  let v250 : BitVec 32 := Scalar.addi v213 c2_i32_133
  let c512_i32_134 : BitVec 32 := 512#32
  let v251 : BitVec 32 := Scalar.muli v250 c512_i32_134
  v251
def k0_off11 (k0_t1 : Fin k0_t1_loop.trips) : Fin 3 → Nat :=
  let c4_i32_108 : BitVec 32 := 4#32
  let c0_i32 : BitVec 32 := 0#32
  let c1_i32 : BitVec 32 := 1#32
  let arg18 : BitVec 32 := Scf.iv c0_i32 c1_i32 k0_t1
  let c1_i32_72 : BitVec 32 := 1#32
  let v149 : BitVec 32 := Scalar.subi arg18 c1_i32_72
  let c0_i32_73 : BitVec 32 := 0#32
  let v151 : BitVec 1 := Scalar.cmpi .sgt v149 c0_i32_73
  let v152 : BitVec 32 := Scalar.extui v151
  let c0_i32_74 : BitVec 32 := 0#32
  let v153 : BitVec 1 := Scalar.cmpi .slt v149 c0_i32_74
  let v154 : BitVec 32 := Scalar.extui v153
  let v155 : BitVec 32 := Scalar.subi v152 v154
  let c4_i32 : BitVec 32 := 4#32
  let c0_i32_75 : BitVec 32 := 0#32
  let v156 : BitVec 1 := Scalar.cmpi .sgt c4_i32 c0_i32_75
  let v157 : BitVec 32 := Scalar.extui v156
  let c0_i32_76 : BitVec 32 := 0#32
  let v158 : BitVec 1 := Scalar.cmpi .slt c4_i32 c0_i32_76
  let v159 : BitVec 32 := Scalar.extui v158
  let v160 : BitVec 32 := Scalar.subi v157 v159
  let v161 : BitVec 1 := Scalar.cmpi .ne v155 v160
  let v162 : BitVec 32 := Scalar.remsi v149 c4_i32
  let c0_i32_77 : BitVec 32 := 0#32
  let v163 : BitVec 1 := Scalar.cmpi .ne v162 c0_i32_77
  let v164 : BitVec 1 := Scalar.andi v161 v163
  let v150 : BitVec 32 := Scalar.divsi v149 c4_i32
  let c1_i32_78 : BitVec 32 := 1#32
  let v165 : BitVec 32 := Scalar.subi v150 c1_i32_78
  let v166 : BitVec 32 := Scalar.select v164 v165 v150
  let v212 : BitVec 32 := Scalar.muli c4_i32_108 v166
  let c1_i32_109 : BitVec 32 := 1#32
  let v213 : BitVec 32 := Scalar.addi v212 c1_i32_109
  let c1_i32_142 : BitVec 32 := 1#32
  let v261 : BitVec 32 := Scalar.addi v213 c1_i32_142
  let v275 : Index := Scalar.indexCast v261
  let c0_150 : Index := 0#32
  let c0_151 : Index := 0#32
  ![v275.toNat, 0, 0]
def k0_cond4 (k0_t1 : Fin k0_t1_loop.trips) : BitVec 1 :=
  let c0_i32 : BitVec 32 := 0#32
  let c1_i32 : BitVec 32 := 1#32
  let arg18 : BitVec 32 := Scf.iv c0_i32 c1_i32 k0_t1
  let c2_i32_92 : BitVec 32 := 2#32
  let c0_i32_93 : BitVec 32 := 0#32
  let v186 : BitVec 1 := Scalar.cmpi .eq c2_i32_92 c0_i32_93
  let c1_i32_94 : BitVec 32 := 1#32
  let v187 : BitVec 32 := Scalar.select v186 c1_i32_94 c2_i32_92
  let v188 : BitVec 32 := Scalar.remsi arg18 v187
  let c0_i32_96 : BitVec 32 := 0#32
  let v190 : BitVec 1 := Scalar.cmpi .slt v188 c0_i32_96
  let c0_i32_97 : BitVec 32 := 0#32
  let v191 : BitVec 1 := Scalar.cmpi .slt v187 c0_i32_97
  let v192 : BitVec 1 := Scalar.xori v190 v191
  let c0_i32_95 : BitVec 32 := 0#32
  let v189 : BitVec 1 := Scalar.cmpi .ne v188 c0_i32_95
  let v193 : BitVec 1 := Scalar.andi v192 v189
  let v194 : BitVec 32 := Scalar.addi v188 v187
  let v195 : BitVec 32 := Scalar.select v193 v194 v188
  let c1_i32_98 : BitVec 32 := 1#32
  let v196 : BitVec 1 := Scalar.cmpi .eq v195 c1_i32_98
  let v197 : BitVec 32 := Scalar.extui v196
  let c0_i32_99 : BitVec 32 := 0#32
  let v198 : BitVec 1 := Scalar.cmpi .ne v197 c0_i32_99
  v198

def k0_mult16 : BitVec 32 :=
  let c0_i32_108 : BitVec 32 := 0#32
  c0_i32_108
def k0_off12 (k0_t1 : Fin k0_t1_loop.trips) : Fin 3 → Nat :=
  let c0_i32 : BitVec 32 := 0#32
  let c1_i32 : BitVec 32 := 1#32
  let arg18 : BitVec 32 := Scf.iv c0_i32 c1_i32 k0_t1
  let v250 : Index := Scalar.indexCast arg18
  let c0_128 : Index := 0#32
  let c0_129 : Index := 0#32
  ![v250.toNat, 0, 0]
def k0_cond5 (k0_t1 : Fin k0_t1_loop.trips) : BitVec 1 :=
  let c0_i32 : BitVec 32 := 0#32
  let c1_i32 : BitVec 32 := 1#32
  let arg18 : BitVec 32 := Scf.iv c0_i32 c1_i32 k0_t1
  let c2_i32_100 : BitVec 32 := 2#32
  let c0_i32_101 : BitVec 32 := 0#32
  let v199 : BitVec 1 := Scalar.cmpi .eq c2_i32_100 c0_i32_101
  let c1_i32_102 : BitVec 32 := 1#32
  let v200 : BitVec 32 := Scalar.select v199 c1_i32_102 c2_i32_100
  let v201 : BitVec 32 := Scalar.remsi arg18 v200
  let c0_i32_104 : BitVec 32 := 0#32
  let v203 : BitVec 1 := Scalar.cmpi .slt v201 c0_i32_104
  let c0_i32_105 : BitVec 32 := 0#32
  let v204 : BitVec 1 := Scalar.cmpi .slt v200 c0_i32_105
  let v205 : BitVec 1 := Scalar.xori v203 v204
  let c0_i32_103 : BitVec 32 := 0#32
  let v202 : BitVec 1 := Scalar.cmpi .ne v201 c0_i32_103
  let v206 : BitVec 1 := Scalar.andi v205 v202
  let v207 : BitVec 32 := Scalar.addi v201 v200
  let v208 : BitVec 32 := Scalar.select v206 v207 v201
  let c0_i32_106 : BitVec 32 := 0#32
  let v209 : BitVec 1 := Scalar.cmpi .eq v208 c0_i32_106
  let v210 : BitVec 32 := Scalar.extui v209
  let c0_i32_107 : BitVec 32 := 0#32
  let v211 : BitVec 1 := Scalar.cmpi .ne v210 c0_i32_107
  v211

def k0_mult17 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_108 : BitVec 32 := 512#32
  let v212 : BitVec 32 := Scalar.muli arg18 c512_i32_108
  v212
def k0_off13 (k0_t1 : Fin k0_t1_loop.trips) : Fin 3 → Nat :=
  let c0_109 : Index := 0#32
  let c0_i32 : BitVec 32 := 0#32
  let c1_i32 : BitVec 32 := 1#32
  let arg18 : BitVec 32 := Scf.iv c0_i32 c1_i32 k0_t1
  let c512_i32_108 : BitVec 32 := 512#32
  let v212 : BitVec 32 := Scalar.muli arg18 c512_i32_108
  let v213 : BitVec 32 := v212
  let v214 : Index := Scalar.indexCast v213
  let c0_110 : Index := 0#32
  ![0, v214.toNat, 0]
def k0_off14 (k0_t1 : Fin k0_t1_loop.trips) : Fin 3 → Nat :=
  let c0_i32 : BitVec 32 := 0#32
  let c1_i32 : BitVec 32 := 1#32
  let arg18 : BitVec 32 := Scf.iv c0_i32 c1_i32 k0_t1
  let c1_i32_116 : BitVec 32 := 1#32
  let v222 : BitVec 32 := Scalar.subi arg18 c1_i32_116
  let v236 : Index := Scalar.indexCast v222
  let c0_124 : Index := 0#32
  let c0_125 : Index := 0#32
  ![v236.toNat, 0, 0]
def k0_mult18 : BitVec 32 :=
  let c0_i32_131 : BitVec 32 := 0#32
  c0_i32_131
def k0_off15 (k0_t1 : Fin k0_t1_loop.trips) : Fin 3 → Nat :=
  let c0_i32 : BitVec 32 := 0#32
  let c1_i32 : BitVec 32 := 1#32
  let arg18 : BitVec 32 := Scf.iv c0_i32 c1_i32 k0_t1
  let v286 : Index := Scalar.indexCast arg18
  let c0_151 : Index := 0#32
  let c0_152 : Index := 0#32
  ![v286.toNat, 0, 0]
def k0_mult19 (k0_t1 : Fin k0_t1_loop.trips) : BitVec 32 :=
  let c0_i32 : BitVec 32 := 0#32
  let c1_i32 : BitVec 32 := 1#32
  let arg18 : BitVec 32 := Scf.iv c0_i32 c1_i32 k0_t1
  let c512_i32_46 : BitVec 32 := 512#32
  let v110 : BitVec 32 := Scalar.muli arg18 c512_i32_46
  v110
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4x8192x8192 : Shape := ⟨3, ![4, 8192, 8192]⟩
abbrev S1x64 : Shape := ⟨2, ![1, 64]⟩
abbrev S1x128 : Shape := ⟨2, ![1, 128]⟩
abbrev S4x8192x1024 : Shape := ⟨3, ![4, 8192, 1024]⟩
abbrev S4x8192x8x2x64 : Shape := ⟨5, ![4, 8192, 8, 2, 64]⟩
abbrev S4x8192x8x128 : Shape := ⟨4, ![4, 8192, 8, 128]⟩
abbrev S64 : Shape := ⟨1, ![64]⟩
abbrev S_ : Shape := ⟨0, ![]⟩
abbrev S4x8x2x8192x8192 : Shape := ⟨5, ![4, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x8192, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x8x2x64, .f32⟩
  | .hbm, ⟨10, _⟩ => ⟨S4x8192x8x2x64, .f32⟩
  | .hbm, ⟨11, _⟩ => ⟨S4x8192x8x128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x8x2x8192x8192, .f32⟩
  | .hbm, ⟨28, _⟩ => ⟨S_, .f32⟩
  | .hbm, ⟨29, _⟩ => ⟨S4x8x2x8192x8192, .f32⟩
  | .hbm, ⟨30, _⟩ => ⟨S4x8x2x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S4x8x2x8192x8192, .i1⟩
  | .hbm, ⟨40, _⟩ => ⟨S4x8x2x8192x8192, .f32⟩
  | .hbm, ⟨41, _⟩ => ⟨S4x8x2x8192x8192, .f32⟩
  | .hbm, ⟨42, _⟩ => ⟨S_, .f32⟩
  | .hbm, ⟨43, _⟩ => ⟨S4x8x2x8192, .f32⟩
  | .hbm, ⟨44, _⟩ => ⟨S_, .f32⟩
  | .hbm, ⟨45, _⟩ => ⟨S4x8x2x8192, .f32⟩
  | .hbm, ⟨46, _⟩ => ⟨S4x8x2x8192, .f32⟩
  | .hbm, ⟨47, _⟩ => ⟨S4x8x2x8192x1, .f32⟩
  | .hbm, ⟨48, _⟩ => ⟨S4x8x2x8192x8192, .f32⟩
  | .hbm, ⟨49, _⟩ => ⟨S4x8x2x8192x8192, .f32⟩
  | .hbm, ⟨50, _⟩ => ⟨S4x8x2x8192x8192, .f32⟩
  | .hbm, ⟨51, _⟩ => ⟨S_, .f32⟩
  | .hbm, ⟨52, _⟩ => ⟨S4x8x2x8192, .f32⟩
  | .hbm, ⟨53, _⟩ => ⟨S4x8x2x8192x1, .f32⟩
  | .hbm, ⟨54, _⟩ => ⟨S4x8x2x8192x8192, .f32⟩
  | .hbm, ⟨55, _⟩ => ⟨S4x8x2x8192x8192, .f32⟩
  | .hbm, ⟨56, _⟩ => ⟨S4x8x1x8192x8192, .f32⟩
  | .hbm, ⟨57, _⟩ => ⟨S4x8x8192x8192, .f32⟩
  | .hbm, ⟨58, _⟩ => ⟨S4x8x1x8192x8192, .f32⟩
  | .hbm, ⟨59, _⟩ => ⟨S4x8x8192x8192, .f32⟩
  | .hbm, ⟨60, _⟩ => ⟨S4x8x8192x8192, .f32⟩
  | .hbm, ⟨61, _⟩ => ⟨S4x8x8192x8192, .f32⟩
  | .hbm, ⟨62, _⟩ => ⟨S4x8x8192x8192, .f32⟩
  | .hbm, ⟨63, _⟩ => ⟨S4x8x128x8192, .f32⟩
  | .hbm, ⟨64, _⟩ => ⟨S4x8192x8x128, .f32⟩
  | .hbm, ⟨65, _⟩ => ⟨S4x8192x8x128, .f32⟩
  | .hbm, ⟨66, _⟩ => ⟨S_, .f32⟩
  | .hbm, ⟨67, _⟩ => ⟨S4x8192x8, .f32⟩
  | .hbm, ⟨68, _⟩ => ⟨S4x8192x8x1, .f32⟩
  | .hbm, ⟨69, _⟩ => ⟨S_, .f32⟩
  | .hbm, ⟨70, _⟩ => ⟨S4x8192x8x1, .f32⟩
  | .hbm, ⟨71, _⟩ => ⟨S4x8192x8x1, .f32⟩
  | .hbm, ⟨72, _⟩ => ⟨S_, .f32⟩
  | .hbm, ⟨73, _⟩ => ⟨S4x8192x8x1, .f32⟩
  | .hbm, ⟨74, _⟩ => ⟨S4x8192x8x1, .f32⟩
  | .hbm, ⟨75, _⟩ => ⟨S4x8192x8x1, .f32⟩
  | .hbm, ⟨76, _⟩ => ⟨S4x8192x8x128, .f32⟩
  | .hbm, ⟨77, _⟩ => ⟨S4x8192x8x128, .f32⟩
  | .hbm, ⟨78, _⟩ => ⟨S128, .f32⟩
  | .hbm, ⟨79, _⟩ => ⟨S1x1x1x128, .f32⟩
  | .hbm, ⟨80, _⟩ => ⟨S4x8192x8x128, .f32⟩
  | .hbm, ⟨81, _⟩ => ⟨S4x8192x8x128, .f32⟩
  | .hbm, ⟨82, _⟩ => ⟨S_, .f32⟩
  | .hbm, ⟨83, _⟩ => ⟨S4x8192x8x128, .f32⟩
  | .hbm, ⟨84, _⟩ => ⟨S4x8192x8x128, .f32⟩
  | .hbm, ⟨85, _⟩ => ⟨S4x8192x1024, .f32⟩
  | .hbm, ⟨86, _⟩ => ⟨S4x8192x1024, .bf16⟩
  | _, _ => ⟨S4x8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Merge.lean ====
abbrev S4x8192x2048 : Shape := ⟨3, ![4, 8192, 2048]⟩
abbrev S4x8192x1024 : Shape := ⟨3, ![4, 8192, 1024]⟩
abbrev S4x8192x8192 : Shape := ⟨3, ![4, 8192, 8192]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S4x8192x4096 : Shape := ⟨3, ![4, 8192, 4096]⟩
abbrev S4x8192x6144 : Shape := ⟨3, ![4, 8192, 6144]⟩
abbrev S32768x2048 : Shape := ⟨2, ![32768, 2048]⟩
abbrev S32768x1024 : Shape := ⟨2, ![32768, 1024]⟩
abbrev S32768x6144 : Shape := ⟨2, ![32768, 6144]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 37
  | .vmem => 21
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .f32⟩
  | .hbm, ⟨2, _⟩ => ⟨S4x8192x1024, .f32⟩
  | .hbm, ⟨3, _⟩ => ⟨S4x8192x8192, .f32⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S4x8192x1024, .f32⟩
  | .hbm, ⟨12, _⟩ => ⟨S4x8192x1024, .f32⟩
  | .hbm, ⟨13, _⟩ => ⟨S4x8192x4096, .f32⟩
  | .hbm, ⟨14, _⟩ => ⟨S4x8192x6144, .f32⟩
  | .hbm, ⟨15, _⟩ => ⟨S4x8192x6144, .bf16⟩
  | .hbm, ⟨16, _⟩ => ⟨S32768x2048, .f32⟩
  | .hbm, ⟨17, _⟩ => ⟨S4x8192x1024, .bf16⟩
  | .hbm, ⟨18, _⟩ => ⟨S32768x1024, .bf16⟩
  | .hbm, ⟨19, _⟩ => ⟨S32768x1024, .f32⟩
  | .hbm, ⟨20, _⟩ => ⟨S32768x6144, .bf16⟩
  | .hbm, ⟨21, _⟩ => ⟨S1024x1024, .f32⟩
  | .hbm, ⟨22, _⟩ => ⟨S1024x1024, .bf16⟩
  | .hbm, ⟨23, _⟩ => ⟨S1024, .f32⟩
  | .hbm, ⟨24, _⟩ => ⟨S1x1024, .f32⟩
  | .hbm, ⟨25, _⟩ => ⟨S1024x2048, .f32⟩
  | .hbm, ⟨26, _⟩ => ⟨S1024x2048, .bf16⟩
  | .hbm, ⟨27, _⟩ => ⟨S1024x2048, .f32⟩
  | .hbm, ⟨28, _⟩ => ⟨S1024x2048, .bf16⟩
  | .hbm, ⟨29, _⟩ => ⟨S2048x2048, .f32⟩
  | .hbm, ⟨30, _⟩ => ⟨S2048x2048, .bf16⟩
  | .hbm, ⟨31, _⟩ => ⟨S2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S32768x2048, .f32⟩
  | .hbm, ⟨36, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S4x8192x2048 : Shape := ⟨3, ![4, 8192, 2048]⟩
abbrev S4x8192x1024 : Shape := ⟨3, ![4, 8192, 1024]⟩
abbrev S4x8192x8192 : Shape := ⟨3, ![4, 8192, 8192]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x2048x2048 : Shape := ⟨3, ![1, 2048, 2048]⟩
abbrev S1x2048 : Shape := ⟨2, ![1, 2048]⟩
abbrev S_ : Shape := ⟨0, ![]⟩
abbrev S1024x1024 : Shape := ⟨2, ![1024, 1024]⟩
abbrev S1024 : Shape := ⟨1, ![1024]⟩
abbrev S1x1x1024 : Shape := ⟨3, ![1, 1, 1024]⟩
abbrev S1024x2048 : Shape := ⟨2, ![1024, 2048]⟩
abbrev S2048x2048 : Shape := ⟨2, ![2048, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x1024, .f32⟩
  | .hbm, ⟨2, _⟩ => ⟨S4x8192x1024, .f32⟩
  | .hbm, ⟨3, _⟩ => ⟨S4x8192x8192, .f32⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1x2048, .f32⟩
  | .hbm, ⟨10, _⟩ => ⟨S1x2048, .f32⟩
  | .hbm, ⟨11, _⟩ => ⟨S4x8192x2048, .f32⟩
  | .hbm, ⟨12, _⟩ => ⟨S4x8192x2048, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S1024x1024, .f32⟩
  | .hbm, ⟨31, _⟩ => ⟨S4x8192x1024, .f32⟩
  | .hbm, ⟨32, _⟩ => ⟨S1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x2048, .f32⟩
  | .hbm, ⟨46, _⟩ => ⟨S4x8192x2048, .f32⟩
  | .hbm, ⟨47, _⟩ => ⟨S_, .f32⟩
  | .hbm, ⟨48, _⟩ => ⟨S4x8192x2048, .f32⟩
  | .hbm, ⟨49, _⟩ => ⟨S4x8192x2048, .f32⟩
  | .hbm, ⟨50, _⟩ => ⟨S_, .f32⟩
  | .hbm, ⟨51, _⟩ => ⟨S4x8192x2048, .f32⟩
  | .hbm, ⟨52, _⟩ => ⟨S4x8192x2048, .f32⟩
  | .hbm, ⟨53, _⟩ => ⟨S1024x2048, .f32⟩
  | .hbm, ⟨54, _⟩ => ⟨S4x8192x2048, .f32⟩
  | .hbm, ⟨55, _⟩ => ⟨S4x8192x2048, .f32⟩
  | .hbm, ⟨56, _⟩ => ⟨S4x8192x2048, .f32⟩
  | .hbm, ⟨57, _⟩ => ⟨S4x8192x2048, .f32⟩
  | .hbm, ⟨58, _⟩ => ⟨S_, .f32⟩
  | .hbm, ⟨59, _⟩ => ⟨S4x8192x2048, .f32⟩
  | .hbm, ⟨60, _⟩ => ⟨S4x8192x2048, .f32⟩
  | .hbm, ⟨61, _⟩ => ⟨S_, .f32⟩
  | .hbm, ⟨62, _⟩ => ⟨S4x8192x2048, .f32⟩
  | .hbm, ⟨63, _⟩ => ⟨S4x8192x2048, .f32⟩
  | .hbm, ⟨64, _⟩ => ⟨S1024x2048, .f32⟩
  | .hbm, ⟨65, _⟩ => ⟨S4x8192x2048, .f32⟩
  | .hbm, ⟨66, _⟩ => ⟨S4x8192x2048, .f32⟩
  | .hbm, ⟨67, _⟩ => ⟨S4x8192x2048, .f32⟩
  | .hbm, ⟨68, _⟩ => ⟨S2048x2048, .f32⟩
  | .hbm, ⟨69, _⟩ => ⟨S4x8192x2048, .f32⟩
  | .hbm, ⟨70, _⟩ => ⟨S2048, .f32⟩
  | .hbm, ⟨71, _⟩ => ⟨S4x8192x2048, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S_, .f32⟩
  | .hbm, ⟨79, _⟩ => ⟨S4x8192x1, .f32⟩
  | .hbm, ⟨80, _⟩ => ⟨S4x8192x1, .f32⟩
  | .hbm, ⟨81, _⟩ => ⟨S4x8192x1, .f32⟩
  | .hbm, ⟨82, _⟩ => ⟨S4x8192x2048, .f32⟩
  | .hbm, ⟨83, _⟩ => ⟨S4x8192x2048, .f32⟩
  | .hbm, ⟨84, _⟩ => ⟨S1x1x2048, .f32⟩
  | .hbm, ⟨85, _⟩ => ⟨S4x8192x2048, .f32⟩
  | .hbm, ⟨86, _⟩ => ⟨S4x8192x2048, .f32⟩
  | .hbm, ⟨87, _⟩ => ⟨S4x8192x2048, .f32⟩
  | .hbm, ⟨88, _⟩ => ⟨S2048, .f32⟩
  | .hbm, ⟨89, _⟩ => ⟨S4x8192x2048, .f32⟩
  | .hbm, ⟨90, _⟩ => ⟨S_, .f32⟩
  | .hbm, ⟨91, _⟩ => ⟨S4x8192, .f32⟩
  | .hbm, ⟨92, _⟩ => ⟨S4x8192x1, .f32⟩
  | .hbm, ⟨93, _⟩ => ⟨S_, .f32⟩
  | .hbm, ⟨94, _⟩ => ⟨S4x8192x1, .f32⟩
  | .hbm, ⟨95, _⟩ => ⟨S4x8192x1, .f32⟩
  | .hbm, ⟨96, _⟩ => ⟨S_, .f32⟩
  | .hbm, ⟨97, _⟩ => ⟨S4x8192x1, .f32⟩
  | .hbm, ⟨98, _⟩ => ⟨S4x8192x1, .f32⟩
  | .hbm, ⟨99, _⟩ => ⟨S4x8192x1, .f32⟩
  | .hbm, ⟨100, _⟩ => ⟨S4x8192x2048, .f32⟩
  | .hbm, ⟨101, _⟩ => ⟨S4x8192x2048, .f32⟩
  | .hbm, ⟨102, _⟩ => ⟨S1x1x2048, .f32⟩
  | .hbm, ⟨103, _⟩ => ⟨S4x8192x2048, .f32⟩
  | .hbm, ⟨104, _⟩ => ⟨S4x8192x2048, .f32⟩
  | .hbm, ⟨105, _⟩ => ⟨S32768x2048, .f32⟩
  | .hbm, ⟨106, _⟩ => ⟨S32768x2048, .f32⟩
  | .hbm, ⟨107, _⟩ => ⟨S32768x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_cst_13 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Ffn.lean ====
abbrev S4x8192x2048 : Shape := ⟨3, ![4, 8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S32768x5632 : Shape := ⟨2, ![32768, 5632]⟩
abbrev S1024x2048 : Shape := ⟨2, ![1024, 2048]⟩
abbrev S2048x512 : Shape := ⟨2, ![2048, 512]⟩
abbrev S1024x512 : Shape := ⟨2, ![1024, 512]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S4x8192x2048, .bf16⟩
  | .hbm, ⟨7, _⟩ => ⟨S32768x2048, .bf16⟩
  | .hbm, ⟨8, _⟩ => ⟨S32768x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S2048, .f32⟩
  | .hbm, ⟨16, _⟩ => ⟨S1x2048, .f32⟩
  | .hbm, ⟨17, _⟩ => ⟨S32768x5632, .bf16⟩
  | .hbm, ⟨18, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S256x5632, .bf16⟩
  | .local _ .vmem, ⟨9, _⟩ => ⟨S256x5632, .bf16⟩
  | .local _ .vmem, ⟨10, _⟩ => ⟨S256x2048, .f32⟩
  | .local _ .vmem, ⟨11, _⟩ => ⟨S256x2048, .f32⟩
  | .local _ .vmem, ⟨12, _⟩ => ⟨S5632x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5632x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== FfnRefIdeal.lean ====
abbrev S4x8192x2048 : Shape := ⟨3, ![4, 8192, 2048]⟩
abbrev S1x2048x5632 : Shape := ⟨3, ![1, 2048, 5632]⟩
abbrev S1x5632x2048 : Shape := ⟨3, ![1, 5632, 2048]⟩
abbrev S1x2048 : Shape := ⟨2, ![1, 2048]⟩
abbrev S2048x5632 : Shape := ⟨2, ![2048, 5632]⟩
abbrev S4x8192x5632 : Shape := ⟨3, ![4, 8192, 5632]⟩
abbrev S_ : Shape := ⟨0, ![]⟩
abbrev S5632x2048 : Shape := ⟨2, ![5632, 2048]⟩
abbrev S2048 : Shape := ⟨1, ![2048]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S4x8192x5632, .f32⟩
  | .hbm, ⟨8, _⟩ => ⟨S4x8192x5632, .f32⟩
  | .hbm, ⟨9, _⟩ => ⟨S4x8192x5632, .f32⟩
  | .hbm, ⟨10, _⟩ => ⟨S_, .f32⟩
  | .hbm, ⟨11, _⟩ => ⟨S4x8192x5632, .f32⟩
  | .hbm, ⟨12, _⟩ => ⟨S4x8192x5632, .f32⟩
  | .hbm, ⟨13, _⟩ => ⟨S_, .f32⟩
  | .hbm, ⟨14, _⟩ => ⟨S4x8192x5632, .f32⟩
  | .hbm, ⟨15, _⟩ => ⟨S4x8192x5632, .f32⟩
  | .hbm, ⟨16, _⟩ => ⟨S4x8192x5632, .f32⟩
  | .hbm, ⟨17, _⟩ => ⟨S2048x5632, .f32⟩
  | .hbm, ⟨18, _⟩ => ⟨S4x8192x5632, .f32⟩
  | .hbm, ⟨19, _⟩ => ⟨S4x8192x5632, .f32⟩
  | .hbm, ⟨20, _⟩ => ⟨S5632x2048, .f32⟩
  | .hbm, ⟨21, _⟩ => ⟨S4x8192x2048, .f32⟩
  | .hbm, ⟨22, _⟩ => ⟨S2048, .f32⟩
  | .hbm, ⟨23, _⟩ => ⟨S4x8192x2048, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x2048, .f32⟩
  | .hbm, ⟨35, _⟩ => ⟨S4x8192x2048, .f32⟩
  | .hbm, ⟨36, _⟩ => ⟨S1x1x2048, .f32⟩
  | .hbm, ⟨37, _⟩ => ⟨S4x8192x2048, .f32⟩
  | .hbm, ⟨38, _⟩ => ⟨S4x8192x2048, .f32⟩
  | .hbm, ⟨39, _⟩ => ⟨S4x8192x2048, .f32⟩
  | .hbm, ⟨40, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== In.lean ====
abbrev S4x8192x2048 : Shape := ⟨3, ![4, 8192, 2048]⟩
abbrev S1x2048x8192 : Shape := ⟨3, ![1, 2048, 8192]⟩
abbrev S1x2048 : Shape := ⟨2, ![1, 2048]⟩
abbrev S2048x8192 : Shape := ⟨2, ![2048, 8192]⟩
abbrev S2048x1024 : Shape := ⟨2, ![2048, 1024]⟩
abbrev S2048x2048 : Shape := ⟨2, ![2048, 2048]⟩
abbrev S2048x6144 : Shape := ⟨2, ![2048, 6144]⟩
abbrev S32768x2048 : Shape := ⟨2, ![32768, 2048]⟩
abbrev S2048 : Shape := ⟨1, ![2048]⟩
abbrev S1024x2048 : Shape := ⟨2, ![1024, 2048]⟩
abbrev S32768x6144 : Shape := ⟨2, ![32768, 6144]⟩
abbrev S64x1152x512 : Shape := ⟨3, ![64, 1152, 512]⟩
abbrev S8x4096x1024 : Shape := ⟨3, ![8, 4096, 1024]⟩
abbrev S512x2048 : Shape := ⟨2, ![512, 2048]⟩
abbrev S1x1152x512 : Shape := ⟨3, ![1, 1152, 512]⟩
abbrev S8x64x1024 : Shape := ⟨3, ![8, 64, 1024]⟩
abbrev S8x512x128 : Shape := ⟨3, ![8, 512, 128]⟩
abbrev S512 : Shape := ⟨1, ![512]⟩
abbrev S512x1 : Shape := ⟨2, ![512, 1]⟩
abbrev S1024x512 : Shape := ⟨2, ![1024, 512]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩
abbrev S512x1024 : Shape := ⟨2, ![512, 1024]⟩
abbrev S512x128 : Shape := ⟨2, ![512, 128]⟩
abbrev S1x512x128 : Shape := ⟨3, ![1, 512, 128]⟩
abbrev S64x128 : Shape := ⟨2, ![64, 128]⟩
abbrev S1x64x128 : Shape := ⟨3, ![1, 64, 128]⟩

abbrev nBuf : Space → Nat
  | .hbm => 21
  | .vmem => 15
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8192, .f32⟩
  | .hbm, ⟨2, _⟩ => ⟨S1x2048, .f32⟩
  | .hbm, ⟨3, _⟩ => ⟨S2048x8192, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x2048, .f32⟩
  | .hbm, ⟨9, _⟩ => ⟨S2048x2048, .f32⟩
  | .hbm, ⟨10, _⟩ => ⟨S2048x6144, .f32⟩
  | .hbm, ⟨11, _⟩ => ⟨S2048x6144, .bf16⟩
  | .hbm, ⟨12, _⟩ => ⟨S32768x2048, .f32⟩
  | .hbm, ⟨13, _⟩ => ⟨S2048, .f32⟩
  | .hbm, ⟨14, _⟩ => ⟨S1x2048, .f32⟩
  | .hbm, ⟨15, _⟩ => ⟨S1024x2048, .f32⟩
  | .hbm, ⟨16, _⟩ => ⟨S1024x2048, .bf16⟩
  | .hbm, ⟨17, _⟩ => ⟨S2048x1024, .bf16⟩
  | .hbm, ⟨18, _⟩ => ⟨S32768x6144, .bf16⟩
  | .hbm, ⟨19, _⟩ => ⟨S64x1152x512, .bf16⟩
  | .hbm, ⟨20, _⟩ => ⟨S8x4096x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S2048x1024, .bf16⟩
  | .local _ .vmem, ⟨7, _⟩ => ⟨S512x2048, .bf16⟩
  | .local _ .vmem, ⟨8, _⟩ => ⟨S512x2048, .bf16⟩
  | .local _ .vmem, ⟨9, _⟩ => ⟨S1x1152x512, .bf16⟩
  | .local _ .vmem, ⟨10, _⟩ => ⟨S1x1152x512, .bf16⟩
  | .local _ .vmem, ⟨11, _⟩ => ⟨S8x64x1024, .bf16⟩
  | .local _ .vmem, ⟨12, _⟩ => ⟨S8x64x1024, .bf16⟩
  | .local _ .vmem, ⟨13, _⟩ => ⟨S512x2048, .bf16⟩
  | .local _ .vmem, ⟨14, _⟩ => ⟨S8x512x128, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15_0 : Ref sig .tc := ⟨.hbm, 18, rfl⟩
abbrev main_v15_1 : Ref sig .tc := ⟨.hbm, 19, rfl⟩
abbrev main_v15_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![64, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1152x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InRefIdeal.lean ====
abbrev S4x8192x2048 : Shape := ⟨3, ![4, 8192, 2048]⟩
abbrev S1x2048x8192 : Shape := ⟨3, ![1, 2048, 8192]⟩
abbrev S1x2048 : Shape := ⟨2, ![1, 2048]⟩
abbrev S2048 : Shape := ⟨1, ![2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S2048x8192 : Shape := ⟨2, ![2048, 8192]⟩
abbrev S4x8192x8192 : Shape := ⟨3, ![4, 8192, 8192]⟩
abbrev S4x8192x1024 : Shape := ⟨3, ![4, 8192, 1024]⟩
abbrev S4x8192x6144 : Shape := ⟨3, ![4, 8192, 6144]⟩
abbrev S32768x6144 : Shape := ⟨2, ![32768, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S1x2048x8192, .f32⟩
  | .hbm, ⟨2, _⟩ => ⟨S1x2048, .f32⟩
  | .hbm, ⟨3, _⟩ => ⟨S2048, .f32⟩
  | .hbm, ⟨4, _⟩ => ⟨S4x8192x2048, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x2048, .f32⟩
  | .hbm, ⟨16, _⟩ => ⟨S4x8192x2048, .f32⟩
  | .hbm, ⟨17, _⟩ => ⟨S1x1x2048, .f32⟩
  | .hbm, ⟨18, _⟩ => ⟨S4x8192x2048, .f32⟩
  | .hbm, ⟨19, _⟩ => ⟨S4x8192x2048, .f32⟩
  | .hbm, ⟨20, _⟩ => ⟨S2048x8192, .f32⟩
  | .hbm, ⟨21, _⟩ => ⟨S4x8192x8192, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x2048, .f32⟩
  | .hbm, ⟨27, _⟩ => ⟨S4x8192x2048, .f32⟩
  | .hbm, ⟨28, _⟩ => ⟨S4x8192x6144, .f32⟩
  | .hbm, ⟨29, _⟩ => ⟨S32768x6144, .f32⟩
  | .hbm, ⟨30, _⟩ => ⟨S32768x6144, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Off.lean ====
module

public import proofs.«01_k».proof.Proof.Gen.AttnIdeal.Skeleton

@[expose] public section

set_option maxRecDepth 16384

namespace Cert.AttnIdeal.Hand

open Cert.AttnIdeal Cert.AttnIdeal.Gen
open Idealize.ShloMosaic

theorem trips1 : k0_t1_loop.trips = 16 := by decide +kernel
theorem trips2 : ∀ k : Fin k0_t1_loop.trips, (k0_t2_loop k).trips = (k.val - 1) / 4 := by decide +kernel
theorem trips3 : ∀ k : Fin k0_t1_loop.trips, (k0_t3_loop k).trips = 0 := by decide +kernel
theorem cond1 : ∀ k : Fin k0_t1_loop.trips, k0_cond1 k = 1#1 ↔ k.val = 0 := by decide +kernel
theorem cond2 : ∀ k : Fin k0_t1_loop.trips, k0_cond2 k = 1#1 ↔ k.val ≠ 0 := by decide +kernel
theorem cond3 : ∀ k : Fin k0_t1_loop.trips, k0_cond2 k = 1#1 → (k0_cond3 k = 1#1 ↔ 2 ≤ (k.val - 1) % 4) := by decide +kernel
theorem cond4 : ∀ k : Fin k0_t1_loop.trips, k0_cond4 k = 1#1 ↔ k.val % 2 = 1 := by decide +kernel
theorem cond5 : ∀ k : Fin k0_t1_loop.trips, k0_cond5 k = 1#1 ↔ k.val % 2 = 0 := by decide +kernel
theorem off1 : ∀ k : Fin k0_t1_loop.trips, k0_off1 k = ![0, 512 * k.val, 0] := by decide +kernel
theorem off2 : ∀ k : Fin k0_t1_loop.trips, k0_off2 k = ![0, 512 * min (k.val + 1) 15, 0] := by decide +kernel
theorem off3_11 : ∀ (k : Fin k0_t1_loop.trips) (j : Fin (k0_t2_loop k).trips), k0_off3 k j 1#32 1#32 = ![0, 512 * (4 * j.val + 2), 0] := by decide +kernel
theorem off3_12 : ∀ (k : Fin k0_t1_loop.trips) (j : Fin (k0_t2_loop k).trips), k0_off3 k j 1#32 2#32 = ![0, 512 * (4 * j.val + 3), 0] := by decide +kernel
theorem off3_31 : ∀ (k : Fin k0_t1_loop.trips) (j : Fin (k0_t2_loop k).trips), k0_off3 k j 3#32 1#32 = ![0, 512 * (4 * j.val + 4), 0] := by decide +kernel
theorem off3_32 : ∀ (k : Fin k0_t1_loop.trips) (j : Fin (k0_t2_loop k).trips), k0_off3 k j 3#32 2#32 = ![0, 512 * (4 * j.val + 5), 0] := by decide +kernel
theorem off4_1 : ∀ (k : Fin k0_t1_loop.trips) (j : Fin (k0_t2_loop k).trips), k0_off4 k j 1#32 = ![4 * j.val + 1, 0, 0] := by decide +kernel
theorem off4_3 : ∀ (k : Fin k0_t1_loop.trips) (j : Fin (k0_t2_loop k).trips), k0_off4 k j 3#32 = ![4 * j.val + 3, 0, 0] := by decide +kernel
theorem off5_1 : ∀ (k : Fin k0_t1_loop.trips) (j : Fin (k0_t2_loop k).trips), k0_off5 k j 1#32 = ![4 * j.val + 2, 0, 0] := by decide +kernel
theorem off5_3 : ∀ (k : Fin k0_t1_loop.trips) (j : Fin (k0_t2_loop k).trips), k0_off5 k j 3#32 = ![4 * j.val + 4, 0, 0] := by decide +kernel
theorem off9_1 : ∀ k : Fin k0_t1_loop.trips, k0_cond2 k = 1#1 → k0_off9 k 1#32 = ![0, 512 * (4 * ((k.val - 1) / 4) + 2), 0] := by decide +kernel
theorem off9_2 : ∀ k : Fin k0_t1_loop.trips, k0_cond2 k = 1#1 → k0_off9 k 2#32 = ![0, 512 * (4 * ((k.val - 1) / 4) + 3), 0] := by decide +kernel
theorem off10 : ∀ k : Fin k0_t1_loop.trips, k0_cond2 k = 1#1 → k0_off10 k = ![4 * ((k.val - 1) / 4) + 1, 0, 0] := by decide +kernel
theorem off11 : ∀ k : Fin k0_t1_loop.trips, k0_cond2 k = 1#1 → k0_off11 k = ![4 * ((k.val - 1) / 4) + 2, 0, 0] := by decide +kernel
theorem off12 : ∀ k : Fin k0_t1_loop.trips, k0_off12 k = ![k.val, 0, 0] := by decide +kernel
theorem off13 : ∀ k : Fin k0_t1_loop.trips, k0_off13 k = ![0, 512 * k.val, 0] := by decide +kernel
theorem off14 : ∀ k : Fin k0_t1_loop.trips, k0_cond2 k = 1#1 → k0_off14 k = ![k.val - 1, 0, 0] := by decide +kernel
theorem off15 : ∀ k : Fin k0_t1_loop.trips, k0_off15 k = ![k.val, 0, 0] := by decide +kernel

end Cert.AttnIdeal.Hand
-- ==== Proof.Vals.lean ====
module

public import proofs.«01_k».proof.Proof.Off
public import Idealize.ShloMosaic.Lib.VecWindow

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! The values the attention kernel computes from the blocks it is given, as plain functions. -/

/-- Rows `512 n … 512 n + 511` of the query or key block. -/
def kblk (X : Vec F S1x8192x128 .bf16) (n : ℕ) : Vec F S1x512x128 .bf16 :=
  fun y => X (fun a => ⟨((![0, 512 * n, 0] : Fin 3 → ℕ) a + (y a).val) % S1x8192x128.size a, Nat.mod_lt _ (by fin_cases a <;> decide)⟩)
/-- Key tile `n` of the transposed values. -/
def vblk (X : Vec F S16x144x512 .bf16) (n : ℕ) : Vec F S1x144x512 .bf16 :=
  fun y => X (fun a => ⟨((![n, 0, 0] : Fin 3 → ℕ) a + (y a).val) % S16x144x512.size a, Nat.mod_lt _ (by fin_cases a <;> decide)⟩)

/-- The stacked operand: both maps' queries of one tile side by side, each half zero in the other map's rows. -/
def stk (q : Vec F S1x512x128 .bf16) : Vec F S128x1024 .bf16 :=
  VecWindow.put (VecWindow.put (fun _ => k0_pay73 q (fun a => ⟨0, by fin_cases a <;> decide⟩)) ![0, 0] S128x512.size (k0_pay73 q)) ![0, 512] S128x512.size (k0_pay74 q)

/-- A tile of scores. -/
def scr (k : Vec F S1x512x128 .bf16) (q : Vec F S128x1024 .bf16) : Vec F S512x1024 .f32 := k0_pay1 k q
/-- The scores with the keys after the query removed. -/
def msk (k : ℕ) (s : Vec F S512x1024 .f32) : Vec F S512x1024 .f32 := k0_pay50 (Scf.iv 0#32 1#32 k) s
/-- The running maximum after a tile. -/
def nm (s : Vec F S512x1024 .f32) (m : Vec F S1x1024 .f32) : Vec F S1x1024 .f32 := k0_pay66 s m
/-- The accumulated products after a tile. -/
def na (s : Vec F S512x1024 .f32) (m : Vec F S1x1024 .f32) (a : Vec F S144x1024 .f32) (v : Vec F S1x144x512 .bf16) : Vec F S144x1024 .f32 := k0_pay65 s m a v

/-- The running maximum and the accumulated products after the first `n` key tiles, none masked. -/
def acc (q : Vec F S128x1024 .bf16) (X3 : Vec F S1x8192x128 .bf16) (X4 : Vec F S16x144x512 .bf16) : ℕ → Vec F S1x1024 .f32 × Vec F S144x1024 .f32
  | 0 => (k0_pay80, k0_pay81)
  | n + 1 => (nm (scr (kblk X3 n) q) (acc q X3 X4 n).1, na (scr (kblk X3 n) q) (acc q X3 X4 n).1 (acc q X3 X4 n).2 (vblk X4 n))

theorem acc_fst (q : Vec F S128x1024 .bf16) (X3 : Vec F S1x8192x128 .bf16) (X4 : Vec F S16x144x512 .bf16) (n : ℕ) :
    (acc q X3 X4 (n + 1)).1 = nm (scr (kblk X3 n) q) (acc q X3 X4 n).1 := rfl
theorem acc_snd (q : Vec F S128x1024 .bf16) (X3 : Vec F S1x8192x128 .bf16) (X4 : Vec F S16x144x512 .bf16) (n : ℕ) :
    (acc q X3 X4 (n + 1)).2 = na (scr (kblk X3 n) q) (acc q X3 X4 n).1 (acc q X3 X4 n).2 (vblk X4 n) := rfl

/-- The accumulated products after query tile `k`'s own, masked, tile. -/
def fin (X2 : Vec F S1x8192x128 .bf16) (X3 : Vec F S1x8192x128 .bf16) (X4 : Vec F S16x144x512 .bf16) (k : ℕ) : Vec F S144x1024 .f32 :=
  na (msk k (scr (kblk X3 k) (stk (kblk X2 k)))) (acc (stk (kblk X2 k)) X3 X4 k).1 (acc (stk (kblk X2 k)) X3 X4 k).2 (vblk X4 k)

/-- What query tile `k` of the output block holds. -/
def outTile (X2 X3 : Vec F S1x8192x128 .bf16) (X4 : Vec F S16x144x512 .bf16) (x5 x6 x7 x8 : Vec F S1x64 .f32) (x9 : Vec F S128x1 .f32) (k : ℕ) : Vec F S1x512x128 .bf16 :=
  k0_pay93 (k0_pay91 x5 x6) (k0_pay92 x7) x8 (fin X2 X3 X4 k) x9

/-- What the output block holds: query tile `y 1 / 512` at row `y 1`. -/
def outBlk (X2 X3 : Vec F S1x8192x128 .bf16) (X4 : Vec F S16x144x512 .bf16) (x5 x6 x7 x8 : Vec F S1x64 .f32) (x9 : Vec F S128x1 .f32) : Vec F S1x8192x128 .bf16 :=
  fun y => outTile X2 X3 X4 x5 x6 x7 x8 x9 ((y 1).val / 512)
    (fun a => ⟨(y a).val % S1x512x128.size a, Nat.mod_lt _ (by fin_cases a <;> decide)⟩)

/-! The printed pieces are these functions. -/

theorem pay2_eq : k0_pay2 (F := F) = scr := rfl
theorem pay4_eq : k0_pay4 (F := F) = scr := rfl
theorem pay8_eq : k0_pay8 (F := F) = scr := rfl
theorem pay13_eq : k0_pay13 (F := F) = scr := rfl
theorem pay19_eq : k0_pay19 (F := F) = scr := rfl
theorem pay42_eq : k0_pay42 (F := F) = scr := rfl
theorem pay46_eq : k0_pay46 (F := F) = scr := rfl
theorem pay49_eq : k0_pay49 (F := F) = scr := rfl
theorem pay54_eq : k0_pay54 (F := F) = scr := rfl
theorem pay58_eq : k0_pay58 (F := F) = scr := rfl
theorem pay63_eq : k0_pay63 (F := F) = scr := rfl
theorem nm_5 (s : Vec F S512x1024 .f32) (m : Vec F S1x1024 .f32) : k0_pay7 (k0_pay5 s m) = nm s m := rfl
theorem nm_9 (s : Vec F S512x1024 .f32) (m : Vec F S1x1024 .f32) : k0_pay12 (k0_pay9 s m) = nm s m := rfl
theorem nm_14 (s : Vec F S512x1024 .f32) (m : Vec F S1x1024 .f32) : k0_pay18 (k0_pay14 s m) = nm s m := rfl
theorem nm_20 (s : Vec F S512x1024 .f32) (m : Vec F S1x1024 .f32) : k0_pay68 (k0_pay20 s m) = nm s m := rfl
theorem nm_43 (s : Vec F S512x1024 .f32) (m : Vec F S1x1024 .f32) : k0_pay45 (k0_pay43 s m) = nm s m := rfl
theorem nm_47 (s : Vec F S512x1024 .f32) (m : Vec F S1x1024 .f32) : k0_pay86 (k0_pay47 s m) = nm s m := rfl
theorem nm_55 (s : Vec F S512x1024 .f32) (m : Vec F S1x1024 .f32) : k0_pay57 (k0_pay55 s m) = nm s m := rfl
theorem nm_84 (s : Vec F S512x1024 .f32) (m : Vec F S1x1024 .f32) : k0_pay84 s m = nm s m := rfl
theorem msk_3 (s : Vec F S512x1024 .f32) : k0_pay3 (Scf.iv 0#32 1#32 0) s = msk 0 s := by
  have e : Scf.iv 0#32 1#32 0 = 0#32 := by decide
  have e' : Scalar.muli 0#32 512#32 = 0#32 := by decide
  unfold msk k0_pay3 k0_pay50
  rw [e, e']
theorem pay59_eq : k0_pay59 (F := F) = k0_pay50 := rfl
theorem nm_51 (k : ℕ) (s : Vec F S512x1024 .f32) (m : Vec F S1x1024 .f32) : k0_pay88 (k0_pay51 (Scf.iv 0#32 1#32 k) s m) = nm (msk k s) m := rfl
theorem nm_60 (k : ℕ) (s : Vec F S512x1024 .f32) (m : Vec F S1x1024 .f32) : k0_pay90 (k0_pay60 (Scf.iv 0#32 1#32 k) s m) = nm (msk k s) m := by
  unfold k0_pay60; rw [pay59_eq]; rfl
theorem na_6 (s : Vec F S512x1024 .f32) (m : Vec F S1x1024 .f32) (a : Vec F S144x1024 .f32) (v : Vec F S1x144x512 .bf16) : k0_pay6 s m a v = na s m a v := rfl
theorem na_10 (s : Vec F S512x1024 .f32) (m : Vec F S1x1024 .f32) (a : Vec F S144x1024 .f32) (v : Vec F S1x144x512 .bf16) : k0_pay11 (k0_pay10 s m a v) = na s m a v := rfl
theorem na_17 (s : Vec F S512x1024 .f32) (m : Vec F S1x1024 .f32) (a : Vec F S144x1024 .f32) (v : Vec F S1x144x512 .bf16) : k0_pay17 (k0_pay15 s m) (k0_pay16 s m a) v = na s m a v := rfl
theorem na_67 (s : Vec F S512x1024 .f32) (m : Vec F S1x1024 .f32) (a : Vec F S144x1024 .f32) (v : Vec F S1x144x512 .bf16) : k0_pay67 (k0_pay21 s m) (k0_pay22 s m a) v = na s m a v := rfl
theorem na_44 (s : Vec F S512x1024 .f32) (m : Vec F S1x1024 .f32) (a : Vec F S144x1024 .f32) (v : Vec F S1x144x512 .bf16) : k0_pay44 s m a v = na s m a v := rfl
theorem na_48 (s : Vec F S512x1024 .f32) (m : Vec F S1x1024 .f32) (a : Vec F S144x1024 .f32) (v : Vec F S1x144x512 .bf16) : k0_pay85 (k0_pay48 s m a v) = na s m a v := rfl
theorem na_56 (s : Vec F S512x1024 .f32) (m : Vec F S1x1024 .f32) (a : Vec F S144x1024 .f32) (v : Vec F S1x144x512 .bf16) : k0_pay56 s m a v = na s m a v := rfl
theorem na_83 (s : Vec F S512x1024 .f32) (m : Vec F S1x1024 .f32) (a : Vec F S144x1024 .f32) (v : Vec F S1x144x512 .bf16) : k0_pay83 s m a v = na s m a v := rfl
theorem na_87 (k : ℕ) (s : Vec F S512x1024 .f32) (m : Vec F S1x1024 .f32) (a : Vec F S144x1024 .f32) (v : Vec F S1x144x512 .bf16) :
    k0_pay87 (k0_pay52 (Scf.iv 0#32 1#32 k) s m) (k0_pay53 (Scf.iv 0#32 1#32 k) s m a) v = na (msk k s) m a v := rfl
theorem na_89 (k : ℕ) (s : Vec F S512x1024 .f32) (m : Vec F S1x1024 .f32) (a : Vec F S144x1024 .f32) (v : Vec F S1x144x512 .bf16) :
    k0_pay89 (k0_pay61 (Scf.iv 0#32 1#32 k) s m) a (k0_pay62 (Scf.iv 0#32 1#32 k) s m) v = na (msk k s) m a v := by
  unfold k0_pay61 k0_pay62 k0_pay60; rw [pay59_eq]; rfl
theorem stk_77 (q : Vec F S1x512x128 .bf16) : k0_pay78 (k0_pay77 q) = k0_pay73 q := rfl
theorem stk_79 (q : Vec F S1x512x128 .bf16) : k0_pay79 (k0_pay75 q) (iota .tc S128x512 32 [0] iota_S128x512_d0_w32) (k0_pay76 (F := F)) = k0_pay74 q := rfl

/-! A load of a whole buffer, of a tile, and a store of a whole buffer, by values. -/

theorem kblk_window (X : Vec F S1x8192x128 .bf16) (n : ℕ) (inb) :
    VecWindow.window X ![0, 512 * n, 0] S1x512x128.size inb = kblk X n := by
  funext y
  unfold VecWindow.window kblk
  congr 1
  funext a
  apply Fin.ext
  have e : ((Rect.unit (s := S1x8192x128) ![0, 512 * n, 0] S1x512x128.size inb).emb y a).val = (![0, 512 * n, 0] : Fin 3 → ℕ) a + 1 * (y a).val := rfl
  show ((Rect.unit (s := S1x8192x128) ![0, 512 * n, 0] S1x512x128.size inb).emb y a).val = ((![0, 512 * n, 0] : Fin 3 → ℕ) a + (y a).val) % S1x8192x128.size a
  have h1 := inb a
  have h2 : (y a).val < S1x512x128.size a := (y a).isLt
  rw [Nat.mod_eq_of_lt (by omega), e, one_mul]

theorem vblk_window (X : Vec F S16x144x512 .bf16) (n : ℕ) (inb) :
    VecWindow.window X ![n, 0, 0] S1x144x512.size inb = vblk X n := by
  funext y
  unfold VecWindow.window vblk
  congr 1
  funext a
  apply Fin.ext
  have e : ((Rect.unit (s := S16x144x512) ![n, 0, 0] S1x144x512.size inb).emb y a).val = (![n, 0, 0] : Fin 3 → ℕ) a + 1 * (y a).val := rfl
  show ((Rect.unit (s := S16x144x512) ![n, 0, 0] S1x144x512.size inb).emb y a).val = ((![n, 0, 0] : Fin 3 → ℕ) a + (y a).val) % S16x144x512.size a
  have h1 := inb a
  have h2 : (y a).val < S1x144x512.size a := (y a).isLt
  rw [Nat.mod_eq_of_lt (by omega), e, one_mul]

theorem load_k {κ sp} (v : View sig κ sp S1x8192x128 .bf16) (X : Vec F S1x8192x128 .bf16) {off : Fin 3 → ℕ} (n : ℕ)
    (inb : ∀ a, off a + S1x512x128.size a ≤ S1x8192x128.size a) (h : off = ![0, 512 * n, 0]) :
    v.readAt (Elt F) (Rect.unit (s := S1x8192x128) off S1x512x128.size inb).toLoadRect (v.rep X) = kblk X n := by
  rw [View.readAt_rep_unit v X inb h (by rw [← h]; exact inb), kblk_window]
theorem load_v {κ sp} (v : View sig κ sp S16x144x512 .bf16) (X : Vec F S16x144x512 .bf16) {off : Fin 3 → ℕ} (n : ℕ)
    (inb : ∀ a, off a + S1x144x512.size a ≤ S16x144x512.size a) (h : off = ![n, 0, 0]) :
    v.readAt (Elt F) (Rect.unit (s := S16x144x512) off S1x144x512.size inb).toLoadRect (v.rep X) = vblk X n := by
  rw [View.readAt_rep_unit v X inb h (by rw [← h]; exact inb), vblk_window]

end Cert.AttnIdeal.Hand

end
-- ==== Proof.Quad.lean ====
module

public import proofs.«01_k».proof.Proof.Vals
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffer behind `m` holds the array `X`. -/
abbrev holds (c : Dev nD) {s : Shape} {e : EltTy} (m : Memref sig .tc .vmem s e) (X : Vec F s e) : sProp 𝕄 :=
  (m.view.loc (c : Thread nD τ) ↦[m.view.set]{fullShare} m.view.rep X)

/-- Four key tiles: from `4 j + 1` tiles consumed to `4 j + 5`. -/
theorem quad_step (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (w : BitVec 32) (h2 : k0_cond2 k = 1#1) (w' : BitVec 32) (j : Fin (k0_t2_loop k).trips)
  (X3 : Vec F S1x8192x128 .bf16) (X4 : Vec F S16x144x512 .bf16) (q : Vec F S128x1024 .bf16) (d15 : Vec F S512x1024 .f32) :
    iprop(holds c arg3 X3 ∗ holds c arg4 X4 ∗ holds c arg11 q ∗ holds c arg13 (acc q X3 X4 (4 * j.val + 1)).1 ∗ holds c arg14 (acc q X3 X4 (4 * j.val + 1)).2
        ∗ holds c arg15 d15 ∗ holds c arg16 (scr (kblk X3 (4 * j.val + 1)) q))
      ⊢ wp Idealize.ShloMosaic.frame (wpE (defs₀ (F := F)) Variants.none (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w h2 w' j ())
          (fun _ => iprop(holds c arg3 X3 ∗ holds c arg4 X4 ∗ holds c arg11 q ∗ holds c arg13 (acc q X3 X4 (4 * (j.val + 1) + 1)).1 ∗ holds c arg14 (acc q X3 X4 (4 * (j.val + 1) + 1)).2
        ∗ (∃ d, holds c arg15 d) ∗ holds c arg16 (scr (kblk X3 (4 * (j.val + 1) + 1)) q))) := by
  unfold k0_t2_body
  iintro ⟨H3, H4, H11, H13, H14, H15, H16⟩
  rw [k0_part2_eq_skeleton, k0_part3_eq_skeleton, k0_part4_eq_skeleton, k0_part5_eq_skeleton]
  sl_exec
  have e11 := fun inb => load_k (F := F) arg3.view X3 (4 * j.val + 1 + 1) inb (off3_11 k j)
  have e12 := fun inb => load_k (F := F) arg3.view X3 (4 * j.val + 1 + 1 + 1) inb (off3_12 k j)
  have e31 := fun inb => load_k (F := F) arg3.view X3 (4 * j.val + 1 + 1 + 1 + 1) inb (off3_31 k j)
  have e32 := fun inb => load_k (F := F) arg3.view X3 (4 * j.val + 1 + 1 + 1 + 1 + 1) inb (off3_32 k j)
  have f11 := fun inb => load_v (F := F) arg4.view X4 (4 * j.val + 1) inb (off4_1 k j)
  have f12 := fun inb => load_v (F := F) arg4.view X4 (4 * j.val + 1 + 1) inb (off5_1 k j)
  have f31 := fun inb => load_v (F := F) arg4.view X4 (4 * j.val + 1 + 1 + 1) inb (off4_3 k j)
  have f32 := fun inb => load_v (F := F) arg4.view X4 (4 * j.val + 1 + 1 + 1 + 1) inb (off5_3 k j)
  have ej : 4 * (j.val + 1) + 1 = 4 * j.val + 1 + 1 + 1 + 1 + 1 := by omega
  ihave H13 := (pointsTo_rep_of_read (Val := Elt F) (c : Thread nD τ) arg13 _ fullShare (acc q X3 X4 (4 * (j.val + 1) + 1)).1 ?g13) $$ H13
  case g13 =>
    rw [View.read_writes_full, ej]
    repeat delta quad_step.sl.H13_1 quad_step.sl.H13_2 quad_step.sl.H13_3 quad_step.sl.H14_1 quad_step.sl.H14_2 quad_step.sl.H14_3 quad_step.sl.H15_1 quad_step.sl.H15_2 quad_step.sl.H16_1 quad_step.sl.r quad_step.sl.r_1 quad_step.sl.r_2 quad_step.sl.r_3 quad_step.sl.r_4 quad_step.sl.r_5 quad_step.sl.r_6 quad_step.sl.r_7 quad_step.sl.r_8 quad_step.sl.r_9 quad_step.sl.r_10 quad_step.sl.v262 quad_step.sl.v263 quad_step.sl.v272 quad_step.sl.v300 quad_step.sl.v301 quad_step.sl.v310 quad_step.sl.v337 quad_step.sl.v338 quad_step.sl.v347
    simp (proj := false) only [View.readCov_full, View.readAt_rep_full, e11, e12, e31, e32, f11, f12, f31, f32, pay4_eq, pay8_eq, pay13_eq, pay19_eq, nm_5, nm_9, nm_14, nm_20, na_6, na_10, na_17, na_67]
    rfl
  ihave H14 := (pointsTo_rep_of_read (Val := Elt F) (c : Thread nD τ) arg14 _ fullShare (acc q X3 X4 (4 * (j.val + 1) + 1)).2 ?g14) $$ H14
  case g14 =>
    rw [View.read_writes_full, ej]
    repeat delta quad_step.sl.H13_1 quad_step.sl.H13_2 quad_step.sl.H13_3 quad_step.sl.H14_1 quad_step.sl.H14_2 quad_step.sl.H14_3 quad_step.sl.H15_1 quad_step.sl.H15_2 quad_step.sl.H16_1 quad_step.sl.r quad_step.sl.r_1 quad_step.sl.r_2 quad_step.sl.r_3 quad_step.sl.r_4 quad_step.sl.r_5 quad_step.sl.r_6 quad_step.sl.r_7 quad_step.sl.r_8 quad_step.sl.r_9 quad_step.sl.r_10 quad_step.sl.v262 quad_step.sl.v263 quad_step.sl.v272 quad_step.sl.v300 quad_step.sl.v301 quad_step.sl.v310 quad_step.sl.v337 quad_step.sl.v338 quad_step.sl.v347
    simp (proj := false) only [View.readCov_full, View.readAt_rep_full, e11, e12, e31, e32, f11, f12, f31, f32, pay4_eq, pay8_eq, pay13_eq, pay19_eq, nm_5, nm_9, nm_14, nm_20, na_6, na_10, na_17, na_67]
    rfl
  ihave H15 := (pointsTo_rep_entails (Val := Elt F) (c : Thread nD τ) arg15 _ fullShare) $$ H15
  ihave H16 := (pointsTo_rep_of_read (Val := Elt F) (c : Thread nD τ) arg16 _ fullShare (scr (kblk X3 (4 * (j.val + 1) + 1)) q) ?g16) $$ H16
  case g16 =>
    rw [View.read_writes_full, ej]
    repeat delta quad_step.sl.H13_1 quad_step.sl.H13_2 quad_step.sl.H13_3 quad_step.sl.H14_1 quad_step.sl.H14_2 quad_step.sl.H14_3 quad_step.sl.H15_1 quad_step.sl.H15_2 quad_step.sl.H16_1 quad_step.sl.r quad_step.sl.r_1 quad_step.sl.r_2 quad_step.sl.r_3 quad_step.sl.r_4 quad_step.sl.r_5 quad_step.sl.r_6 quad_step.sl.r_7 quad_step.sl.r_8 quad_step.sl.r_9 quad_step.sl.r_10 quad_step.sl.v262 quad_step.sl.v263 quad_step.sl.v272 quad_step.sl.v300 quad_step.sl.v301 quad_step.sl.v310 quad_step.sl.v337 quad_step.sl.v338 quad_step.sl.v347
    simp (proj := false) only [View.readCov_full, View.readAt_rep_full, e11, e12, e31, e32, f11, f12, f31, f32, pay4_eq, pay8_eq, pay13_eq, pay19_eq, nm_5, nm_9, nm_14, nm_20, na_6, na_10, na_17, na_67]
  sl_step
  isplitl [H3]; · iexact H3
  isplitl [H4]; · iexact H4
  isplitl [H11]; · iexact H11
  isplitl [H13]; · iexact H13
  isplitl [H14]; · iexact H14
  isplitl [H15]; · iexists _; iexact H15
  iexact H16

/-- All the quads of a query tile. -/
theorem quad_loop (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (w : BitVec 32) (h2 : k0_cond2 k = 1#1) (w' : BitVec 32)
  (X3 : Vec F S1x8192x128 .bf16) (X4 : Vec F S16x144x512 .bf16) (q : Vec F S128x1024 .bf16) (d15 : Vec F S512x1024 .f32) :
    iprop(holds c arg3 X3 ∗ holds c arg4 X4 ∗ holds c arg11 q ∗ holds c arg13 (acc q X3 X4 1).1 ∗ holds c arg14 (acc q X3 X4 1).2
        ∗ holds c arg15 d15 ∗ holds c arg16 (scr (kblk X3 1) q))
      ⊢ wp Idealize.ShloMosaic.frame (wpE (defs₀ (F := F)) Variants.none (c : Thread nD τ) none) Set.univ
          (Scf.Loop.for (k0_t2_loop k) (k0_t2_ok k h2) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w h2 w'))
          (fun _ => iprop(holds c arg3 X3 ∗ holds c arg4 X4 ∗ holds c arg11 q ∗ holds c arg13 (acc q X3 X4 (4 * ((k.val - 1) / 4) + 1)).1 ∗ holds c arg14 (acc q X3 X4 (4 * ((k.val - 1) / 4) + 1)).2
        ∗ (∃ d, holds c arg15 d) ∗ holds c arg16 (scr (kblk X3 (4 * ((k.val - 1) / 4) + 1)) q))) := by
  iintro ⟨H3, H4, H11, H13, H14, H15, H16⟩
  iapply (Scf.wp_for Idealize.ShloMosaic.frame (wpE (defs₀ (F := F)) Variants.none (c : Thread nD τ) none) Set.univ _ _ _ (k0_t2_ok k h2) _ _
    (fun j _ => iprop(holds c arg3 X3 ∗ holds c arg4 X4 ∗ holds c arg11 q ∗ holds c arg13 (acc q X3 X4 (4 * j + 1)).1 ∗ holds c arg14 (acc q X3 X4 (4 * j + 1)).2
        ∗ (∃ d, holds c arg15 d) ∗ holds c arg16 (scr (kblk X3 (4 * j + 1)) q))) ?step)
  case step =>
    intro j _
    iintro ⟨H3, H4, H11, H13, H14, ⟨%d, H15⟩, H16⟩
    iapply (quad_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w h2 w' j X3 X4 q d)
    isplitl [H3]; · iexact H3
    isplitl [H4]; · iexact H4
    isplitl [H11]; · iexact H11
    isplitl [H13]; · iexact H13
    isplitl [H14]; · iexact H14
    isplitl [H15]; · iexact H15
    iexact H16
  isplitl [H3 H4 H11 H13 H14 H15 H16]
  · isplitl [H3]; · iexact H3
    isplitl [H4]; · iexact H4
    isplitl [H11]; · iexact H11
    isplitl [H13]; · iexact H13
    isplitl [H14]; · iexact H14
    isplitl [H15]; · iexists _; iexact H15
    iexact H16
  · iintro %_
    have e : Scf.trips (k0_t2_loop k).lb (k0_t2_loop k).ub (k0_t2_loop k).st = (k.val - 1) / 4 := trips2 k
    rw [e]
    iintro H
    iexact H

/-- The loop of the rest, which makes no trip. -/
theorem rest_loop (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (w : BitVec 32) (h2 : k0_cond2 k = 1#1) (w' w'' : BitVec 32) :
    (iprop(emp) : sProp 𝕄)
      ⊢ wp Idealize.ShloMosaic.frame (wpE (defs₀ (F := F)) Variants.none (c : Thread nD τ) none) Set.univ
          (Scf.Loop.for (k0_t3_loop k) (k0_t3_ok k h2) ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k w h2 w' w''))
          (fun _ => iprop(emp)) := by
  iintro H
  iapply (Scf.wp_for Idealize.ShloMosaic.frame (wpE (defs₀ (F := F)) Variants.none (c : Thread nD τ) none) Set.univ _ _ _ (k0_t3_ok k h2) _ _
    (fun _ _ => iprop(emp)) ?step)
  case step =>
    intro j
    have e : Scf.trips (k0_t3_loop k).lb (k0_t3_loop k).ub (k0_t3_loop k).st = 0 := trips3 k
    exact absurd (lt_of_lt_of_eq j.isLt e) (by omega)
  isplitl [H]
  · iexact H
  · iintro %_ H
    iexact H

/-- The two halves written into the stacked operand make it whole, whatever was there before. -/
theorem put_stk (x : Vec F S128x1024 .bf16) (q : Vec F S1x512x128 .bf16) :
    VecWindow.put (VecWindow.put x ![0, 0] S128x512.size (k0_pay73 q)) ![0, 512] S128x512.size (k0_pay74 q) = stk q := by
  funext y
  unfold stk VecWindow.put
  by_cases h : ∀ a, (![0, 512] : Fin 2 → ℕ) a ≤ (y a).val ∧ (y a).val < (![0, 512] : Fin 2 → ℕ) a + S128x512.size a
  · rw [dif_pos h, dif_pos h]
  · rw [dif_neg h, dif_neg h]
    have h0 : (y 0).val < 128 := (y 0).isLt
    have h1 : (y 1).val < 1024 := (y 1).isLt
    have h' : ∀ a, (![0, 0] : Fin 2 → ℕ) a ≤ (y a).val ∧ (y a).val < (![0, 0] : Fin 2 → ℕ) a + S128x512.size a := by
      have n1 : ¬ (512 ≤ (y 1).val) := fun hc => h fun a => by
        fin_cases a
        · exact ⟨Nat.zero_le _, by show (y 0).val < 0 + 128; omega⟩
        · exact ⟨hc, by show (y 1).val < 512 + 512; omega⟩
      intro a
      fin_cases a
      · exact ⟨Nat.zero_le _, by show (y 0).val < 0 + 128; omega⟩
      · exact ⟨Nat.zero_le _, by show (y 1).val < 0 + 512; omega⟩
    rw [dif_pos h', dif_pos h']

theorem stk_read {κ sp} (v : View sig κ sp S128x1024 .bf16) (f) (q : Vec F S1x512x128 .bf16) (inb inb') :
    v.read (Elt F) (v.writes (Elt F) f [⟨Rect.unit (s := S128x1024) ![0, 512] S128x512.size inb, k0_pay74 q⟩, ⟨Rect.unit (s := S128x1024) ![0, 0] S128x512.size inb', k0_pay73 q⟩]) = stk q := by
  rw [View.read_writes_cons_put v f inb _ _ rfl, View.read_writes_cons_put v f inb' _ _ rfl]
  exact put_stk _ q
theorem stk_cov {κ sp} (v : View sig κ sp S128x1024 .bf16) (q : Vec F S1x512x128 .bf16) (inb inb' inb'') :
    v.readCov [⟨Rect.unit (s := S128x1024) ![0, 512] S128x512.size inb, k0_pay74 q⟩, ⟨Rect.unit (s := S128x1024) ![0, 0] S128x512.size inb', k0_pay73 q⟩]
      (Rect.unit (s := S128x1024) ![0, 0] S128x1024.size inb'').toLoadRect = stk q := by
  unfold View.readCov
  rw [View.readAt_full v _ inb'']
  exact stk_read v _ q inb inb'

end Cert.AttnIdeal.Hand

end
-- ==== Proof.TripA.lean ====
module

public import proofs.«01_k».proof.Proof.Quad
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- The first query tile: one masked key tile. -/
theorem trip_A (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (h1 : k0_cond1 k = 1#1) (h2 : ¬ k0_cond2 k = 1#1)
  (X2 X3 : Vec F S1x8192x128 .bf16) (X4 : Vec F S16x144x512 .bf16) (x5 x6 x7 x8 : Vec F S1x64 .f32) (x9 : Vec F S128x1 .f32) (O : Vec F S1x8192x128 .bf16)
  (d11 d12 : Vec F S128x1024 .bf16) (d13 : Vec F S1x1024 .f32) (d14 : Vec F S144x1024 .f32) (d15 d16 d17 : Vec F S512x1024 .f32)
  (h17 : k.val ≠ 0 → d17 = scr (kblk X3 0) (stk (kblk X2 k.val))) :
    iprop(holds c arg2 X2 ∗ holds c arg3 X3 ∗ holds c arg4 X4 ∗ holds c arg5 x5 ∗ holds c arg6 x6 ∗ holds c arg7 x7 ∗ holds c arg8 x8 ∗ holds c arg9 x9 ∗ holds c arg10 O
        ∗ holds c arg11 d11 ∗ holds c arg12 d12 ∗ holds c arg13 d13 ∗ holds c arg14 d14 ∗ holds c arg15 d15 ∗ holds c arg16 d16 ∗ holds c arg17 d17)
      ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ())
          (fun _ => iprop(holds c arg2 X2 ∗ holds c arg3 X3 ∗ holds c arg4 X4 ∗ holds c arg5 x5 ∗ holds c arg6 x6 ∗ holds c arg7 x7 ∗ holds c arg8 x8 ∗ holds c arg9 x9
        ∗ holds c arg10 (VecWindow.put O ![0, 512 * k.val, 0] S1x512x128.size (outTile X2 X3 X4 x5 x6 x7 x8 x9 k.val))
        ∗ (∃ d, holds c arg11 d) ∗ (∃ d, holds c arg12 d) ∗ (∃ d, holds c arg13 d) ∗ (∃ d, holds c arg14 d) ∗ (∃ d, holds c arg15 d) ∗ (∃ d, holds c arg16 d)
        ∗ holds c arg17 (scr (kblk X3 0) (stk (kblk X2 (min (k.val + 1) 15)))))) := by
  unfold k0_t1_body
  iintro ⟨H2, H3, H4, H5, H6, H7, H8, H9, H10, H11, H12, H13, H14, H15, H16, H17⟩
  rw [k0_part19_eq_skeleton]
  sl_unfold [k0_part19_skel]
  rw [k0_part17_eq_skeleton, k0_part18_eq_skeleton]
  sl_unfold [k0_part18_skel]
  rw [k0_part1_eq_skeleton]
  have hk : k.val = 0 := (cond1 k).1 h1
  have e1 := fun inb => load_k (F := F) arg2.view X2 k.val inb (off1 k)
  have e2 := fun inb => load_k (F := F) arg2.view X2 (min (k.val + 1) 15) inb (off2 k)
  have e0 := fun inb => load_k (F := F) arg3.view X3 0 (off := ![0, 0, 0]) inb rfl
  have f0 := fun inb => load_v (F := F) arg4.view X4 0 (off := ![0, 0, 0]) inb rfl
  have m3 : ∀ s : Vec F S512x1024 .f32, k0_pay3 (Scf.iv 0#32 1#32 k.val) s = msk k.val s := fun s => by rw [hk]; exact msk_3 s
  have ef : fin X2 X3 X4 k.val = na (msk k.val (scr (kblk X3 0) (stk (kblk X2 k.val)))) k0_pay80 k0_pay81 (vblk X4 0) := by
    unfold fin; rw [hk]; rfl
  sl_exec
  ihave H10 := (pointsTo_rep_of_read (Val := Elt F) (c : Thread nD τ) arg10 _ fullShare (VecWindow.put O ![0, 512 * k.val, 0] S1x512x128.size (outTile X2 X3 X4 x5 x6 x7 x8 x9 k.val)) ?gH10) $$ H10
  case gH10 =>
    rw [View.read_writes_rep_unit _ _ _ _ (off1 k)]
    unfold outTile
    rw [ef]
    repeat delta trip_A.sl.v159 trip_A.sl.arg18 trip_A.sl.v150 trip_A.sl.v134 trip_A.sl.v129 trip_A.sl.H15_1 trip_A.sl.v33 trip_A.sl.H12_2 trip_A.sl.H14_1 trip_A.sl.H11_2 trip_A.sl.r trip_A.sl.r_2 trip_A.sl.v82 trip_A.sl.H13_1 trip_A.sl.v120 trip_A.sl.H14_2 trip_A.sl.r_1
    simp (proj := false) only [View.readCov_full, View.readAt_rep_full, e1, e2, e0, f0, stk_cov, stk_77, stk_79, pay2_eq, nm_84, na_83, m3]
    try rfl
  ihave H11 := (pointsTo_rep_entails (Val := Elt F) (c : Thread nD τ) arg11 _ fullShare) $$ H11
  ihave H12 := (pointsTo_rep_entails (Val := Elt F) (c : Thread nD τ) arg12 _ fullShare) $$ H12
  ihave H13 := (pointsTo_rep_entails (Val := Elt F) (c : Thread nD τ) arg13 _ fullShare) $$ H13
  ihave H14 := (pointsTo_rep_entails (Val := Elt F) (c : Thread nD τ) arg14 _ fullShare) $$ H14
  ihave H15 := (pointsTo_rep_entails (Val := Elt F) (c : Thread nD τ) arg15 _ fullShare) $$ H15
  ihave H17 := (pointsTo_rep_of_read (Val := Elt F) (c : Thread nD τ) arg17 _ fullShare (scr (kblk X3 0) (stk (kblk X2 (min (k.val + 1) 15)))) ?gH17) $$ H17
  case gH17 =>
    rw [View.read_writes_full]
    repeat delta trip_A.sl.v159 trip_A.sl.arg18 trip_A.sl.v150 trip_A.sl.v134 trip_A.sl.v129 trip_A.sl.H15_1 trip_A.sl.v33 trip_A.sl.H12_2 trip_A.sl.H14_1 trip_A.sl.H11_2 trip_A.sl.r trip_A.sl.r_2 trip_A.sl.v82 trip_A.sl.H13_1 trip_A.sl.v120 trip_A.sl.H14_2 trip_A.sl.r_1
    simp (proj := false) only [View.readCov_full, View.readAt_rep_full, e1, e2, e0, f0, stk_cov, stk_77, stk_79, pay2_eq, nm_84, na_83, m3]
    try rfl
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexact H17

end Cert.AttnIdeal.Hand

end
-- ==== Proof.TripB.lean ====
module

public import proofs.«01_k».proof.Proof.Quad
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- The work on a query tile whose place modulo four is one. -/
theorem trip_B (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (h1 : ¬ k0_cond1 k = 1#1) (h2 : k0_cond2 k = 1#1) (h3 : ¬ k0_cond3 k = 1#1) (h4 : k0_cond4 k = 1#1) (h5 : ¬ k0_cond5 k = 1#1)
  (X2 X3 : Vec F S1x8192x128 .bf16) (X4 : Vec F S16x144x512 .bf16) (x5 x6 x7 x8 : Vec F S1x64 .f32) (x9 : Vec F S128x1 .f32) (O : Vec F S1x8192x128 .bf16)
  (d11 d12 : Vec F S128x1024 .bf16) (d13 : Vec F S1x1024 .f32) (d14 : Vec F S144x1024 .f32) (d15 d16 d17 : Vec F S512x1024 .f32)
  (h17 : k.val ≠ 0 → d17 = scr (kblk X3 0) (stk (kblk X2 k.val))) :
    iprop(holds c arg2 X2 ∗ holds c arg3 X3 ∗ holds c arg4 X4 ∗ holds c arg5 x5 ∗ holds c arg6 x6 ∗ holds c arg7 x7 ∗ holds c arg8 x8 ∗ holds c arg9 x9 ∗ holds c arg10 O
        ∗ holds c arg11 d11 ∗ holds c arg12 d12 ∗ holds c arg13 d13 ∗ holds c arg14 d14 ∗ holds c arg15 d15 ∗ holds c arg16 d16 ∗ holds c arg17 d17)
      ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ())
          (fun _ => iprop(holds c arg2 X2 ∗ holds c arg3 X3 ∗ holds c arg4 X4 ∗ holds c arg5 x5 ∗ holds c arg6 x6 ∗ holds c arg7 x7 ∗ holds c arg8 x8 ∗ holds c arg9 x9
        ∗ holds c arg10 (VecWindow.put O ![0, 512 * k.val, 0] S1x512x128.size (outTile X2 X3 X4 x5 x6 x7 x8 x9 k.val))
        ∗ (∃ d, holds c arg11 d) ∗ (∃ d, holds c arg12 d) ∗ (∃ d, holds c arg13 d) ∗ (∃ d, holds c arg14 d) ∗ (∃ d, holds c arg15 d) ∗ (∃ d, holds c arg16 d)
        ∗ holds c arg17 (scr (kblk X3 0) (stk (kblk X2 (min (k.val + 1) 15)))))) := by
  unfold k0_t1_body
  iintro ⟨H2, H3, H4, H5, H6, H7, H8, H9, H10, H11, H12, H13, H14, H15, H16, H17⟩
  rw [k0_part19_eq_skeleton]
  sl_unfold [k0_part19_skel]
  rw [k0_part17_eq_skeleton, k0_part18_eq_skeleton]
  sl_unfold [k0_part18_skel]
  rw [k0_part15_eq_skeleton, k0_part16_eq_skeleton]
  sl_unfold [k0_part16_skel]
  rw [k0_part12_eq_skeleton]
  have hk : k.val ≠ 0 := (cond2 k).1 h2
  have hk3 : ¬ 2 ≤ (k.val - 1) % 4 := fun hc => h3 ((cond3 k h2).2 hc)
  have hk4 : k.val % 2 = 1 := (cond4 k).1 h4
  have hn : k.val = 4 * ((k.val - 1) / 4) + 1 := by omega
  have hx : kblk X3 (4 * ((k.val - 1) / 4) + 1) = kblk X3 k.val := by rw [← hn]
  have e17 := h17 hk
  have ea : ∀ q : Vec F S128x1024 .bf16, acc q X3 X4 k.val = acc q X3 X4 (4 * ((k.val - 1) / 4) + 1) := by intro q; congr 1
  have e1 := fun inb => load_k (F := F) arg2.view X2 k.val inb (off1 k)
  have e2 := fun inb => load_k (F := F) arg2.view X2 (min (k.val + 1) 15) inb (off2 k)
  have e0 := fun inb => load_k (F := F) arg3.view X3 0 (off := ![0, 0, 0]) inb rfl
  have e1t := fun inb => load_k (F := F) arg3.view X3 1 (off := ![0, 512, 0]) inb rfl
  have f0 := fun inb => load_v (F := F) arg4.view X4 0 (off := ![0, 0, 0]) inb rfl
  have f12 := fun inb => load_v (F := F) arg4.view X4 k.val inb (off12 k)
  sl_exec
  ihave H11 := (pointsTo_rep_of_read (Val := Elt F) (c : Thread nD τ) arg11 _ fullShare (stk (kblk X2 k.val)) ?gH11) $$ H11
  case gH11 =>
    repeat delta trip_B.sl.v152 trip_B.sl.v163 trip_B.sl.v165 trip_B.sl.v161 trip_B.sl.v164 trip_B.sl.v153 trip_B.sl.arg18 trip_B.sl.v149 trip_B.sl.H14_1 trip_B.sl.H11_2 trip_B.sl.v166 trip_B.sl.v155 trip_B.sl.v126 trip_B.sl.v151 trip_B.sl.v135 trip_B.sl.v170 trip_B.sl.v120 trip_B.sl.H13_1 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H12 := (pointsTo_rep_of_read (Val := Elt F) (c : Thread nD τ) arg12 _ fullShare (stk (kblk X2 (min (k.val + 1) 15))) ?gH12) $$ H12
  case gH12 =>
    repeat delta trip_B.sl.v152 trip_B.sl.v163 trip_B.sl.v165 trip_B.sl.v161 trip_B.sl.v164 trip_B.sl.v153 trip_B.sl.arg18 trip_B.sl.v149 trip_B.sl.H14_1 trip_B.sl.H11_2 trip_B.sl.v166 trip_B.sl.v155 trip_B.sl.v126 trip_B.sl.v151 trip_B.sl.v135 trip_B.sl.v170 trip_B.sl.v120 trip_B.sl.H13_1 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H13 := (pointsTo_rep_of_read (Val := Elt F) (c : Thread nD τ) arg13 _ fullShare (acc (stk (kblk X2 k.val)) X3 X4 1).1 ?gH13) $$ H13
  case gH13 =>
    rw [View.read_writes_full]
    repeat delta trip_B.sl.v152 trip_B.sl.v163 trip_B.sl.v165 trip_B.sl.v161 trip_B.sl.v164 trip_B.sl.v153 trip_B.sl.arg18 trip_B.sl.v149 trip_B.sl.H14_1 trip_B.sl.H11_2 trip_B.sl.v166 trip_B.sl.v155 trip_B.sl.v126 trip_B.sl.v151 trip_B.sl.v135 trip_B.sl.v170 trip_B.sl.v120 trip_B.sl.H13_1 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    rw [e17]; rfl
  ihave H14 := (pointsTo_rep_of_read (Val := Elt F) (c : Thread nD τ) arg14 _ fullShare (acc (stk (kblk X2 k.val)) X3 X4 1).2 ?gH14) $$ H14
  case gH14 =>
    rw [View.read_writes_full]
    repeat delta trip_B.sl.v152 trip_B.sl.v163 trip_B.sl.v165 trip_B.sl.v161 trip_B.sl.v164 trip_B.sl.v153 trip_B.sl.arg18 trip_B.sl.v149 trip_B.sl.H14_1 trip_B.sl.H11_2 trip_B.sl.v166 trip_B.sl.v155 trip_B.sl.v126 trip_B.sl.v151 trip_B.sl.v135 trip_B.sl.v170 trip_B.sl.v120 trip_B.sl.H13_1 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    rw [e17]; rfl
  ihave H16 := (pointsTo_rep_of_read (Val := Elt F) (c : Thread nD τ) arg16 _ fullShare (scr (kblk X3 1) (stk (kblk X2 k.val))) ?gH16) $$ H16
  case gH16 =>
    rw [View.read_writes_full]
    repeat delta trip_B.sl.v152 trip_B.sl.v163 trip_B.sl.v165 trip_B.sl.v161 trip_B.sl.v164 trip_B.sl.v153 trip_B.sl.arg18 trip_B.sl.v149 trip_B.sl.H14_1 trip_B.sl.H11_2 trip_B.sl.v166 trip_B.sl.v155 trip_B.sl.v126 trip_B.sl.v151 trip_B.sl.v135 trip_B.sl.v170 trip_B.sl.v120 trip_B.sl.H13_1 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    try rfl
  repeat rw [wp_bind]
  iapply (wp_wand_r Idealize.ShloMosaic.frame (wpE (defs₀ (F := F)) Variants.none (c : Thread nD τ) none) Set.univ)
  isplitl [H3 H4 H11 H13 H14 H15 H16]
  · iapply (quad_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ X3 X4 (stk (kblk X2 k.val)) d15)
    isplitl [H3]; · iexact H3
    isplitl [H4]; · iexact H4
    isplitl [H11]; · iexact H11
    isplitl [H13]; · iexact H13
    isplitl [H14]; · iexact H14
    isplitl [H15]; · iexact H15
    iexact H16
  iintro %_ ⟨H3, H4, H11, H13, H14, ⟨%d15', H15⟩, H16⟩
  sl_exec
  repeat rw [wp_bind]
  iapply (wp_wand_r Idealize.ShloMosaic.frame (wpE (defs₀ (F := F)) Variants.none (c : Thread nD τ) none) Set.univ)
  isplitr
  · iapply (rest_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ _)
    exact .rfl
  iintro %_ _
  sl_exec
  ihave H10 := (pointsTo_rep_of_read (Val := Elt F) (c : Thread nD τ) arg10 _ fullShare (VecWindow.put O ![0, 512 * k.val, 0] S1x512x128.size (outTile X2 X3 X4 x5 x6 x7 x8 x9 k.val)) ?gH10) $$ H10
  case gH10 =>
    rw [View.read_writes_rep_unit _ _ _ _ (off1 k)]
    unfold outTile fin
    rw [ea]
    repeat delta trip_B.sl.v152 trip_B.sl.v221 trip_B.sl.v163 trip_B.sl.v247 trip_B.sl.v165 trip_B.sl.v161 trip_B.sl.r_2 trip_B.sl.v164 trip_B.sl.arg18 trip_B.sl.v153 trip_B.sl.r_3 trip_B.sl.r_5 trip_B.sl.v149 trip_B.sl.H14_1 trip_B.sl.H11_2 trip_B.sl.v166 trip_B.sl.v155 trip_B.sl.v126 trip_B.sl.v238 trip_B.sl.H14_1_1 trip_B.sl.v151 trip_B.sl.v135 trip_B.sl.v170 trip_B.sl.v120 trip_B.sl.v82 trip_B.sl.r_6 trip_B.sl.H13_1 trip_B.sl.v216 trip_B.sl.r_4 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    try rfl
  ihave H13 := (pointsTo_rep_entails (Val := Elt F) (c : Thread nD τ) arg13 _ fullShare) $$ H13
  ihave H14 := (pointsTo_rep_entails (Val := Elt F) (c : Thread nD τ) arg14 _ fullShare) $$ H14
  ihave H17 := (pointsTo_rep_of_read (Val := Elt F) (c : Thread nD τ) arg17 _ fullShare (scr (kblk X3 0) (stk (kblk X2 (min (k.val + 1) 15)))) ?gH17) $$ H17
  case gH17 =>
    rw [View.read_writes_full]
    repeat delta trip_B.sl.v152 trip_B.sl.v221 trip_B.sl.v163 trip_B.sl.v247 trip_B.sl.v165 trip_B.sl.v161 trip_B.sl.r_2 trip_B.sl.v164 trip_B.sl.arg18 trip_B.sl.v153 trip_B.sl.r_3 trip_B.sl.r_5 trip_B.sl.v149 trip_B.sl.H14_1 trip_B.sl.H11_2 trip_B.sl.v166 trip_B.sl.v155 trip_B.sl.v126 trip_B.sl.v238 trip_B.sl.H14_1_1 trip_B.sl.v151 trip_B.sl.v135 trip_B.sl.v170 trip_B.sl.v120 trip_B.sl.v82 trip_B.sl.r_6 trip_B.sl.H13_1 trip_B.sl.v216 trip_B.sl.r_4 trip_B.sl.r trip_B.sl.v171 trip_B.sl.v162 trip_B.sl.v150 trip_B.sl.v167 trip_B.sl.v154 trip_B.sl.v33 trip_B.sl.v169 trip_B.sl.r_1
    try simp (proj := false) only [hx, acc_fst, acc_snd, View.readCov_full, View.readAt_rep_full, e1, e2, e0, e1t, f0, f12, stk_cov, stk_77, stk_79, pay42_eq, pay46_eq, pay49_eq, pay54_eq, pay58_eq, pay63_eq, nm_43, nm_47, nm_51, nm_55, nm_60, na_44, na_48, na_56, na_87, na_89]
    try rfl
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexact H17

end Cert.AttnIdeal.Hand

end
-- ==== Proof.TripC.lean ====
module

public import proofs.«01_k».proof.Proof.Quad
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- The work on a query tile whose place modulo four is three. -/
theorem trip_C (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (h1 : ¬ k0_cond1 k = 1#1) (h2 : k0_cond2 k = 1#1) (h3 : k0_cond3 k = 1#1) (h4 : k0_cond4 k = 1#1) (h5 : ¬ k0_cond5 k = 1#1)
  (X2 X3 : Vec F S1x8192x128 .bf16) (X4 : Vec F S16x144x512 .bf16) (x5 x6 x7 x8 : Vec F S1x64 .f32) (x9 : Vec F S128x1 .f32) (O : Vec F S1x8192x128 .bf16)
  (d11 d12 : Vec F S128x1024 .bf16) (d13 : Vec F S1x1024 .f32) (d14 : Vec F S144x1024 .f32) (d15 d16 d17 : Vec F S512x1024 .f32)
  (h17 : k.val ≠ 0 → d17 = scr (kblk X3 0) (stk (kblk X2 k.val))) :
    iprop(holds c arg2 X2 ∗ holds c arg3 X3 ∗ holds c arg4 X4 ∗ holds c arg5 x5 ∗ holds c arg6 x6 ∗ holds c arg7 x7 ∗ holds c arg8 x8 ∗ holds c arg9 x9 ∗ holds c arg10 O
        ∗ holds c arg11 d11 ∗ holds c arg12 d12 ∗ holds c arg13 d13 ∗ holds c arg14 d14 ∗ holds c arg15 d15 ∗ holds c arg16 d16 ∗ holds c arg17 d17)
      ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ())
          (fun _ => iprop(holds c arg2 X2 ∗ holds c arg3 X3 ∗ holds c arg4 X4 ∗ holds c arg5 x5 ∗ holds c arg6 x6 ∗ holds c arg7 x7 ∗ holds c arg8 x8 ∗ holds c arg9 x9
        ∗ holds c arg10 (VecWindow.put O ![0, 512 * k.val, 0] S1x512x128.size (outTile X2 X3 X4 x5 x6 x7 x8 x9 k.val))
        ∗ (∃ d, holds c arg11 d) ∗ (∃ d, holds c arg12 d) ∗ (∃ d, holds c arg13 d) ∗ (∃ d, holds c arg14 d) ∗ (∃ d, holds c arg15 d) ∗ (∃ d, holds c arg16 d)
        ∗ holds c arg17 (scr (kblk X3 0) (stk (kblk X2 (min (k.val + 1) 15)))))) := by
  unfold k0_t1_body
  iintro ⟨H2, H3, H4, H5, H6, H7, H8, H9, H10, H11, H12, H13, H14, H15, H16, H17⟩
  rw [k0_part19_eq_skeleton]
  sl_unfold [k0_part19_skel]
  rw [k0_part17_eq_skeleton, k0_part18_eq_skeleton]
  sl_unfold [k0_part18_skel]
  rw [k0_part15_eq_skeleton, k0_part16_eq_skeleton]
  sl_unfold [k0_part16_skel]
  rw [k0_part10_eq_skeleton, k0_part11_eq_skeleton, k0_part12_eq_skeleton]
  have hk : k.val ≠ 0 := (cond2 k).1 h2
  have hk3 : 2 ≤ (k.val - 1) % 4 := (cond3 k h2).1 h3
  have hk4 : k.val % 2 = 1 := (cond4 k).1 h4
  have hn : k.val = 4 * ((k.val - 1) / 4) + 1 + 1 + 1 := by omega
  have hx : kblk X3 (4 * ((k.val - 1) / 4) + 1 + 1 + 1) = kblk X3 k.val := by rw [← hn]
  have e17 := h17 hk
  have ea : ∀ q : Vec F S128x1024 .bf16, acc q X3 X4 k.val = acc q X3 X4 (4 * ((k.val - 1) / 4) + 1 + 1 + 1) := by intro q; congr 1
  have e1 := fun inb => load_k (F := F) arg2.view X2 k.val inb (off1 k)
  have e2 := fun inb => load_k (F := F) arg2.view X2 (min (k.val + 1) 15) inb (off2 k)
  have e0 := fun inb => load_k (F := F) arg3.view X3 0 (off := ![0, 0, 0]) inb rfl
  have e1t := fun inb => load_k (F := F) arg3.view X3 1 (off := ![0, 512, 0]) inb rfl
  have f0 := fun inb => load_v (F := F) arg4.view X4 0 (off := ![0, 0, 0]) inb rfl
  have e9a := fun inb => load_k (F := F) arg3.view X3 (4 * ((k.val - 1) / 4) + 1 + 1) inb (off9_1 k h2)
  have e9b := fun inb => load_k (F := F) arg3.view X3 (4 * ((k.val - 1) / 4) + 1 + 1 + 1) inb (off9_2 k h2)
  have f10 := fun inb => load_v (F := F) arg4.view X4 (4 * ((k.val - 1) / 4) + 1) inb (off10 k h2)
  have f11 := fun inb => load_v (F := F) arg4.view X4 (4 * ((k.val - 1) / 4) + 1 + 1) inb (off11 k h2)
  have f12 := fun inb => load_v (F := F) arg4.view X4 k.val inb (off12 k)
  sl_exec
  ihave H11 := (pointsTo_rep_of_read (Val := Elt F) (c : Thread nD τ) arg11 _ fullShare (stk (kblk X2 k.val)) ?gH11) $$ H11
  case gH11 =>
    repeat delta trip_C.sl.v149 trip_C.sl.v153 trip_C.sl.arg18 trip_C.sl.v167 trip_C.sl.v162 trip_C.sl.v150 trip_C.sl.v165 trip_C.sl.v161 trip_C.sl.v163 trip_C.sl.v171 trip_C.sl.v154 trip_C.sl.v33 trip_C.sl.v135 trip_C.sl.v151 trip_C.sl.v166 trip_C.sl.v155 trip_C.sl.v126 trip_C.sl.H14_1 trip_C.sl.H11_2 trip_C.sl.r trip_C.sl.v164 trip_C.sl.H13_1 trip_C.sl.v170 trip_C.sl.v120 trip_C.sl.v152 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H12 := (pointsTo_rep_of_read (Val := Elt F) (c : Thread nD τ) arg12 _ fullShare (stk (kblk X2 (min (k.val + 1) 15))) ?gH12) $$ H12
  case gH12 =>
    repeat delta trip_C.sl.v149 trip_C.sl.v153 trip_C.sl.arg18 trip_C.sl.v167 trip_C.sl.v162 trip_C.sl.v150 trip_C.sl.v165 trip_C.sl.v161 trip_C.sl.v163 trip_C.sl.v171 trip_C.sl.v154 trip_C.sl.v33 trip_C.sl.v135 trip_C.sl.v151 trip_C.sl.v166 trip_C.sl.v155 trip_C.sl.v126 trip_C.sl.H14_1 trip_C.sl.H11_2 trip_C.sl.r trip_C.sl.v164 trip_C.sl.H13_1 trip_C.sl.v170 trip_C.sl.v120 trip_C.sl.v152 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H13 := (pointsTo_rep_of_read (Val := Elt F) (c : Thread nD τ) arg13 _ fullShare (acc (stk (kblk X2 k.val)) X3 X4 1).1 ?gH13) $$ H13
  case gH13 =>
    rw [View.read_writes_full]
    repeat delta trip_C.sl.v149 trip_C.sl.v153 trip_C.sl.arg18 trip_C.sl.v167 trip_C.sl.v162 trip_C.sl.v150 trip_C.sl.v165 trip_C.sl.v161 trip_C.sl.v163 trip_C.sl.v171 trip_C.sl.v154 trip_C.sl.v33 trip_C.sl.v135 trip_C.sl.v151 trip_C.sl.v166 trip_C.sl.v155 trip_C.sl.v126 trip_C.sl.H14_1 trip_C.sl.H11_2 trip_C.sl.r trip_C.sl.v164 trip_C.sl.H13_1 trip_C.sl.v170 trip_C.sl.v120 trip_C.sl.v152 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    rw [e17]; rfl
  ihave H14 := (pointsTo_rep_of_read (Val := Elt F) (c : Thread nD τ) arg14 _ fullShare (acc (stk (kblk X2 k.val)) X3 X4 1).2 ?gH14) $$ H14
  case gH14 =>
    rw [View.read_writes_full]
    repeat delta trip_C.sl.v149 trip_C.sl.v153 trip_C.sl.arg18 trip_C.sl.v167 trip_C.sl.v162 trip_C.sl.v150 trip_C.sl.v165 trip_C.sl.v161 trip_C.sl.v163 trip_C.sl.v171 trip_C.sl.v154 trip_C.sl.v33 trip_C.sl.v135 trip_C.sl.v151 trip_C.sl.v166 trip_C.sl.v155 trip_C.sl.v126 trip_C.sl.H14_1 trip_C.sl.H11_2 trip_C.sl.r trip_C.sl.v164 trip_C.sl.H13_1 trip_C.sl.v170 trip_C.sl.v120 trip_C.sl.v152 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    rw [e17]; rfl
  ihave H16 := (pointsTo_rep_of_read (Val := Elt F) (c : Thread nD τ) arg16 _ fullShare (scr (kblk X3 1) (stk (kblk X2 k.val))) ?gH16) $$ H16
  case gH16 =>
    rw [View.read_writes_full]
    repeat delta trip_C.sl.v149 trip_C.sl.v153 trip_C.sl.arg18 trip_C.sl.v167 trip_C.sl.v162 trip_C.sl.v150 trip_C.sl.v165 trip_C.sl.v161 trip_C.sl.v163 trip_C.sl.v171 trip_C.sl.v154 trip_C.sl.v33 trip_C.sl.v135 trip_C.sl.v151 trip_C.sl.v166 trip_C.sl.v155 trip_C.sl.v126 trip_C.sl.H14_1 trip_C.sl.H11_2 trip_C.sl.r trip_C.sl.v164 trip_C.sl.H13_1 trip_C.sl.v170 trip_C.sl.v120 trip_C.sl.v152 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    try rfl
  repeat rw [wp_bind]
  iapply (wp_wand_r Idealize.ShloMosaic.frame (wpE (defs₀ (F := F)) Variants.none (c : Thread nD τ) none) Set.univ)
  isplitl [H3 H4 H11 H13 H14 H15 H16]
  · iapply (quad_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ X3 X4 (stk (kblk X2 k.val)) d15)
    isplitl [H3]; · iexact H3
    isplitl [H4]; · iexact H4
    isplitl [H11]; · iexact H11
    isplitl [H13]; · iexact H13
    isplitl [H14]; · iexact H14
    isplitl [H15]; · iexact H15
    iexact H16
  iintro %_ ⟨H3, H4, H11, H13, H14, ⟨%d15', H15⟩, H16⟩
  sl_exec
  repeat rw [wp_bind]
  iapply (wp_wand_r Idealize.ShloMosaic.frame (wpE (defs₀ (F := F)) Variants.none (c : Thread nD τ) none) Set.univ)
  isplitr
  · iapply (rest_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ _)
    exact .rfl
  iintro %_ _
  sl_exec
  ihave H10 := (pointsTo_rep_of_read (Val := Elt F) (c : Thread nD τ) arg10 _ fullShare (VecWindow.put O ![0, 512 * k.val, 0] S1x512x128.size (outTile X2 X3 X4 x5 x6 x7 x8 x9 k.val)) ?gH10) $$ H10
  case gH10 =>
    rw [View.read_writes_rep_unit _ _ _ _ (off1 k)]
    unfold outTile fin
    rw [ea]
    repeat delta trip_C.sl.r_5 trip_C.sl.v149 trip_C.sl.v225 trip_C.sl.v153 trip_C.sl.arg18 trip_C.sl.r_3 trip_C.sl.v167 trip_C.sl.v162 trip_C.sl.v150 trip_C.sl.v161 trip_C.sl.v247 trip_C.sl.v165 trip_C.sl.v221 trip_C.sl.v163 trip_C.sl.H16_1 trip_C.sl.v213 trip_C.sl.v212 trip_C.sl.v263 trip_C.sl.v171 trip_C.sl.v226 trip_C.sl.r_7 trip_C.sl.H13_1_1 trip_C.sl.v272 trip_C.sl.H15_1 trip_C.sl.v154 trip_C.sl.v33 trip_C.sl.v135 trip_C.sl.H14_1_1 trip_C.sl.v235 trip_C.sl.v151 trip_C.sl.r_9 trip_C.sl.v126 trip_C.sl.v262 trip_C.sl.v166 trip_C.sl.v155 trip_C.sl.H14_1 trip_C.sl.H11_2 trip_C.sl.r_4 trip_C.sl.r trip_C.sl.r_8 trip_C.sl.H13_2 trip_C.sl.v216 trip_C.sl.r_2 trip_C.sl.v164 trip_C.sl.v82 trip_C.sl.r_6 trip_C.sl.H13_1 trip_C.sl.H14_3 trip_C.sl.v170 trip_C.sl.v120 trip_C.sl.v152 trip_C.sl.v238 trip_C.sl.H14_2 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    try rfl
  ihave H13 := (pointsTo_rep_entails (Val := Elt F) (c : Thread nD τ) arg13 _ fullShare) $$ H13
  ihave H14 := (pointsTo_rep_entails (Val := Elt F) (c : Thread nD τ) arg14 _ fullShare) $$ H14
  ihave H15 := (pointsTo_rep_entails (Val := Elt F) (c : Thread nD τ) arg15 _ fullShare) $$ H15
  ihave H16 := (pointsTo_rep_entails (Val := Elt F) (c : Thread nD τ) arg16 _ fullShare) $$ H16
  ihave H17 := (pointsTo_rep_of_read (Val := Elt F) (c : Thread nD τ) arg17 _ fullShare (scr (kblk X3 0) (stk (kblk X2 (min (k.val + 1) 15)))) ?gH17) $$ H17
  case gH17 =>
    rw [View.read_writes_full]
    repeat delta trip_C.sl.r_5 trip_C.sl.v149 trip_C.sl.v225 trip_C.sl.v153 trip_C.sl.arg18 trip_C.sl.r_3 trip_C.sl.v167 trip_C.sl.v162 trip_C.sl.v150 trip_C.sl.v161 trip_C.sl.v247 trip_C.sl.v165 trip_C.sl.v221 trip_C.sl.v163 trip_C.sl.H16_1 trip_C.sl.v213 trip_C.sl.v212 trip_C.sl.v263 trip_C.sl.v171 trip_C.sl.v226 trip_C.sl.r_7 trip_C.sl.H13_1_1 trip_C.sl.v272 trip_C.sl.H15_1 trip_C.sl.v154 trip_C.sl.v33 trip_C.sl.v135 trip_C.sl.H14_1_1 trip_C.sl.v235 trip_C.sl.v151 trip_C.sl.r_9 trip_C.sl.v126 trip_C.sl.v262 trip_C.sl.v166 trip_C.sl.v155 trip_C.sl.H14_1 trip_C.sl.H11_2 trip_C.sl.r_4 trip_C.sl.r trip_C.sl.r_8 trip_C.sl.H13_2 trip_C.sl.v216 trip_C.sl.r_2 trip_C.sl.v164 trip_C.sl.v82 trip_C.sl.r_6 trip_C.sl.H13_1 trip_C.sl.H14_3 trip_C.sl.v170 trip_C.sl.v120 trip_C.sl.v152 trip_C.sl.v238 trip_C.sl.H14_2 trip_C.sl.v169 trip_C.sl.r_1
    try simp (proj := false) only [hx, acc_fst, acc_snd, View.readCov_full, View.readAt_rep_full, e1, e2, e0, e1t, f0, e9a, e9b, f10, f11, f12, stk_cov, stk_77, stk_79, pay42_eq, pay46_eq, pay49_eq, pay54_eq, pay58_eq, pay63_eq, nm_43, nm_47, nm_51, nm_55, nm_60, na_44, na_48, na_56, na_87, na_89]
    try rfl
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexact H17

end Cert.AttnIdeal.Hand

end
-- ==== Proof.TripD.lean ====
module

public import proofs.«01_k».proof.Proof.Quad
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- The work on a query tile whose place modulo four is two. -/
theorem trip_D (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (h1 : ¬ k0_cond1 k = 1#1) (h2 : k0_cond2 k = 1#1) (h3 : ¬ k0_cond3 k = 1#1) (h4 : ¬ k0_cond4 k = 1#1) (h5 : k0_cond5 k = 1#1)
  (X2 X3 : Vec F S1x8192x128 .bf16) (X4 : Vec F S16x144x512 .bf16) (x5 x6 x7 x8 : Vec F S1x64 .f32) (x9 : Vec F S128x1 .f32) (O : Vec F S1x8192x128 .bf16)
  (d11 d12 : Vec F S128x1024 .bf16) (d13 : Vec F S1x1024 .f32) (d14 : Vec F S144x1024 .f32) (d15 d16 d17 : Vec F S512x1024 .f32)
  (h17 : k.val ≠ 0 → d17 = scr (kblk X3 0) (stk (kblk X2 k.val))) :
    iprop(holds c arg2 X2 ∗ holds c arg3 X3 ∗ holds c arg4 X4 ∗ holds c arg5 x5 ∗ holds c arg6 x6 ∗ holds c arg7 x7 ∗ holds c arg8 x8 ∗ holds c arg9 x9 ∗ holds c arg10 O
        ∗ holds c arg11 d11 ∗ holds c arg12 d12 ∗ holds c arg13 d13 ∗ holds c arg14 d14 ∗ holds c arg15 d15 ∗ holds c arg16 d16 ∗ holds c arg17 d17)
      ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ())
          (fun _ => iprop(holds c arg2 X2 ∗ holds c arg3 X3 ∗ holds c arg4 X4 ∗ holds c arg5 x5 ∗ holds c arg6 x6 ∗ holds c arg7 x7 ∗ holds c arg8 x8 ∗ holds c arg9 x9
        ∗ holds c arg10 (VecWindow.put O ![0, 512 * k.val, 0] S1x512x128.size (outTile X2 X3 X4 x5 x6 x7 x8 x9 k.val))
        ∗ (∃ d, holds c arg11 d) ∗ (∃ d, holds c arg12 d) ∗ (∃ d, holds c arg13 d) ∗ (∃ d, holds c arg14 d) ∗ (∃ d, holds c arg15 d) ∗ (∃ d, holds c arg16 d)
        ∗ holds c arg17 (scr (kblk X3 0) (stk (kblk X2 (min (k.val + 1) 15)))))) := by
  unfold k0_t1_body
  iintro ⟨H2, H3, H4, H5, H6, H7, H8, H9, H10, H11, H12, H13, H14, H15, H16, H17⟩
  rw [k0_part19_eq_skeleton]
  sl_unfold [k0_part19_skel]
  rw [k0_part17_eq_skeleton, k0_part18_eq_skeleton]
  sl_unfold [k0_part18_skel]
  rw [k0_part15_eq_skeleton, k0_part16_eq_skeleton]
  sl_unfold [k0_part16_skel]
  rw [k0_part13_eq_skeleton, k0_part14_eq_skeleton]
  have hk : k.val ≠ 0 := (cond2 k).1 h2
  have hk3 : ¬ 2 ≤ (k.val - 1) % 4 := fun hc => h3 ((cond3 k h2).2 hc)
  have hk4 : k.val % 2 = 0 := (cond5 k).1 h5
  have hn : k.val = 4 * ((k.val - 1) / 4) + 1 + 1 := by omega
  have hx : kblk X3 (4 * ((k.val - 1) / 4) + 1 + 1) = kblk X3 k.val := by rw [← hn]
  have e17 := h17 hk
  have ea : ∀ q : Vec F S128x1024 .bf16, acc q X3 X4 k.val = acc q X3 X4 (4 * ((k.val - 1) / 4) + 1 + 1) := by intro q; congr 1
  have e1 := fun inb => load_k (F := F) arg2.view X2 k.val inb (off1 k)
  have e2 := fun inb => load_k (F := F) arg2.view X2 (min (k.val + 1) 15) inb (off2 k)
  have e0 := fun inb => load_k (F := F) arg3.view X3 0 (off := ![0, 0, 0]) inb rfl
  have e1t := fun inb => load_k (F := F) arg3.view X3 1 (off := ![0, 512, 0]) inb rfl
  have f0 := fun inb => load_v (F := F) arg4.view X4 0 (off := ![0, 0, 0]) inb rfl
  have hp : k.val - 1 = 4 * ((k.val - 1) / 4) + 1 := by omega
  have e13 := fun inb => load_k (F := F) arg3.view X3 k.val inb (off13 k)
  have o14 := off14 k h2
  rw [hp] at o14
  have f14 := fun inb => load_v (F := F) arg4.view X4 (4 * ((k.val - 1) / 4) + 1) inb o14
  have f15 := fun inb => load_v (F := F) arg4.view X4 k.val inb (off15 k)
  sl_exec
  ihave H11 := (pointsTo_rep_of_read (Val := Elt F) (c : Thread nD τ) arg11 _ fullShare (stk (kblk X2 k.val)) ?gH11) $$ H11
  case gH11 =>
    repeat delta trip_D.sl.v151 trip_D.sl.r trip_D.sl.v166 trip_D.sl.v155 trip_D.sl.v126 trip_D.sl.v149 trip_D.sl.v170 trip_D.sl.v120 trip_D.sl.v135 trip_D.sl.v163 trip_D.sl.v152 trip_D.sl.H14_1 trip_D.sl.H11_2 trip_D.sl.v153 trip_D.sl.arg18 trip_D.sl.v164 trip_D.sl.v169 trip_D.sl.r_1 trip_D.sl.v165 trip_D.sl.v161 trip_D.sl.v167 trip_D.sl.v171 trip_D.sl.v154 trip_D.sl.v33 trip_D.sl.v162 trip_D.sl.v150 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H12 := (pointsTo_rep_of_read (Val := Elt F) (c : Thread nD τ) arg12 _ fullShare (stk (kblk X2 (min (k.val + 1) 15))) ?gH12) $$ H12
  case gH12 =>
    repeat delta trip_D.sl.v151 trip_D.sl.r trip_D.sl.v166 trip_D.sl.v155 trip_D.sl.v126 trip_D.sl.v149 trip_D.sl.v170 trip_D.sl.v120 trip_D.sl.v135 trip_D.sl.v163 trip_D.sl.v152 trip_D.sl.H14_1 trip_D.sl.H11_2 trip_D.sl.v153 trip_D.sl.arg18 trip_D.sl.v164 trip_D.sl.v169 trip_D.sl.r_1 trip_D.sl.v165 trip_D.sl.v161 trip_D.sl.v167 trip_D.sl.v171 trip_D.sl.v154 trip_D.sl.v33 trip_D.sl.v162 trip_D.sl.v150 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H13 := (pointsTo_rep_of_read (Val := Elt F) (c : Thread nD τ) arg13 _ fullShare (acc (stk (kblk X2 k.val)) X3 X4 1).1 ?gH13) $$ H13
  case gH13 =>
    rw [View.read_writes_full]
    repeat delta trip_D.sl.v151 trip_D.sl.r trip_D.sl.v166 trip_D.sl.v155 trip_D.sl.v126 trip_D.sl.v149 trip_D.sl.v170 trip_D.sl.v120 trip_D.sl.v135 trip_D.sl.v163 trip_D.sl.v152 trip_D.sl.H14_1 trip_D.sl.H11_2 trip_D.sl.v153 trip_D.sl.arg18 trip_D.sl.v164 trip_D.sl.v169 trip_D.sl.r_1 trip_D.sl.v165 trip_D.sl.v161 trip_D.sl.v167 trip_D.sl.v171 trip_D.sl.v154 trip_D.sl.v33 trip_D.sl.v162 trip_D.sl.v150 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    rw [e17]; rfl
  ihave H14 := (pointsTo_rep_of_read (Val := Elt F) (c : Thread nD τ) arg14 _ fullShare (acc (stk (kblk X2 k.val)) X3 X4 1).2 ?gH14) $$ H14
  case gH14 =>
    rw [View.read_writes_full]
    repeat delta trip_D.sl.v151 trip_D.sl.r trip_D.sl.v166 trip_D.sl.v155 trip_D.sl.v126 trip_D.sl.v149 trip_D.sl.v170 trip_D.sl.v120 trip_D.sl.v135 trip_D.sl.v163 trip_D.sl.v152 trip_D.sl.H14_1 trip_D.sl.H11_2 trip_D.sl.v153 trip_D.sl.arg18 trip_D.sl.v164 trip_D.sl.v169 trip_D.sl.r_1 trip_D.sl.v165 trip_D.sl.v161 trip_D.sl.v167 trip_D.sl.v171 trip_D.sl.v154 trip_D.sl.v33 trip_D.sl.v162 trip_D.sl.v150 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    rw [e17]; rfl
  ihave H16 := (pointsTo_rep_of_read (Val := Elt F) (c : Thread nD τ) arg16 _ fullShare (scr (kblk X3 1) (stk (kblk X2 k.val))) ?gH16) $$ H16
  case gH16 =>
    rw [View.read_writes_full]
    repeat delta trip_D.sl.v151 trip_D.sl.r trip_D.sl.v166 trip_D.sl.v155 trip_D.sl.v126 trip_D.sl.v149 trip_D.sl.v170 trip_D.sl.v120 trip_D.sl.v135 trip_D.sl.v163 trip_D.sl.v152 trip_D.sl.H14_1 trip_D.sl.H11_2 trip_D.sl.v153 trip_D.sl.arg18 trip_D.sl.v164 trip_D.sl.v169 trip_D.sl.r_1 trip_D.sl.v165 trip_D.sl.v161 trip_D.sl.v167 trip_D.sl.v171 trip_D.sl.v154 trip_D.sl.v33 trip_D.sl.v162 trip_D.sl.v150 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    try rfl
  repeat rw [wp_bind]
  iapply (wp_wand_r Idealize.ShloMosaic.frame (wpE (defs₀ (F := F)) Variants.none (c : Thread nD τ) none) Set.univ)
  isplitl [H3 H4 H11 H13 H14 H15 H16]
  · iapply (quad_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ X3 X4 (stk (kblk X2 k.val)) d15)
    isplitl [H3]; · iexact H3
    isplitl [H4]; · iexact H4
    isplitl [H11]; · iexact H11
    isplitl [H13]; · iexact H13
    isplitl [H14]; · iexact H14
    isplitl [H15]; · iexact H15
    iexact H16
  iintro %_ ⟨H3, H4, H11, H13, H14, ⟨%d15', H15⟩, H16⟩
  sl_exec
  repeat rw [wp_bind]
  iapply (wp_wand_r Idealize.ShloMosaic.frame (wpE (defs₀ (F := F)) Variants.none (c : Thread nD τ) none) Set.univ)
  isplitr
  · iapply (rest_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ _)
    exact .rfl
  iintro %_ _
  sl_exec
  ihave H10 := (pointsTo_rep_of_read (Val := Elt F) (c : Thread nD τ) arg10 _ fullShare (VecWindow.put O ![0, 512 * k.val, 0] S1x512x128.size (outTile X2 X3 X4 x5 x6 x7 x8 x9 k.val)) ?gH10) $$ H10
  case gH10 =>
    rw [View.read_writes_rep_unit _ _ _ _ (off1 k)]
    unfold outTile fin
    rw [ea]
    repeat delta trip_D.sl.H14_1_1 trip_D.sl.v151 trip_D.sl.r_4 trip_D.sl.r trip_D.sl.H14_2 trip_D.sl.v166 trip_D.sl.v155 trip_D.sl.v126 trip_D.sl.r_5 trip_D.sl.v149 trip_D.sl.v170 trip_D.sl.v120 trip_D.sl.v135 trip_D.sl.v283 trip_D.sl.v163 trip_D.sl.v224 trip_D.sl.v152 trip_D.sl.H14_1 trip_D.sl.H11_2 trip_D.sl.v257 trip_D.sl.arg18 trip_D.sl.r_3 trip_D.sl.v153 trip_D.sl.v274 trip_D.sl.r_2 trip_D.sl.v164 trip_D.sl.v169 trip_D.sl.r_1 trip_D.sl.v165 trip_D.sl.v161 trip_D.sl.v252 trip_D.sl.v233 trip_D.sl.v167 trip_D.sl.v171 trip_D.sl.H15_1 trip_D.sl.v154 trip_D.sl.v33 trip_D.sl.r_7 trip_D.sl.H13_1_1 trip_D.sl.v223 trip_D.sl.v162 trip_D.sl.v150 trip_D.sl.v82 trip_D.sl.r_6 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    try rfl
  ihave H13 := (pointsTo_rep_entails (Val := Elt F) (c : Thread nD τ) arg13 _ fullShare) $$ H13
  ihave H14 := (pointsTo_rep_entails (Val := Elt F) (c : Thread nD τ) arg14 _ fullShare) $$ H14
  ihave H15 := (pointsTo_rep_entails (Val := Elt F) (c : Thread nD τ) arg15 _ fullShare) $$ H15
  ihave H17 := (pointsTo_rep_of_read (Val := Elt F) (c : Thread nD τ) arg17 _ fullShare (scr (kblk X3 0) (stk (kblk X2 (min (k.val + 1) 15)))) ?gH17) $$ H17
  case gH17 =>
    rw [View.read_writes_full]
    repeat delta trip_D.sl.H14_1_1 trip_D.sl.v151 trip_D.sl.r_4 trip_D.sl.r trip_D.sl.H14_2 trip_D.sl.v166 trip_D.sl.v155 trip_D.sl.v126 trip_D.sl.r_5 trip_D.sl.v149 trip_D.sl.v170 trip_D.sl.v120 trip_D.sl.v135 trip_D.sl.v283 trip_D.sl.v163 trip_D.sl.v224 trip_D.sl.v152 trip_D.sl.H14_1 trip_D.sl.H11_2 trip_D.sl.v257 trip_D.sl.arg18 trip_D.sl.r_3 trip_D.sl.v153 trip_D.sl.v274 trip_D.sl.r_2 trip_D.sl.v164 trip_D.sl.v169 trip_D.sl.r_1 trip_D.sl.v165 trip_D.sl.v161 trip_D.sl.v252 trip_D.sl.v233 trip_D.sl.v167 trip_D.sl.v171 trip_D.sl.H15_1 trip_D.sl.v154 trip_D.sl.v33 trip_D.sl.r_7 trip_D.sl.H13_1_1 trip_D.sl.v223 trip_D.sl.v162 trip_D.sl.v150 trip_D.sl.v82 trip_D.sl.r_6 trip_D.sl.H13_1
    try simp (proj := false) only [hx, acc_fst, acc_snd, View.readCov_full, View.readAt_rep_full, e1, e2, e0, e1t, f0, e13, f14, f15, stk_cov, stk_77, stk_79, pay42_eq, pay46_eq, pay49_eq, pay54_eq, pay58_eq, pay63_eq, nm_43, nm_47, nm_51, nm_55, nm_60, na_44, na_48, na_56, na_87, na_89]
    try rfl
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexact H17

end Cert.AttnIdeal.Hand

end
-- ==== Proof.TripE.lean ====
module

public import proofs.«01_k».proof.Proof.Quad
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- The work on a query tile after the first whose place modulo four is zero. -/
theorem trip_E (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips) (h1 : ¬ k0_cond1 k = 1#1) (h2 : k0_cond2 k = 1#1) (h3 : k0_cond3 k = 1#1) (h4 : ¬ k0_cond4 k = 1#1) (h5 : k0_cond5 k = 1#1)
  (X2 X3 : Vec F S1x8192x128 .bf16) (X4 : Vec F S16x144x512 .bf16) (x5 x6 x7 x8 : Vec F S1x64 .f32) (x9 : Vec F S128x1 .f32) (O : Vec F S1x8192x128 .bf16)
  (d11 d12 : Vec F S128x1024 .bf16) (d13 : Vec F S1x1024 .f32) (d14 : Vec F S144x1024 .f32) (d15 d16 d17 : Vec F S512x1024 .f32)
  (h17 : k.val ≠ 0 → d17 = scr (kblk X3 0) (stk (kblk X2 k.val))) :
    iprop(holds c arg2 X2 ∗ holds c arg3 X3 ∗ holds c arg4 X4 ∗ holds c arg5 x5 ∗ holds c arg6 x6 ∗ holds c arg7 x7 ∗ holds c arg8 x8 ∗ holds c arg9 x9 ∗ holds c arg10 O
        ∗ holds c arg11 d11 ∗ holds c arg12 d12 ∗ holds c arg13 d13 ∗ holds c arg14 d14 ∗ holds c arg15 d15 ∗ holds c arg16 d16 ∗ holds c arg17 d17)
      ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ())
          (fun _ => iprop(holds c arg2 X2 ∗ holds c arg3 X3 ∗ holds c arg4 X4 ∗ holds c arg5 x5 ∗ holds c arg6 x6 ∗ holds c arg7 x7 ∗ holds c arg8 x8 ∗ holds c arg9 x9
        ∗ holds c arg10 (VecWindow.put O ![0, 512 * k.val, 0] S1x512x128.size (outTile X2 X3 X4 x5 x6 x7 x8 x9 k.val))
        ∗ (∃ d, holds c arg11 d) ∗ (∃ d, holds c arg12 d) ∗ (∃ d, holds c arg13 d) ∗ (∃ d, holds c arg14 d) ∗ (∃ d, holds c arg15 d) ∗ (∃ d, holds c arg16 d)
        ∗ holds c arg17 (scr (kblk X3 0) (stk (kblk X2 (min (k.val + 1) 15)))))) := by
  unfold k0_t1_body
  iintro ⟨H2, H3, H4, H5, H6, H7, H8, H9, H10, H11, H12, H13, H14, H15, H16, H17⟩
  rw [k0_part19_eq_skeleton]
  sl_unfold [k0_part19_skel]
  rw [k0_part17_eq_skeleton, k0_part18_eq_skeleton]
  sl_unfold [k0_part18_skel]
  rw [k0_part15_eq_skeleton, k0_part16_eq_skeleton]
  sl_unfold [k0_part16_skel]
  rw [k0_part10_eq_skeleton, k0_part11_eq_skeleton, k0_part13_eq_skeleton, k0_part14_eq_skeleton]
  have hk : k.val ≠ 0 := (cond2 k).1 h2
  have hk3 : 2 ≤ (k.val - 1) % 4 := (cond3 k h2).1 h3
  have hk4 : k.val % 2 = 0 := (cond5 k).1 h5
  have hn : k.val = 4 * ((k.val - 1) / 4) + 1 + 1 + 1 + 1 := by omega
  have hx : kblk X3 (4 * ((k.val - 1) / 4) + 1 + 1 + 1 + 1) = kblk X3 k.val := by rw [← hn]
  have e17 := h17 hk
  have ea : ∀ q : Vec F S128x1024 .bf16, acc q X3 X4 k.val = acc q X3 X4 (4 * ((k.val - 1) / 4) + 1 + 1 + 1 + 1) := by intro q; congr 1
  have e1 := fun inb => load_k (F := F) arg2.view X2 k.val inb (off1 k)
  have e2 := fun inb => load_k (F := F) arg2.view X2 (min (k.val + 1) 15) inb (off2 k)
  have e0 := fun inb => load_k (F := F) arg3.view X3 0 (off := ![0, 0, 0]) inb rfl
  have e1t := fun inb => load_k (F := F) arg3.view X3 1 (off := ![0, 512, 0]) inb rfl
  have f0 := fun inb => load_v (F := F) arg4.view X4 0 (off := ![0, 0, 0]) inb rfl
  have e9a := fun inb => load_k (F := F) arg3.view X3 (4 * ((k.val - 1) / 4) + 1 + 1) inb (off9_1 k h2)
  have e9b := fun inb => load_k (F := F) arg3.view X3 (4 * ((k.val - 1) / 4) + 1 + 1 + 1) inb (off9_2 k h2)
  have f10 := fun inb => load_v (F := F) arg4.view X4 (4 * ((k.val - 1) / 4) + 1) inb (off10 k h2)
  have f11 := fun inb => load_v (F := F) arg4.view X4 (4 * ((k.val - 1) / 4) + 1 + 1) inb (off11 k h2)
  have hp : k.val - 1 = 4 * ((k.val - 1) / 4) + 1 + 1 + 1 := by omega
  have e13 := fun inb => load_k (F := F) arg3.view X3 k.val inb (off13 k)
  have o14 := off14 k h2
  rw [hp] at o14
  have f14 := fun inb => load_v (F := F) arg4.view X4 (4 * ((k.val - 1) / 4) + 1 + 1 + 1) inb o14
  have f15 := fun inb => load_v (F := F) arg4.view X4 k.val inb (off15 k)
  sl_exec
  ihave H11 := (pointsTo_rep_of_read (Val := Elt F) (c : Thread nD τ) arg11 _ fullShare (stk (kblk X2 k.val)) ?gH11) $$ H11
  case gH11 =>
    repeat delta trip_E.sl.r trip_E.sl.v151 trip_E.sl.H13_1 trip_E.sl.v162 trip_E.sl.v150 trip_E.sl.v154 trip_E.sl.v33 trip_E.sl.v171 trip_E.sl.v167 trip_E.sl.v165 trip_E.sl.v161 trip_E.sl.v169 trip_E.sl.r_1 trip_E.sl.v164 trip_E.sl.v153 trip_E.sl.arg18 trip_E.sl.H14_1 trip_E.sl.H11_2 trip_E.sl.v152 trip_E.sl.v163 trip_E.sl.v135 trip_E.sl.v170 trip_E.sl.v120 trip_E.sl.v149 trip_E.sl.v166 trip_E.sl.v155 trip_E.sl.v126
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H12 := (pointsTo_rep_of_read (Val := Elt F) (c : Thread nD τ) arg12 _ fullShare (stk (kblk X2 (min (k.val + 1) 15))) ?gH12) $$ H12
  case gH12 =>
    repeat delta trip_E.sl.r trip_E.sl.v151 trip_E.sl.H13_1 trip_E.sl.v162 trip_E.sl.v150 trip_E.sl.v154 trip_E.sl.v33 trip_E.sl.v171 trip_E.sl.v167 trip_E.sl.v165 trip_E.sl.v161 trip_E.sl.v169 trip_E.sl.r_1 trip_E.sl.v164 trip_E.sl.v153 trip_E.sl.arg18 trip_E.sl.H14_1 trip_E.sl.H11_2 trip_E.sl.v152 trip_E.sl.v163 trip_E.sl.v135 trip_E.sl.v170 trip_E.sl.v120 trip_E.sl.v149 trip_E.sl.v166 trip_E.sl.v155 trip_E.sl.v126
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    first | exact stk_read _ _ _ _ _ | rfl
  ihave H13 := (pointsTo_rep_of_read (Val := Elt F) (c : Thread nD τ) arg13 _ fullShare (acc (stk (kblk X2 k.val)) X3 X4 1).1 ?gH13) $$ H13
  case gH13 =>
    rw [View.read_writes_full]
    repeat delta trip_E.sl.r trip_E.sl.v151 trip_E.sl.H13_1 trip_E.sl.v162 trip_E.sl.v150 trip_E.sl.v154 trip_E.sl.v33 trip_E.sl.v171 trip_E.sl.v167 trip_E.sl.v165 trip_E.sl.v161 trip_E.sl.v169 trip_E.sl.r_1 trip_E.sl.v164 trip_E.sl.v153 trip_E.sl.arg18 trip_E.sl.H14_1 trip_E.sl.H11_2 trip_E.sl.v152 trip_E.sl.v163 trip_E.sl.v135 trip_E.sl.v170 trip_E.sl.v120 trip_E.sl.v149 trip_E.sl.v166 trip_E.sl.v155 trip_E.sl.v126
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    rw [e17]; rfl
  ihave H14 := (pointsTo_rep_of_read (Val := Elt F) (c : Thread nD τ) arg14 _ fullShare (acc (stk (kblk X2 k.val)) X3 X4 1).2 ?gH14) $$ H14
  case gH14 =>
    rw [View.read_writes_full]
    repeat delta trip_E.sl.r trip_E.sl.v151 trip_E.sl.H13_1 trip_E.sl.v162 trip_E.sl.v150 trip_E.sl.v154 trip_E.sl.v33 trip_E.sl.v171 trip_E.sl.v167 trip_E.sl.v165 trip_E.sl.v161 trip_E.sl.v169 trip_E.sl.r_1 trip_E.sl.v164 trip_E.sl.v153 trip_E.sl.arg18 trip_E.sl.H14_1 trip_E.sl.H11_2 trip_E.sl.v152 trip_E.sl.v163 trip_E.sl.v135 trip_E.sl.v170 trip_E.sl.v120 trip_E.sl.v149 trip_E.sl.v166 trip_E.sl.v155 trip_E.sl.v126
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    rw [e17]; rfl
  ihave H16 := (pointsTo_rep_of_read (Val := Elt F) (c : Thread nD τ) arg16 _ fullShare (scr (kblk X3 1) (stk (kblk X2 k.val))) ?gH16) $$ H16
  case gH16 =>
    rw [View.read_writes_full]
    repeat delta trip_E.sl.r trip_E.sl.v151 trip_E.sl.H13_1 trip_E.sl.v162 trip_E.sl.v150 trip_E.sl.v154 trip_E.sl.v33 trip_E.sl.v171 trip_E.sl.v167 trip_E.sl.v165 trip_E.sl.v161 trip_E.sl.v169 trip_E.sl.r_1 trip_E.sl.v164 trip_E.sl.v153 trip_E.sl.arg18 trip_E.sl.H14_1 trip_E.sl.H11_2 trip_E.sl.v152 trip_E.sl.v163 trip_E.sl.v135 trip_E.sl.v170 trip_E.sl.v120 trip_E.sl.v149 trip_E.sl.v166 trip_E.sl.v155 trip_E.sl.v126
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    try rfl
  repeat rw [wp_bind]
  iapply (wp_wand_r Idealize.ShloMosaic.frame (wpE (defs₀ (F := F)) Variants.none (c : Thread nD τ) none) Set.univ)
  isplitl [H3 H4 H11 H13 H14 H15 H16]
  · iapply (quad_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ X3 X4 (stk (kblk X2 k.val)) d15)
    isplitl [H3]; · iexact H3
    isplitl [H4]; · iexact H4
    isplitl [H11]; · iexact H11
    isplitl [H13]; · iexact H13
    isplitl [H14]; · iexact H14
    isplitl [H15]; · iexact H15
    iexact H16
  iintro %_ ⟨H3, H4, H11, H13, H14, ⟨%d15', H15⟩, H16⟩
  sl_exec
  repeat rw [wp_bind]
  iapply (wp_wand_r Idealize.ShloMosaic.frame (wpE (defs₀ (F := F)) Variants.none (c : Thread nD τ) none) Set.univ)
  isplitr
  · iapply (rest_loop c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k _ h2 _ _)
    exact .rfl
  iintro %_ _
  sl_exec
  ihave H10 := (pointsTo_rep_of_read (Val := Elt F) (c : Thread nD τ) arg10 _ fullShare (VecWindow.put O ![0, 512 * k.val, 0] S1x512x128.size (outTile X2 X3 X4 x5 x6 x7 x8 x9 k.val)) ?gH10) $$ H10
  case gH10 =>
    rw [View.read_writes_rep_unit _ _ _ _ (off1 k)]
    unfold outTile fin
    rw [ea]
    repeat delta trip_E.sl.H14_2 trip_E.sl.r_4 trip_E.sl.r trip_E.sl.H14_1_1 trip_E.sl.v235 trip_E.sl.v151 trip_E.sl.H16_1 trip_E.sl.v213 trip_E.sl.v212 trip_E.sl.r_9 trip_E.sl.r_6 trip_E.sl.v82 trip_E.sl.H13_1 trip_E.sl.H15_2 trip_E.sl.v223 trip_E.sl.v162 trip_E.sl.v150 trip_E.sl.r_7 trip_E.sl.H13_1_1 trip_E.sl.r_8 trip_E.sl.H13_2 trip_E.sl.H15_1 trip_E.sl.v154 trip_E.sl.v33 trip_E.sl.v263 trip_E.sl.v171 trip_E.sl.v226 trip_E.sl.H13_3 trip_E.sl.v233 trip_E.sl.v167 trip_E.sl.v252 trip_E.sl.v165 trip_E.sl.v161 trip_E.sl.v169 trip_E.sl.r_1 trip_E.sl.r_2 trip_E.sl.v164 trip_E.sl.v274 trip_E.sl.v153 trip_E.sl.v225 trip_E.sl.r_3 trip_E.sl.arg18 trip_E.sl.r_10 trip_E.sl.v257 trip_E.sl.H14_4 trip_E.sl.H14_1 trip_E.sl.H11_2 trip_E.sl.v224 trip_E.sl.v152 trip_E.sl.v163 trip_E.sl.v283 trip_E.sl.v135 trip_E.sl.H14_3 trip_E.sl.v170 trip_E.sl.v120 trip_E.sl.r_5 trip_E.sl.v149 trip_E.sl.v272 trip_E.sl.v126 trip_E.sl.v166 trip_E.sl.v262 trip_E.sl.v155
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    try rfl
  ihave H13 := (pointsTo_rep_entails (Val := Elt F) (c : Thread nD τ) arg13 _ fullShare) $$ H13
  ihave H14 := (pointsTo_rep_entails (Val := Elt F) (c : Thread nD τ) arg14 _ fullShare) $$ H14
  ihave H15 := (pointsTo_rep_entails (Val := Elt F) (c : Thread nD τ) arg15 _ fullShare) $$ H15
  ihave H16 := (pointsTo_rep_entails (Val := Elt F) (c : Thread nD τ) arg16 _ fullShare) $$ H16
  ihave H17 := (pointsTo_rep_of_read (Val := Elt F) (c : Thread nD τ) arg17 _ fullShare (scr (kblk X3 0) (stk (kblk X2 (min (k.val + 1) 15)))) ?gH17) $$ H17
  case gH17 =>
    rw [View.read_writes_full]
    repeat delta trip_E.sl.H14_2 trip_E.sl.r_4 trip_E.sl.r trip_E.sl.H14_1_1 trip_E.sl.v235 trip_E.sl.v151 trip_E.sl.H16_1 trip_E.sl.v213 trip_E.sl.v212 trip_E.sl.r_9 trip_E.sl.r_6 trip_E.sl.v82 trip_E.sl.H13_1 trip_E.sl.H15_2 trip_E.sl.v223 trip_E.sl.v162 trip_E.sl.v150 trip_E.sl.r_7 trip_E.sl.H13_1_1 trip_E.sl.r_8 trip_E.sl.H13_2 trip_E.sl.H15_1 trip_E.sl.v154 trip_E.sl.v33 trip_E.sl.v263 trip_E.sl.v171 trip_E.sl.v226 trip_E.sl.H13_3 trip_E.sl.v233 trip_E.sl.v167 trip_E.sl.v252 trip_E.sl.v165 trip_E.sl.v161 trip_E.sl.v169 trip_E.sl.r_1 trip_E.sl.r_2 trip_E.sl.v164 trip_E.sl.v274 trip_E.sl.v153 trip_E.sl.v225 trip_E.sl.r_3 trip_E.sl.arg18 trip_E.sl.r_10 trip_E.sl.v257 trip_E.sl.H14_4 trip_E.sl.H14_1 trip_E.sl.H11_2 trip_E.sl.v224 trip_E.sl.v152 trip_E.sl.v163 trip_E.sl.v283 trip_E.sl.v135 trip_E.sl.H14_3 trip_E.sl.v170 trip_E.sl.v120 trip_E.sl.r_5 trip_E.sl.v149 trip_E.sl.v272 trip_E.sl.v126 trip_E.sl.v166 trip_E.sl.v262 trip_E.sl.v155
    try simp (proj := false) only [hx, acc_fst, acc_snd, View.readCov_full, View.readAt_rep_full, e1, e2, e0, e1t, f0, e9a, e9b, f10, f11, e13, f14, f15, stk_cov, stk_77, stk_79, pay42_eq, pay46_eq, pay49_eq, pay54_eq, pay58_eq, pay63_eq, nm_43, nm_47, nm_51, nm_55, nm_60, na_44, na_48, na_56, na_87, na_89]
    try rfl
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexact H17

end Cert.AttnIdeal.Hand

end
-- ==== Proof.Body.lean ====
module

public import proofs.«01_k».proof.Proof.TripA
public import proofs.«01_k».proof.Proof.TripB
public import proofs.«01_k».proof.Proof.TripC
public import proofs.«01_k».proof.Proof.TripD
public import proofs.«01_k».proof.Proof.TripE
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
/-- One more tile stored leaves the output block right on one more tile's rows. -/
theorem put_outTile (X2 X3 : Vec F S1x8192x128 .bf16) (X4 : Vec F S16x144x512 .bf16) (x5 x6 x7 x8 : Vec F S1x64 .f32) (x9 : Vec F S128x1 .f32)
    (O : Vec F S1x8192x128 .bf16) (k : ℕ) (h : ∀ y : S1x8192x128.Idx, (y 1).val < 512 * k → O y = outBlk X2 X3 X4 x5 x6 x7 x8 x9 y) :
    ∀ y : S1x8192x128.Idx, (y 1).val < 512 * (k + 1) →
      VecWindow.put O ![0, 512 * k, 0] S1x512x128.size (outTile X2 X3 X4 x5 x6 x7 x8 x9 k) y = outBlk X2 X3 X4 x5 x6 x7 x8 x9 y := by
  intro y hy
  have h0 : (y 0).val < 1 := (y 0).isLt
  have h2 : (y 2).val < 128 := (y 2).isLt
  unfold VecWindow.put
  by_cases hc : 512 * k ≤ (y 1).val
  · have hp : ∀ a, (![0, 512 * k, 0] : Fin 3 → ℕ) a ≤ (y a).val ∧ (y a).val < (![0, 512 * k, 0] : Fin 3 → ℕ) a + S1x512x128.size a := by
      intro a
      fin_cases a
      · exact ⟨Nat.zero_le _, by show (y 0).val < 0 + 1; omega⟩
      · exact ⟨hc, by show (y 1).val < 512 * k + 512; omega⟩
      · exact ⟨Nat.zero_le _, by show (y 2).val < 0 + 128; omega⟩
    rw [dif_pos hp]
    unfold outBlk
    have e : (y 1).val / 512 = k := by omega
    rw [e]
    congr 1
    funext a
    apply Fin.ext
    fin_cases a
    · show (y 0).val - 0 = (y 0).val % 1; omega
    · show (y 1).val - 512 * k = (y 1).val % 512; omega
    · show (y 2).val - 0 = (y 2).val % 128; omega
  · rw [dif_neg (fun hp => hc (hp 1).1)]
    exact h y (by omega)

/-- One query tile, whichever: the trip of the loop over the query tiles. -/
theorem trip (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)
  (k : Fin k0_t1_loop.trips)
  (X2 X3 : Vec F S1x8192x128 .bf16) (X4 : Vec F S16x144x512 .bf16) (x5 x6 x7 x8 : Vec F S1x64 .f32) (x9 : Vec F S128x1 .f32) (O : Vec F S1x8192x128 .bf16)
  (d11 d12 : Vec F S128x1024 .bf16) (d13 : Vec F S1x1024 .f32) (d14 : Vec F S144x1024 .f32) (d15 d16 d17 : Vec F S512x1024 .f32)
  (h17 : k.val ≠ 0 → d17 = scr (kblk X3 0) (stk (kblk X2 k.val))) :
    iprop(holds c arg2 X2 ∗ holds c arg3 X3 ∗ holds c arg4 X4 ∗ holds c arg5 x5 ∗ holds c arg6 x6 ∗ holds c arg7 x7 ∗ holds c arg8 x8 ∗ holds c arg9 x9 ∗ holds c arg10 O
        ∗ holds c arg11 d11 ∗ holds c arg12 d12 ∗ holds c arg13 d13 ∗ holds c arg14 d14 ∗ holds c arg15 d15 ∗ holds c arg16 d16 ∗ holds c arg17 d17)
      ⊢ wp Idealize.ShloMosaic.frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k ())
          (fun _ => iprop(holds c arg2 X2 ∗ holds c arg3 X3 ∗ holds c arg4 X4 ∗ holds c arg5 x5 ∗ holds c arg6 x6 ∗ holds c arg7 x7 ∗ holds c arg8 x8 ∗ holds c arg9 x9
        ∗ holds c arg10 (VecWindow.put O ![0, 512 * k.val, 0] S1x512x128.size (outTile X2 X3 X4 x5 x6 x7 x8 x9 k.val))
        ∗ (∃ d, holds c arg11 d) ∗ (∃ d, holds c arg12 d) ∗ (∃ d, holds c arg13 d) ∗ (∃ d, holds c arg14 d) ∗ (∃ d, holds c arg15 d) ∗ (∃ d, holds c arg16 d)
        ∗ holds c arg17 (scr (kblk X3 0) (stk (kblk X2 (min (k.val + 1) 15))))))
:= by
  by_cases h1 : k0_cond1 k = 1#1
  · have h2 : ¬ k0_cond2 k = 1#1 := fun hc => (cond2 k).1 hc ((cond1 k).1 h1)
    exact trip_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k h1 h2 X2 X3 X4 x5 x6 x7 x8 x9 O d11 d12 d13 d14 d15 d16 d17 h17
  · have h2 : k0_cond2 k = 1#1 := (cond2 k).2 fun hc => h1 ((cond1 k).2 hc)
    by_cases h4 : k0_cond4 k = 1#1
    · have h5 : ¬ k0_cond5 k = 1#1 := fun hc => by
        have a := (cond4 k).1 h4
        have b := (cond5 k).1 hc
        omega
      by_cases h3 : k0_cond3 k = 1#1
      · exact trip_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k h1 h2 h3 h4 h5 X2 X3 X4 x5 x6 x7 x8 x9 O d11 d12 d13 d14 d15 d16 d17 h17
      · exact trip_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k h1 h2 h3 h4 h5 X2 X3 X4 x5 x6 x7 x8 x9 O d11 d12 d13 d14 d15 d16 d17 h17
    · have h5 : k0_cond5 k = 1#1 := (cond5 k).2 (by
        have a : ¬ k.val % 2 = 1 := fun hc => h4 ((cond4 k).2 hc)
        omega)
      by_cases h3 : k0_cond3 k = 1#1
      · exact trip_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k h1 h2 h3 h4 h5 X2 X3 X4 x5 x6 x7 x8 x9 O d11 d12 d13 d14 d15 d16 d17 h17
      · exact trip_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k h1 h2 h3 h4 h5 X2 X3 X4 x5 x6 x7 x8 x9 O d11 d12 d13 d14 d15 d16 d17 h17

/-- The kernel's body on whole staged blocks: it leaves the inputs as they are and the output block at `outBlk`. -/
theorem body_run (c : Dev nD) (i : grid0.Coords)
  (arg2 : Memref sig .tc .vmem S1x8192x128 .bf16) (harg2 : arg2.IsWhole)
  (arg3 : Memref sig .tc .vmem S1x8192x128 .bf16) (harg3 : arg3.IsWhole)
  (arg4 : Memref sig .tc .vmem S16x144x512 .bf16) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S128x1 .f32) (harg9 : arg9.IsWhole)
  (arg10 : Memref sig .tc .vmem S1x8192x128 .bf16) (harg10 : arg10.IsWhole)
  (arg11 : Memref sig .tc .vmem S128x1024 .bf16) (harg11 : arg11.IsWhole)
  (arg12 : Memref sig .tc .vmem S128x1024 .bf16) (harg12 : arg12.IsWhole)
  (arg13 : Memref sig .tc .vmem S1x1024 .f32) (harg13 : arg13.IsWhole)
  (arg14 : Memref sig .tc .vmem S144x1024 .f32) (harg14 : arg14.IsWhole)
  (arg15 : Memref sig .tc .vmem S512x1024 .f32) (harg15 : arg15.IsWhole)
  (arg16 : Memref sig .tc .vmem S512x1024 .f32) (harg16 : arg16.IsWhole)
  (arg17 : Memref sig .tc .vmem S512x1024 .f32) (harg17 : arg17.IsWhole)

  (X2 X3 : Vec F S1x8192x128 .bf16) (X4 : Vec F S16x144x512 .bf16) (x5 x6 x7 x8 : Vec F S1x64 .f32) (x9 : Vec F S128x1 .f32) :
    iprop(holds c arg2 X2 ∗ holds c arg3 X3 ∗ holds c arg4 X4 ∗ holds c arg5 x5 ∗ holds c arg6 x6 ∗ holds c arg7 x7 ∗ holds c arg8 x8 ∗ holds c arg9 x9 ∗ (∃ O, holds c arg10 O) ∗ (∃ d, holds c arg11 d) ∗ (∃ d, holds c arg12 d) ∗ (∃ d, holds c arg13 d) ∗ (∃ d, holds c arg14 d) ∗ (∃ d, holds c arg15 d) ∗ (∃ d, holds c arg16 d) ∗ (∃ d, holds c arg17 d))
      ⊢ wp Idealize.ShloMosaic.frame (wpE (defs₀ (F := F)) Variants.none (c : Thread nD τ) none) Set.univ (cc0_diff_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(holds c arg2 X2 ∗ holds c arg3 X3 ∗ holds c arg4 X4 ∗ holds c arg5 x5 ∗ holds c arg6 x6 ∗ holds c arg7 x7 ∗ holds c arg8 x8 ∗ holds c arg9 x9 ∗ holds c arg10 (outBlk X2 X3 X4 x5 x6 x7 x8 x9) ∗ (∃ d, holds c arg11 d) ∗ (∃ d, holds c arg12 d) ∗ (∃ d, holds c arg13 d) ∗ (∃ d, holds c arg14 d) ∗ (∃ d, holds c arg15 d) ∗ (∃ d, holds c arg16 d) ∗ (∃ d, holds c arg17 d))) := by
  rw [cc0_diff_attention_eq_skeleton]
  unfold cc0_diff_attention_skel
  iintro ⟨H2, H3, H4, H5, H6, H7, H8, H9, H10, H11, H12, H13, H14, H15, H16, H17⟩
  repeat rw [wp_bind]
  iapply (Scf.wp_for Idealize.ShloMosaic.frame (wpE (defs₀ (F := F)) Variants.none (c : Thread nD τ) none) Set.univ _ _ _ k0_t1_ok _ _
    (fun j _ => iprop(holds c arg2 X2 ∗ holds c arg3 X3 ∗ holds c arg4 X4 ∗ holds c arg5 x5 ∗ holds c arg6 x6 ∗ holds c arg7 x7 ∗ holds c arg8 x8 ∗ holds c arg9 x9 ∗ (∃ O, holds c arg10 O ∗ ⌜∀ y : S1x8192x128.Idx, (y 1).val < 512 * j → O y = outBlk X2 X3 X4 x5 x6 x7 x8 x9 y⌝) ∗ (∃ d, holds c arg11 d) ∗ (∃ d, holds c arg12 d) ∗ (∃ d, holds c arg13 d) ∗ (∃ d, holds c arg14 d) ∗ (∃ d, holds c arg15 d) ∗ (∃ d, holds c arg16 d) ∗ (∃ d, holds c arg17 d ∗ ⌜j ≠ 0 → d = scr (kblk X3 0) (stk (kblk X2 (min j 15)))⌝))) ?step)
  case step =>
    intro k _
    iintro ⟨H2, H3, H4, H5, H6, H7, H8, H9, ⟨%O, H10, %hO⟩, ⟨%d11, H11⟩, ⟨%d12, H12⟩, ⟨%d13, H13⟩, ⟨%d14, H14⟩, ⟨%d15, H15⟩, ⟨%d16, H16⟩, ⟨%d17, H17, %h17⟩⟩
    have hk : k.val < 16 := lt_of_lt_of_eq k.isLt trips1
    have hm : min k.val 15 = k.val := by omega
    rw [hm] at h17
    iapply (wp_wand_r Idealize.ShloMosaic.frame (wpE (defs₀ (F := F)) Variants.none (c : Thread nD τ) none) Set.univ)
    isplitl [H2 H3 H4 H5 H6 H7 H8 H9 H10 H11 H12 H13 H14 H15 H16 H17]
    · iapply (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k X2 X3 X4 x5 x6 x7 x8 x9 O d11 d12 d13 d14 d15 d16 d17 h17)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iintro %_ ⟨H2, H3, H4, H5, H6, H7, H8, H9, H10, H11, H12, H13, H14, H15, H16, H17⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; isplitl [H10]; · iexact H10
      ipureintro; exact put_outTile X2 X3 X4 x5 x6 x7 x8 x9 O k.val hO
    isplitl [H11]; · iexact H11
    isplitl [H12]; · iexact H12
    isplitl [H13]; · iexact H13
    isplitl [H14]; · iexact H14
    isplitl [H15]; · iexact H15
    isplitl [H16]; · iexact H16
    iexists _; isplitl [H17]; · iexact H17
    ipureintro; exact fun _ => rfl
  isplitl [H2 H3 H4 H5 H6 H7 H8 H9 H10 H11 H12 H13 H14 H15 H16 H17]
  · icases H10 with ⟨%O, H10⟩
    icases H17 with ⟨%d17, H17⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists O; isplitl [H10]; · iexact H10
      ipureintro; intro y hy; exact absurd hy (by omega)
    isplitl [H11]; · iexact H11
    isplitl [H12]; · iexact H12
    isplitl [H13]; · iexact H13
    isplitl [H14]; · iexact H14
    isplitl [H15]; · iexact H15
    isplitl [H16]; · iexact H16
    iexists d17; isplitl [H17]; · iexact H17
    ipureintro; exact fun h => absurd rfl h
  iintro %_ ⟨H2, H3, H4, H5, H6, H7, H8, H9, ⟨%O, H10, %hO⟩, H11, H12, H13, H14, H15, H16, ⟨%d17, H17, %_⟩⟩
  have e : Scf.trips k0_t1_loop.lb k0_t1_loop.ub k0_t1_loop.st = 16 := trips1
  rw [e] at hO
  have eO : O = outBlk X2 X3 X4 x5 x6 x7 x8 x9 := funext fun y => hO y (by
    have := (y 1).isLt
    have h' : (y 1).val < 8192 := this
    omega)
  subst eO
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists d17; iexact H17

end Cert.AttnIdeal.Hand

end
-- ==== Proof.Run.lean ====
module

public import proofs.«01_k».proof.Proof.Body
public import proofs.«01_k».proof.Proof.Gen.AttnIdeal.Frame
public import Idealize.ShloMosaic.Lib.Pipeline.TableIdle
public import Idealize.ShloMosaic.Lib.Exec
public import Idealize.ShloMosaic.Lib.Tactic
public import Idealize.ShloMosaic.Lib.Pipeline.Kit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
open Idealize.ShloMosaic.Pipeline (Dat Cfg Window BodyObligation cellOf)
variable (m : (ℓ : Loc nD τ sig) → Buf (Elt F) ℓ) (ρ : Dev nD → PrngReg)

/-- What the body leaves in the output's staging buffer at point `t`. -/
def outAt (c : Dev nD) (t : Fin cfg0.N) : Vec F S1x8192x128 .bf16 :=
  outBlk (iblk m c 0 t) (iblk m c 1 t) (iblk m c 2 t) (iblk m c 3 t) (iblk m c 4 t) (iblk m c 5 t) (iblk m c 6 t) (iblk m c 7 t)

/-- The launch's data on core `c`: the arrays as the region finds them, every input block left in place, the output's block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem after_8 (c : Dev nD) (t : Fin cfg0.N) : (dats m 0 c).after 8 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 800000 in
/-- The scoped buffers as values held, one by one. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)
        ∗ (∃ d, owns (c : Thread nD τ) (Memref.whole cc0_scratch4) fullShare d) ∗ (∃ d, owns (c : Thread nD τ) (Memref.whole cc0_scratch5) fullShare d)
        ∗ (∃ d, owns (c : Thread nD τ) (Memref.whole cc0_scratch6) fullShare d)) := by
  rw [scopedRest0_eq]
  rw [(Memref.isWhole_whole cc0_scratch0).exists_owns_eq, (Memref.isWhole_whole cc0_scratch1).exists_owns_eq, (Memref.isWhole_whole cc0_scratch2).exists_owns_eq,
    (Memref.isWhole_whole cc0_scratch3).exists_owns_eq, (Memref.isWhole_whole cc0_scratch4).exists_owns_eq, (Memref.isWhole_whole cc0_scratch5).exists_owns_eq,
    (Memref.isWhole_whole cc0_scratch6).exists_owns_eq]

theorem owns_holds (c : Dev nD) {s : Shape} {e : EltTy} (M : Memref sig .tc .vmem s e) (X : Vec F s e) :
    (owns (c : Thread nD τ) M fullShare X : sProp 𝕄) = holds c M X := owns_eq_rep (c : Thread nD τ) M fullShare X

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦA spec0 c from rfl]
  unfold Pipeline.ΦA
  rw [scratch_eq]
  rw [show (dats m 0 c).owesAt () t.succ = (dats m 0 c).owesAt () t.castSucc from rfl]
  rw [after_0, after_1, after_2, after_3, after_4, after_5, after_6, after_7, after_8]
  simp only [before_0, before_1, before_2, before_3, before_4, before_5, before_6, before_7, owns_holds]
  unfold outAt
  iintro ⟨⟨⟨HS0, HS1, HS2, HS3, HS4, HS5, HS6⟩, Hg⟩, HW, ⟨%_, H0⟩, ⟨%_, H1⟩, ⟨%_, H2⟩, ⟨%_, H3⟩, ⟨%_, H4⟩, ⟨%_, H5⟩, ⟨%_, H6⟩, ⟨%_, H7⟩, ⟨%d8, H8⟩⟩
  iapply (wp_wand_r Idealize.ShloMosaic.frame (wpE (defs₀ (F := F)) Variants.none (c : Thread nD τ) none) Set.univ)
  isplitl [H0 H1 H2 H3 H4 H5 H6 H7 H8 HS0 HS1 HS2 HS3 HS4 HS5 HS6]
  · iapply (body_run c (grid0.coords t) _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t) (iblk m c 7 t))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro %_ ⟨H0, H1, H2, H3, H4, H5, H6, H7, H8, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch terminates with every semaphore at zero, the staged arrays as the data say and the others as the region found them. -/
theorem run_main : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hΦ := fun _ _ => rfl)

/-- The six arguments hold at the end what they held at the launch, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.AttnIdeal.Hand

end
-- ==== Proof.KTerm.lean ====
module

public import proofs.«01_k».proof.Proof.Vals
public import Idealize.ShloMosaic.Lib.Pointwise
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe

/-! Each value of the kernel over the reals, read at an index. -/

theorem scr_at (k : Vec Ideal S1x512x128 .bf16) (q : Vec Ideal S128x1024 .bf16) (x : Fin 512) (j : Fin 1024) :
    scr k q (ix2 x j) = ∑ e : Fin 128, k (ix3 0 x e) * q (ix2 e j) := by
  pointwise [scr, k0_pay1]

theorem negInf : Ideal.ofBits FTy.f32 4286578688#32 = ⊥ := by simp [Ideal.ofBits, Ideal.ieee]

theorem nm_at (s : Vec Ideal S512x1024 .f32) (m : Vec Ideal S1x1024 .f32) (j : Fin 1024) :
    nm s m (ix2 0 j) = max (m (ix2 0 j)) (Finset.fold max ⊥ (fun x : Fin 512 => s (ix2 x j)) Finset.univ) := by
  pointwise [nm, k0_pay66, k0_pay64]
  rw [negInf]

theorem na_at (s : Vec Ideal S512x1024 .f32) (m : Vec Ideal S1x1024 .f32) (a : Vec Ideal S144x1024 .f32) (v : Vec Ideal S1x144x512 .bf16) (r : Fin 144) (j : Fin 1024) :
    na s m a v (ix2 r j) = Ideal.exp2 (m (ix2 0 j) - nm s m (ix2 0 j)) * a (ix2 r j) + ∑ x : Fin 512, v (ix3 0 r x) * Ideal.exp2 (s (ix2 x j) - nm s m (ix2 0 j)) := by
  pointwise [na, k0_pay65, nm, k0_pay66]
  rfl

theorem maskWord : Named.named (F := Ideal) (φ := .f32) κ "mask" 0xF149F2CA#32 = (⊥ : EReal) := by
  exact IdealRules.named_const.ideal_named_scalar (φ := .f32) κ "mask" 0xF149F2CA#32 ⊥ rfl

/-- The query row a column of scores belongs to. -/
def qcol (j : ℕ) : ℕ := if 512 ≤ j then j - 512 else j

theorem msk_at (k : ℕ) (hk : k < 16) (s : Vec Ideal S512x1024 .f32) (x : Fin 512) (j : Fin 1024) :
    msk k s (ix2 x j) = if x.val ≤ qcol j then s (ix2 x j) else ⊥ := by
  have e0 : Scf.iv 0#32 1#32 k = BitVec.ofNat 32 k := by
    apply BitVec.eq_of_toNat_eq
    simp [Scf.iv]
  have hj : Scalar.select (IntOp.cmpi CmpIPredicate.sge (BitVec.ofNat 32 ↑j) 512#32) (IntOp.subi (BitVec.ofNat 32 ↑j) 512#32) (BitVec.ofNat 32 ↑j) = BitVec.ofNat 32 (qcol j) := by
    unfold qcol
    have hjl := j.isLt
    have e : IntOp.cmpi CmpIPredicate.sge (BitVec.ofNat 32 ↑j) 512#32 = BitVec.ofBool (decide (512 ≤ (j : ℕ))) := by word_cmp
    rw [e, Scalar.select_ofBool]
    by_cases h : 512 ≤ (j : ℕ)
    · rw [if_pos h, if_pos (decide_eq_true h)]
      apply BitVec.eq_of_toNat_eq
      simp [IntOp.subi]
      omega
    · rw [if_neg h, if_neg (by simpa using h)]
  have hq : qcol j < 512 := by unfold qcol; split <;> omega
  have hm : Scalar.muli (Scf.iv 0#32 1#32 k) 512#32 = BitVec.ofNat 32 (512 * k) := by
    rw [e0]
    apply BitVec.eq_of_toNat_eq
    simp [Scalar.muli, IntOp.muli]
    omega
  have ha (t : ℕ) : IntOp.addi (BitVec.ofNat 32 (512 * k)) (BitVec.ofNat 32 t) = BitVec.ofNat 32 (512 * k + t) := by
    simp [IntOp.addi, BitVec.ofNat_add]
  have hx := x.isLt
  have hc : IntOp.cmpi CmpIPredicate.sle (BitVec.ofNat 32 (512 * k + ↑x)) (BitVec.ofNat 32 (512 * k + qcol j)) = BitVec.ofBool (decide ((x : ℕ) ≤ qcol j)) := by
    rw [WordCmp.cmpi_sle_ofNat (by norm_num; omega) (by norm_num; omega)]
    congr 1
    exact decide_eq_decide.2 (by omega)
  pointwise [msk, k0_pay50]
  rw [hj, hm, ha, ha, hc, Scalar.select_ofBool, maskWord]
  by_cases h : (x : ℕ) ≤ qcol j
  · rw [if_pos h, if_pos (decide_eq_true h)]
  · rw [if_neg h, if_neg (by simpa using h)]

theorem q73_at (q : Vec Ideal S1x512x128 .bf16) (e : Fin 128) (j : Fin 512) :
    k0_pay73 q (ix2 e j) = if e.val < 64 then q (ix3 0 j e) else 0 := by
  pointwise [k0_pay73, k0_pay71, k0_pay72]
  have h : IntOp.cmpi CmpIPredicate.slt (BitVec.ofNat 32 ↑e) 64#32 = BitVec.ofBool (decide ((e : ℕ) < 64)) := by word_cmp
  rw [h, Scalar.select_ofBool]
  by_cases h' : (e : ℕ) < 64
  · rw [if_pos h', if_pos (decide_eq_true h')]
  · rw [if_neg h', if_neg (by simpa using h')]
theorem q74_at (q : Vec Ideal S1x512x128 .bf16) (e : Fin 128) (j : Fin 512) :
    k0_pay74 q (ix2 e j) = if e.val < 64 then 0 else q (ix3 0 j e) := by
  pointwise [k0_pay74, k0_pay71, k0_pay72]
  have h : IntOp.cmpi CmpIPredicate.sge (BitVec.ofNat 32 ↑e) 64#32 = BitVec.ofBool (decide (64 ≤ (e : ℕ))) := by word_cmp
  rw [h, Scalar.select_ofBool]
  by_cases h' : (e : ℕ) < 64
  · rw [if_pos h', if_neg (by simpa using h')]
  · rw [if_neg h', if_pos (decide_eq_true (by omega))]

theorem m0_at (j : Fin 1024) : k0_pay80 (F := Ideal) (ix2 0 j) = (⊥ : EReal) := by
  pointwise [k0_pay80]
  exact maskWord
theorem a0_at (r : Fin 144) (j : Fin 1024) : k0_pay81 (F := Ideal) (ix2 r j) = (0 : EReal) := by
  pointwise [k0_pay81]

/-- One entry of the difference of the two maps' results. -/
def ko (f : Vec Ideal S144x1024 .f32) (l : EReal) (q : Fin 512) (e : Fin 128) : EReal :=
  Ideal.div (f (ix2 ⟨e.val, by omega⟩ ⟨q.val, by omega⟩)) (f (ix2 128 ⟨q.val, by omega⟩))
    - l * Ideal.div (f (ix2 ⟨e.val, by omega⟩ ⟨512 + q.val, by omega⟩)) (f (ix2 128 ⟨512 + q.val, by omega⟩))

/-- The factor of the second map. -/
def kl (x5 x6 x7 x8 : Vec Ideal S1x64 .f32) : EReal :=
  Ideal.exp (∑ x : Fin 64, x5 (ix2 0 x) * x6 (ix2 0 x)) - Ideal.exp (∑ x : Fin 64, x7 (ix2 0 x) * x8 (ix2 0 x)) + Ideal.ofBits FTy.f32 1045220557#32

theorem out_at (x5 x6 x7 x8 : Vec Ideal S1x64 .f32) (f : Vec Ideal S144x1024 .f32) (w : Vec Ideal S128x1 .f32) (q : Fin 512) (e : Fin 128) :
    k0_pay93 (k0_pay91 x5 x6) (k0_pay92 x7) x8 f w (ix3 0 q e) =
      ko f (kl x5 x6 x7 x8) q e * Ideal.rsqrt (Ideal.div (∑ x : Fin 128, ko f (kl x5 x6 x7 x8) q x * ko f (kl x5 x6 x7 x8) q x) (Ideal.ofBits FTy.f32 1124073472#32) + Ideal.ofBits FTy.f32 897988541#32)
        * w (ix2 e 0) * Ideal.ofBits FTy.f32 1061997773#32 := by
  pointwise [k0_pay93, k0_pay92, k0_pay91]
  rfl

/-- Row `512 n + x` of a query or key block. -/
theorem kblk_at (X : Vec Ideal S1x8192x128 .bf16) (n : ℕ) (hn : n < 16) (x : Fin 512) (e : Fin 128) :
    kblk X n (ix3 0 x e) = X (ix3 0 ⟨512 * n + x.val, by omega⟩ e) := by
  unfold kblk
  congr 1
  funext a
  have := x.isLt
  have := e.isLt
  fin_cases a
  · rfl
  · apply Fin.ext
    show (512 * n + x.val) % 8192 = _
    exact Nat.mod_eq_of_lt (by omega)
  · apply Fin.ext
    show (0 + e.val) % 128 = e.val
    rw [zero_add]; exact Nat.mod_eq_of_lt (by omega)

theorem vblk_at (X : Vec Ideal S16x144x512 .bf16) (n : ℕ) (hn : n < 16) (r : Fin 144) (x : Fin 512) :
    vblk X n (ix3 0 r x) = X (ix3 ⟨n, hn⟩ r x) := by
  unfold vblk
  congr 1
  funext a
  have := x.isLt
  have := r.isLt
  fin_cases a
  · apply Fin.ext
    show (n + 0) % 16 = n
    exact Nat.mod_eq_of_lt (by omega)
  · apply Fin.ext
    show (0 + r.val) % 144 = r.val
    rw [zero_add]; exact Nat.mod_eq_of_lt (by omega)
  · apply Fin.ext
    show (0 + x.val) % 512 = x.val
    rw [zero_add]; exact Nat.mod_eq_of_lt (by omega)

theorem stk_lo (q : Vec Ideal S1x512x128 .bf16) (e : Fin 128) (j : Fin 512) :
    stk q (ix2 e ⟨j.val, by omega⟩) = if e.val < 64 then q (ix3 0 j e) else 0 := by
  rw [← q73_at]
  have hj := j.isLt
  have he := e.isLt
  unfold stk VecWindow.put
  rw [dif_neg (fun h => by have h1 : 512 ≤ j.val := (h 1).1; omega), dif_pos]
  · congr 1
    funext a
    fin_cases a
    · apply Fin.ext
      show e.val - 0 = e.val
      omega
    · apply Fin.ext
      show j.val - 0 = j.val
      omega
  · intro a
    fin_cases a
    · exact ⟨Nat.zero_le _, show e.val < 0 + 128 by omega⟩
    · exact ⟨Nat.zero_le _, show j.val < 0 + 512 by omega⟩

theorem stk_hi (q : Vec Ideal S1x512x128 .bf16) (e : Fin 128) (j : Fin 512) :
    stk q (ix2 e ⟨512 + j.val, by omega⟩) = if e.val < 64 then 0 else q (ix3 0 j e) := by
  rw [← q74_at]
  have hj := j.isLt
  have he := e.isLt
  unfold stk VecWindow.put
  rw [dif_pos]
  · congr 1
    funext a
    fin_cases a
    · apply Fin.ext
      show e.val - 0 = e.val
      omega
    · apply Fin.ext
      show 512 + j.val - 512 = j.val
      omega
  · intro a
    fin_cases a
    · exact ⟨Nat.zero_le _, show e.val < 0 + 128 by omega⟩
    · exact ⟨show 512 ≤ 512 + j.val by omega, show 512 + j.val < 512 + 512 by omega⟩

end Cert.AttnIdeal.Hand

end
-- ==== Proof.Online.lean ====
module

public import Idealize.ShloMosaic.Lib.Pointwise

@[expose] public section

noncomputable section

namespace Cert.Online

open Idealize.ShloMosaic

/-! The running softmax over the extended reals: a maximum and sums kept relative to it, taken in tile by tile. -/

/-- The weight of a score: two to its power, nothing for −∞. -/
def wt (x : EReal) : ℝ := (Ideal.exp2 x).toReal

theorem wt_bot : wt ⊥ = 0 := by simp [wt]
theorem wt_coe (r : ℝ) : wt r = (2 : ℝ) ^ r := by
  rw [wt, Ideal.exp2_coe]; rfl

/-- A finite sum of real numbers, taken in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A score less a real maximum, as a power of two. -/
theorem exp2_sub (x : EReal) (hx : x ≠ ⊤) (μ : ℝ) : Ideal.exp2 (x - μ) = ((wt x / (2 : ℝ) ^ μ : ℝ) : EReal) := by
  induction x using EReal.rec with
  | bot => rw [wt_bot, EReal.bot_sub, Ideal.exp2_bot]; simp
  | coe r =>
    rw [wt_coe, ← EReal.coe_sub, Ideal.exp2_coe, ← Real.rpow_sub (by norm_num)]; rfl
  | top => exact absurd rfl hx

/-- What the running state means: nothing seen yet, or a real maximum and the sums over its power of two. -/
def St {R : Type} (m : EReal) (a : R → EReal) (W : R → ℝ) : Prop :=
  (m = ⊥ ∧ (∀ r, a r = 0) ∧ ∀ r, W r = 0) ∨ ∃ μ : ℝ, m = μ ∧ ∀ r, a r = ((W r / (2 : ℝ) ^ μ : ℝ) : EReal)

/-- One tile: the maximum is real and the sums take the tile's in. -/
theorem step {R : Type} {n : ℕ} {m : EReal} {a : R → EReal} {W : R → ℝ} (h : St m a W) (s : Fin n → EReal) (hs : ∀ j, s j ≠ ⊤)
    (j0 : Fin n) (h0 : s j0 ≠ ⊥) (v : Fin n → R → ℝ) (m' : EReal) (hm : m' = max m (Finset.fold max ⊥ s Finset.univ))
    (a' : R → EReal) (ha : ∀ r, a' r = Ideal.exp2 (m - m') * a r + ∑ j, (v j r : EReal) * Ideal.exp2 (s j - m')) :
    ∃ μ : ℝ, m' = μ ∧ ∀ r, a' r = (((W r + ∑ j, v j r * wt (s j)) / (2 : ℝ) ^ μ : ℝ) : EReal) := by
  have hmt : m ≠ ⊤ := by
    rcases h with ⟨rfl, -⟩ | ⟨μ, rfl, -⟩
    · exact bot_ne_top
    · exact EReal.coe_ne_top μ
  have hft : Finset.fold max ⊥ s Finset.univ < ⊤ := (Finset.fold_max_lt _).2 ⟨bot_lt_top, fun k _ => lt_top_iff_ne_top.2 (hs k)⟩
  have hfb : ⊥ < Finset.fold max ⊥ s Finset.univ := (Finset.lt_fold_max _).2 (Or.inr ⟨j0, Finset.mem_univ _, bot_lt_iff_ne_bot.2 h0⟩)
  have ht : m' ≠ ⊤ := by rw [hm]; exact ne_of_lt (max_lt (lt_top_iff_ne_top.2 hmt) hft)
  have hb : m' ≠ ⊥ := by rw [hm]; exact ne_of_gt (lt_of_lt_of_le hfb (le_max_right _ _))
  have e := EReal.coe_toReal ht hb
  refine ⟨m'.toReal, e.symm, fun r => ?_⟩
  rw [ha r, ← e, EReal.toReal_coe]
  have hsum : ∑ j, (v j r : EReal) * Ideal.exp2 (s j - (m'.toReal : EReal)) = ((∑ j, v j r * (wt (s j) / (2 : ℝ) ^ m'.toReal) : ℝ) : EReal) := by
    rw [coe_sum]
    exact Finset.sum_congr rfl fun j _ => by rw [exp2_sub _ (hs j), EReal.coe_mul]
  have hfirst : Ideal.exp2 (m - (m'.toReal : EReal)) * a r = ((W r / (2 : ℝ) ^ m'.toReal : ℝ) : EReal) := by
    rw [exp2_sub _ hmt]
    rcases h with ⟨rfl, ha0, hW⟩ | ⟨μ, rfl, haμ⟩
    · rw [ha0, hW, mul_zero]; simp
    · rw [haμ, wt_coe, ← EReal.coe_mul]
      congr 1
      have : (2 : ℝ) ^ μ ≠ 0 := (Real.rpow_pos_of_pos (by norm_num) _).ne'
      field_simp
  rw [hsum, hfirst, ← EReal.coe_add]
  congr 1
  rw [add_div, Finset.sum_div]
  congr 1
  exact Finset.sum_congr rfl fun j _ => by rw [mul_div_assoc]

/-- A quotient of two sums kept over the same power of two. -/
theorem div_state (x y μ : ℝ) (hy : 0 < y) : Ideal.div ((x / (2 : ℝ) ^ μ : ℝ) : EReal) ((y / (2 : ℝ) ^ μ : ℝ) : EReal) = ((x / y : ℝ) : EReal) := by
  have hp : (0 : ℝ) < (2 : ℝ) ^ μ := Real.rpow_pos_of_pos (by norm_num) _
  have hne : ((y / (2 : ℝ) ^ μ : ℝ) : EReal) ≠ 0 := by
    rw [Ne, EReal.coe_eq_zero]; exact (div_pos hy hp).ne'
  rw [Ideal.div, if_neg hne, ← EReal.coe_inv, ← EReal.coe_mul]
  congr 1
  field_simp

/-- An exponential of a score less a real maximum. -/
theorem exp_sub (x : EReal) (hx : x ≠ ⊤) (μ : ℝ) : Ideal.exp (x - μ) = (((Ideal.exp x).toReal / Real.exp μ : ℝ) : EReal) := by
  induction x using EReal.rec with
  | bot => rw [EReal.bot_sub, Ideal.exp_bot]; simp
  | coe r => rw [← EReal.coe_sub, Ideal.exp_coe, Ideal.exp_coe, Real.exp_sub, EReal.toReal_coe]
  | top => exact absurd rfl hx

/-- A quotient of two real numbers, the second not zero. -/
theorem div_real (x y : ℝ) (hy : y ≠ 0) : Ideal.div (x : EReal) (y : EReal) = ((x / y : ℝ) : EReal) := by
  rw [Ideal.div, if_neg (EReal.coe_eq_zero.not.2 hy), ← EReal.coe_inv, ← EReal.coe_mul, div_eq_mul_inv]

end Cert.Online

end
-- ==== Proof.Spec.lean ====
module

public import proofs.«01_k».proof.Proof.Online

@[expose] public section

noncomputable section

namespace Cert.Online

open Idealize.ShloMosaic

/-! The attention of one head at one query, in the real numbers: `P b r c` is the input's entry at batch `b`, row `r`, column `c`. -/

variable (P : ℕ → ℕ → ℕ → ℝ)

/-- The product of a query and a key of map `c` of head `h`. -/
def dt (b h c q k : ℕ) : ℝ := ∑ x : Fin 64, P b q (h * 128 + c * 64 + x.val) * P b k (1024 + (h * 128 + c * 64 + x.val))
/-- The weight of key `k` at query `q`, before it is divided by the sum. -/
def fw (b h c q k : ℕ) : ℝ := if k ≤ q then Real.exp (dt P b h c q k * (1 / 8)) else 0
/-- The sum of the weights. -/
def Dn (b h c q : ℕ) : ℝ := ∑ k ∈ Finset.range 8192, fw P b h c q k
/-- The sum of the weighted values. -/
def Wn (b h c q e : ℕ) : ℝ := ∑ k ∈ Finset.range 8192, P b k (2048 + (h * 128 + e)) * fw P b h c q k
/-- The difference of the two maps' results, before the norm. -/
def diff (L : ℝ) (b h q e : ℕ) : ℝ := Wn P b h 0 q e / Dn P b h 0 q - L * (Wn P b h 1 q e / Dn P b h 1 q)

theorem fw_nonneg (b h c q k : ℕ) : 0 ≤ fw P b h c q k := by
  unfold fw; split
  · exact (Real.exp_pos _).le
  · exact le_rfl

theorem Dn_pos (b h c q : ℕ) (hq : q < 8192) : 0 < Dn P b h c q := by
  have h1 : fw P b h c q q ≤ Dn P b h c q := Finset.single_le_sum (f := fun k => fw P b h c q k) (fun k _ => fw_nonneg P b h c q k) (Finset.mem_range.2 hq)
  have h2 : 0 < fw P b h c q q := by unfold fw; rw [if_pos le_rfl]; exact Real.exp_pos _
  exact lt_of_lt_of_le h2 h1

/-- Two to the power of a number over the logarithm of two is the exponential. -/
theorem two_rpow_div_log (x : ℝ) : (2 : ℝ) ^ (x / Real.log 2) = Real.exp x := by
  rw [Real.rpow_def_of_pos (by norm_num)]
  congr 1
  have : Real.log 2 ≠ 0 := (Real.log_pos (by norm_num)).ne'
  field_simp

end Cert.Online

end
-- ==== Proof.Tile.lean ====
module

public import proofs.«01_k».proof.Proof.KTerm
public import proofs.«01_k».proof.Proof.Spec

@[expose] public section

set_option maxRecDepth 16384

noncomputable section

namespace Cert.AttnIdeal.Hand

open Cert.AttnIdeal Cert.AttnIdeal.Gen Cert.Online
open Idealize.ShloMosaic Idealize.ShloMosaic.TcCoe

/-! One query tile of the kernel over the reals: the running state after every tile of keys, and the accumulated products at the end. -/

theorem qcol_lt (j : Fin 1024) : qcol j.val < 512 := by
  unfold qcol; have := j.isLt; split <;> omega

theorem qcol_lo (j : ℕ) (h : j < 512) : qcol j = j := by unfold qcol; rw [if_neg (by omega)]
theorem qcol_hi (j : ℕ) (h : ¬ j < 512) : qcol j = j - 512 := by unfold qcol; rw [if_pos (by omega)]

/-- The stacked queries at a feature and a column. -/
theorem stk_at (q : Vec Ideal S1x512x128 .bf16) (e : Fin 128) (j : Fin 1024) :
    stk q (ix2 e j) = if (e.val < 64 ↔ j.val < 512) then q (ix3 0 ⟨qcol j.val, qcol_lt j⟩ e) else 0 := by
  by_cases hj : j.val < 512
  · have e1 := stk_lo q e ⟨j.val, hj⟩
    have e2 : (⟨qcol j.val, qcol_lt j⟩ : Fin 512) = ⟨j.val, hj⟩ := Fin.ext (qcol_lo _ hj)
    rw [e2]
    refine e1.trans ?_
    by_cases he : e.val < 64
    · rw [if_pos he, if_pos ⟨fun _ => hj, fun _ => he⟩]
    · rw [if_neg he, if_neg (fun h => he (h.2 hj))]
  · have hjl := j.isLt
    have e1 := stk_hi q e ⟨j.val - 512, by omega⟩
    have e2 : (⟨qcol j.val, qcol_lt j⟩ : Fin 512) = ⟨j.val - 512, by omega⟩ := Fin.ext (qcol_hi _ hj)
    have e3 : (⟨512 + (j.val - 512), by omega⟩ : Fin 1024) = j := Fin.ext (by show 512 + (j.val - 512) = j.val; omega)
    rw [e2]
    rw [e3] at e1
    refine e1.trans ?_
    by_cases he : e.val < 64
    · rw [if_pos he, if_neg (fun h => hj (h.1 he))]
    · rw [if_neg he, if_pos ⟨fun h => absurd h he, fun h => absurd h hj⟩]

/-- Which map a column belongs to. -/
def cmap (j : ℕ) : ℕ := if j < 512 then 0 else 1

/-- A score is the product over the column's own map's features. -/
theorem scr_stk (k : Vec Ideal S1x512x128 .bf16) (q : Vec Ideal S1x512x128 .bf16) (x : Fin 512) (j : Fin 1024)
    (kr qr : ℕ → ℝ) (hk : ∀ e : Fin 128, k (ix3 0 x e) = ((kr e.val : ℝ) : EReal)) (hq : ∀ e : Fin 128, q (ix3 0 ⟨qcol j.val, qcol_lt j⟩ e) = ((qr e.val : ℝ) : EReal)) :
    scr k (stk q) (ix2 x j) = ((∑ e : Fin 64, kr (cmap j.val * 64 + e.val) * qr (cmap j.val * 64 + e.val) : ℝ) : EReal) := by
  rw [scr_at]
  have h1 : ∀ e : Fin 128, k (ix3 0 x e) * stk q (ix2 e j) = ((if (e.val < 64 ↔ j.val < 512) then kr e.val * qr e.val else 0 : ℝ) : EReal) := by
    intro e
    rw [stk_at, hk]
    by_cases h : (e.val < 64 ↔ j.val < 512)
    · rw [if_pos h, if_pos h, hq, EReal.coe_mul]
    · rw [if_neg h, if_neg h, EReal.coe_zero]; exact mul_zero _
  refine (Finset.sum_congr rfl fun e _ => h1 e).trans ?_
  rw [← coe_sum]
  congr 1
  rw [Fin.sum_univ_two_halves 64 64 rfl]
  by_cases hj : j.val < 512
  · have z : ∑ e : Fin 64, (if ((64 + e.val) < 64 ↔ j.val < 512) then kr (64 + e.val) * qr (64 + e.val) else 0 : ℝ) = 0 :=
      Finset.sum_eq_zero fun e _ => if_neg (fun h => by have := h.2 hj; omega)
    refine (congrArg₂ (· + ·) (Finset.sum_congr rfl fun e _ => ?_) z).trans (add_zero _)
    have := e.isLt
    show (if (e.val < 64 ↔ j.val < 512) then kr e.val * qr e.val else 0 : ℝ) = _
    rw [if_pos ⟨fun _ => hj, fun _ => e.isLt⟩, cmap, if_pos hj, zero_mul, zero_add]
  · have z : ∑ e : Fin 64, (if (e.val < 64 ↔ j.val < 512) then kr e.val * qr e.val else 0 : ℝ) = 0 :=
      Finset.sum_eq_zero fun e _ => if_neg (fun h => hj (h.1 e.isLt))
    refine (congrArg₂ (· + ·) z (Finset.sum_congr rfl fun e _ => ?_)).trans (zero_add _)
    show (if (64 + e.val < 64 ↔ j.val < 512) then kr (64 + e.val) * qr (64 + e.val) else 0 : ℝ) = _
    rw [if_pos ⟨fun h => by omega, fun h => absurd h hj⟩, cmap, if_neg hj, one_mul]

/-- The state after the first `n` key tiles, in one column: the sums over the keys of those tiles. -/
theorem acc_inv (q : Vec Ideal S128x1024 .bf16) (X3 : Vec Ideal S1x8192x128 .bf16) (X4 : Vec Ideal S16x144x512 .bf16) (j : Fin 1024)
    (s : ℕ → ℝ) (v : ℕ → Fin 144 → ℝ)
    (hk : ∀ n, n < 16 → ∀ x : Fin 512, scr (kblk X3 n) q (ix2 x j) = ((s (512 * n + x.val) : ℝ) : EReal))
    (hv : ∀ n, n < 16 → ∀ (r : Fin 144) (x : Fin 512), vblk X4 n (ix3 0 r x) = ((v (512 * n + x.val) r : ℝ) : EReal)) :
    ∀ n, n ≤ 16 → St ((acc q X3 X4 n).1 (ix2 0 j) : EReal) (fun r : Fin 144 => ((acc q X3 X4 n).2 (ix2 r j) : EReal)) (fun r => ∑ key ∈ Finset.range (512 * n), v key r * (2 : ℝ) ^ s key) := by
  intro n
  induction n with
  | zero =>
    intro _
    refine Or.inl ⟨m0_at j, fun r => a0_at r j, fun r => ?_⟩
    simp
  | succ n ih =>
    intro hn
    obtain ⟨μ, e1, e2⟩ := step (ih (by omega)) (fun x : Fin 512 => (scr (kblk X3 n) q (ix2 x j) : EReal)) (fun x => by rw [hk n (by omega)]; exact EReal.coe_ne_top _)
      ⟨0, by norm_num⟩ (by rw [hk n (by omega)]; exact EReal.coe_ne_bot _) (fun x r => v (512 * n + x.val) r)
      ((acc q X3 X4 (n + 1)).1 (ix2 0 j)) (by rw [acc_fst]; exact nm_at _ _ j)
      (fun r => (acc q X3 X4 (n + 1)).2 (ix2 r j)) (fun r => by
        rw [acc_snd, na_at, acc_fst]
        congr 1
        exact Finset.sum_congr rfl fun x _ => by rw [hv n (by omega)])
    refine Or.inr ⟨μ, e1, fun r => (e2 r).trans ?_⟩
    congr 2
    beta_reduce
    rw [show 512 * (n + 1) = 512 * n + 512 by ring, Finset.sum_range_add, Finset.sum_range (fun x => v (512 * n + x) r * (2 : ℝ) ^ s (512 * n + x))]
    congr 1
    exact Finset.sum_congr rfl fun x _ => by rw [hk n (by omega), wt_coe]

/-- One step with a masked tile of scores, from a state that stands for the sums `W`. -/
theorem fin_step (S : Vec Ideal S512x1024 .f32) (m : Vec Ideal S1x1024 .f32) (a : Vec Ideal S144x1024 .f32) (vb : Vec Ideal S1x144x512 .bf16) (j : Fin 1024)
    (s : Fin 512 → ℝ) (qc : ℕ) (v : Fin 512 → Fin 144 → ℝ) (W : Fin 144 → ℝ)
    (h : St (m (ix2 0 j) : EReal) (fun r : Fin 144 => (a (ix2 r j) : EReal)) W)
    (hs : ∀ x : Fin 512, (S (ix2 x j) : EReal) = if x.val ≤ qc then ((s x : ℝ) : EReal) else ⊥)
    (hv : ∀ (r : Fin 144) (x : Fin 512), vb (ix3 0 r x) = ((v x r : ℝ) : EReal)) :
    ∃ μ : ℝ, ∀ r : Fin 144, (na S m a vb (ix2 r j) : EReal) = (((W r + ∑ x : Fin 512, v x r * (if x.val ≤ qc then (2 : ℝ) ^ s x else 0)) / (2 : ℝ) ^ μ : ℝ) : EReal) := by
  obtain ⟨μ, -, e2⟩ := step h (fun x : Fin 512 => (S (ix2 x j) : EReal))
    (fun x => by
      show (S (ix2 x j) : EReal) ≠ ⊤
      rw [hs]
      split
      · exact EReal.coe_ne_top _
      · exact bot_ne_top)
    ⟨0, by norm_num⟩ (by
      show (S (ix2 _ j) : EReal) ≠ ⊥
      rw [hs, if_pos (Nat.zero_le _)]
      exact EReal.coe_ne_bot _) v (nm S m (ix2 0 j)) (nm_at S m j) (fun r => na S m a vb (ix2 r j)) (fun r => by
        show (na S m a vb (ix2 r j) : EReal) = _
        rw [na_at]
        congr 1
        exact Finset.sum_congr rfl fun x _ => by rw [hv])
  refine ⟨μ, fun r => (e2 r).trans ?_⟩
  congr 3
  refine Finset.sum_congr rfl fun x _ => ?_
  rw [hs]
  by_cases hx : x.val ≤ qc
  · rw [if_pos hx, if_pos hx, wt_coe]
  · rw [if_neg hx, if_neg hx, wt_bot]

/-- The accumulated products of query tile `k` at its end, in one column: the sums over all keys not after the query. -/
theorem fin_at (X2 X3 : Vec Ideal S1x8192x128 .bf16) (X4 : Vec Ideal S16x144x512 .bf16) (k : ℕ) (hk16 : k < 16) (j : Fin 1024)
    (s : ℕ → ℝ) (v : ℕ → Fin 144 → ℝ)
    (hk : ∀ n, n < 16 → ∀ x : Fin 512, scr (kblk X3 n) (stk (kblk X2 k)) (ix2 x j) = ((s (512 * n + x.val) : ℝ) : EReal))
    (hv : ∀ n, n < 16 → ∀ (r : Fin 144) (x : Fin 512), vblk X4 n (ix3 0 r x) = ((v (512 * n + x.val) r : ℝ) : EReal)) :
    ∃ μ : ℝ, ∀ r : Fin 144, (fin X2 X3 X4 k (ix2 r j) : EReal) =
      (((∑ key ∈ Finset.range 8192, v key r * (if key ≤ 512 * k + qcol j.val then (2 : ℝ) ^ s key else 0)) / (2 : ℝ) ^ μ : ℝ) : EReal) := by
  have hq := qcol_lt j
  have hm : ∀ x : Fin 512, (msk k (scr (kblk X3 k) (stk (kblk X2 k))) (ix2 x j) : EReal) = if x.val ≤ qcol j.val then ((s (512 * k + x.val) : ℝ) : EReal) else ⊥ :=
    fun x => by rw [msk_at k hk16, hk k hk16]
  obtain ⟨μ, e2⟩ := fin_step (msk k (scr (kblk X3 k) (stk (kblk X2 k)))) (acc (stk (kblk X2 k)) X3 X4 k).1 (acc (stk (kblk X2 k)) X3 X4 k).2 (vblk X4 k) j
    (fun x => s (512 * k + x.val)) (qcol j.val) (fun x r => v (512 * k + x.val) r) _ (acc_inv (stk (kblk X2 k)) X3 X4 j s v hk hv k (by omega)) hm (fun r x => hv k hk16 r x)
  refine ⟨μ, fun r => ?_⟩
  unfold fin
  rw [e2 r]
  congr 2
  have hsub : Finset.range (512 * k + 512) ⊆ Finset.range 8192 := Finset.range_subset_range.2 (by omega)
  rw [← Finset.sum_subset hsub (fun key _ hkey => by
    rw [Finset.mem_range, not_lt] at hkey
    rw [if_neg (by omega), mul_zero])]
  rw [Finset.sum_range_add, Finset.sum_range (fun x => v (512 * k + x) r * (if 512 * k + x ≤ 512 * k + qcol j.val then (2 : ℝ) ^ s (512 * k + x) else 0))]
  congr 1
  · exact Finset.sum_congr rfl fun key hkey => by
      rw [Finset.mem_range] at hkey
      rw [if_pos (by omega)]
  · refine Finset.sum_congr rfl fun x _ => ?_
    by_cases hx : x.val ≤ qcol j.val
    · rw [if_pos hx, if_pos (by omega)]
    · rw [if_neg hx, if_neg (by omega)]

end Cert.AttnIdeal.Hand

end
-- ==== Proof.KFin.lean ====
module

public import proofs.«01_k».proof.Proof.Tile

@[expose] public section

set_option maxRecDepth 16384

noncomputable section

namespace Cert.AttnIdeal.Hand

open Cert.AttnIdeal Cert.AttnIdeal.Gen Cert.Online
open Idealize.ShloMosaic Idealize.ShloMosaic.TcCoe

/-! What one query tile of the kernel computes, when its blocks hold real numbers: the difference of the two maps' attention results. -/

section
variable (P : ℕ → ℕ → ℕ → ℝ) (b h : ℕ) (X2 X3 : Vec Ideal S1x8192x128 .bf16) (X4 : Vec Ideal S16x144x512 .bf16)
variable (h2 : ∀ (r : Fin 8192) (e : Fin 128), X2 (ix3 0 r e) = ((P b r.val (h * 128 + e.val) * (1 / 8 / Real.log 2) : ℝ) : EReal))
variable (h3 : ∀ (r : Fin 8192) (e : Fin 128), X3 (ix3 0 r e) = ((P b r.val (1024 + (h * 128 + e.val)) : ℝ) : EReal))
variable (h4 : ∀ (n : Fin 16) (r : Fin 144) (x : Fin 512), X4 (ix3 n r x) = ((if r.val < 128 then P b (512 * n.val + x.val) (2048 + (h * 128 + r.val)) else 1 : ℝ) : EReal))

include h2 h3 in
/-- The score of a key at a query, in units whose exponential has base two. -/
theorem scr_real (k : ℕ) (hk : k < 16) (j : Fin 1024) (n : ℕ) (hn : n < 16) (x : Fin 512) :
    scr (kblk X3 n) (stk (kblk X2 k)) (ix2 x j) = ((dt P b h (cmap j.val) (512 * k + qcol j.val) (512 * n + x.val) * (1 / 8) / Real.log 2 : ℝ) : EReal) := by
  have hq := qcol_lt j
  rw [scr_stk (kblk X3 n) (kblk X2 k) x j (fun e => P b (512 * n + x.val) (1024 + (h * 128 + e))) (fun e => P b (512 * k + qcol j.val) (h * 128 + e) * (1 / 8 / Real.log 2))
    (fun e => by rw [kblk_at X3 n hn, h3]) (fun e => by rw [kblk_at X2 k hk, h2])]
  congr 1
  unfold dt
  rw [Finset.sum_mul, Finset.sum_div]
  refine Finset.sum_congr rfl fun e _ => ?_
  rw [show h * 128 + cmap j.val * 64 + e.val = h * 128 + (cmap j.val * 64 + e.val) by ring]
  ring

include h2 h3 h4 in
/-- The accumulated products of a column, against the sums of the attention. -/
theorem fin_real (k : ℕ) (hk : k < 16) (j : Fin 1024) :
    ∃ μ : ℝ, (∀ e : Fin 128, (fin X2 X3 X4 k (ix2 ⟨e.val, by omega⟩ j) : EReal) = ((Wn P b h (cmap j.val) (512 * k + qcol j.val) e.val / (2 : ℝ) ^ μ : ℝ) : EReal))
      ∧ (fin X2 X3 X4 k (ix2 128 j) : EReal) = ((Dn P b h (cmap j.val) (512 * k + qcol j.val) / (2 : ℝ) ^ μ : ℝ) : EReal) := by
  obtain ⟨μ, e⟩ := fin_at X2 X3 X4 k hk j (fun key => dt P b h (cmap j.val) (512 * k + qcol j.val) key * (1 / 8) / Real.log 2)
    (fun key r => if r.val < 128 then P b key (2048 + (h * 128 + r.val)) else 1) (fun n hn x => scr_real P b h X2 X3 h2 h3 k hk j n hn x)
    (fun n hn r x => by rw [vblk_at X4 n hn, h4])
  refine ⟨μ, fun i => ?_, ?_⟩
  · rw [e]
    congr 2
    unfold Wn
    refine Finset.sum_congr rfl fun key _ => ?_
    have := i.isLt
    show (if i.val < 128 then P b key (2048 + (h * 128 + i.val)) else 1 : ℝ) * _ = _
    rw [if_pos i.isLt, fw, two_rpow_div_log]
  · rw [e]
    congr 2
    unfold Dn
    refine Finset.sum_congr rfl fun key _ => ?_
    show (if (128 : ℕ) < 128 then P b key (2048 + (h * 128 + 128)) else 1 : ℝ) * _ = _
    rw [if_neg (by norm_num), fw, two_rpow_div_log, one_mul]

include h2 h3 h4 in
/-- The difference of the two maps, which the output's norm takes. -/
theorem ko_real (k : ℕ) (hk : k < 16) (L : ℝ) (q : Fin 512) (e : Fin 128) :
    ko (fin X2 X3 X4 k) (L : EReal) q e = ((diff P L b h (512 * k + q.val) e.val : ℝ) : EReal) := by
  have hq := q.isLt
  have c0 : cmap q.val = 0 := if_pos hq
  have c1 : cmap (512 + q.val) = 1 := if_neg (by omega)
  have q0 : qcol q.val = q.val := qcol_lo _ hq
  have q1 : qcol (512 + q.val) = q.val := by rw [qcol_hi _ (by omega)]; omega
  obtain ⟨μ, a1, a2⟩ := fin_real P b h X2 X3 X4 h2 h3 h4 k hk ⟨q.val, by omega⟩
  obtain ⟨ν, b1, b2⟩ := fin_real P b h X2 X3 X4 h2 h3 h4 k hk ⟨512 + q.val, by omega⟩
  simp only [c0, c1, q0, q1] at a1 a2 b1 b2
  have d0 := Dn_pos P b h 0 (512 * k + q.val) (by omega)
  have d1 := Dn_pos P b h 1 (512 * k + q.val) (by omega)
  unfold ko
  rw [a1 e, a2, b1 e, b2, div_state _ _ _ d0, div_state _ _ _ d1]
  unfold diff
  rw [EReal.coe_sub, EReal.coe_mul]

end

end Cert.AttnIdeal.Hand

end
-- ==== Proof.RefTerm.lean ====
module

public import proofs.«01_k».proof.Proof.Gen.AttnRefIdeal.Run
public import Idealize.ShloMosaic.Lib.Pointwise

@[expose] public section

set_option maxRecDepth 16384

noncomputable section

namespace Cert.AttnRefIdeal.Hand

open Cert.AttnRefIdeal Cert.AttnRefIdeal.Gen
open Idealize.ShloMosaic Idealize.ShloMosaic.TcCoe Idealize.SL.Sem

/-! The reference's result, cut into named steps, and each step read at an index. -/

/-- The scores of both maps of every head, −∞ where the key comes after the query. -/
def rS (A : FVec Ideal S4x8192x8192 .f32) : FVec Ideal S4x8x2x8192x8192 .f32 :=
  select (broadcastInDim S4x8x2x8192x8192 ![3, 4] bcast_S8192x8192_S4x8x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
    (mulf (Host.dotGeneral dot_S4x8192x8x2x64_S4x8192x8x2x64_S4x8x2x8192x8192_4_4_1_1_023_023 none (shapeCast _ (extractStridedSlice S4x8192x1024 ![0, 0, 0] A slices_S4x8192x8192_S4x8192x1024_0_0_0) shapeCasts_S4x8192x1024_S4x8192x8x2x64) (shapeCast _ (extractStridedSlice S4x8192x1024 ![0, 0, 1024] A slices_S4x8192x8192_S4x8192x1024_0_0_1024) shapeCasts_S4x8192x1024_S4x8192x8x2x64)) (broadcastInDim S4x8x2x8192x8192 ![] bcast_S_S4x8x2x8192x8192 (constant S_ .f32 0x3E000000#32)))
    (broadcastInDim S4x8x2x8192x8192 ![] bcast_S_S4x8x2x8192x8192 (id (constant S_ .f32 0xFF800000#32)))

/-- The largest score of each query. -/
def rM (s : FVec Ideal S4x8x2x8192x8192 .f32) : FVec Ideal S4x8x2x8192 .f32 :=
  maximumf (broadcastInDim S4x8x2x8192 ![] bcast_S_S4x8x2x8192 (constant S_ .f32 0xFF800000#32)) (Host.reduce FloatOps.maximumf s (constant S_ .f32 0xFF800000#32) reducesTo_S4x8x2x8192x8192_S4x8x2x8192_d4 h_S_)

/-- The exponentials of the scores, each less the largest score of its query. -/
def rE (s : FVec Ideal S4x8x2x8192x8192 .f32) : FVec Ideal S4x8x2x8192x8192 .f32 :=
  Host.exp (subf s (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (rM s))))

/-- The attention weights: the exponentials over their sum. -/
def rP (e : FVec Ideal S4x8x2x8192x8192 .f32) : FVec Ideal S4x8x2x8192x8192 .f32 :=
  Host.divf e (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (Host.reduceAdd e (constant S_ .f32 0x00000000#32) reducesTo_S4x8x2x8192x8192_S4x8x2x8192_d4 h_S_)))

/-- The factor lambda of the second map. -/
def rL (a b c d : FVec Ideal S1x64 .f32) : FVec Ideal S_ .f32 :=
  addf (subf (Host.exp (Host.reduceAdd (mulf (shapeCast _ a shapeCasts_S1x64_S64) (shapeCast _ b shapeCasts_S1x64_S64)) (constant S_ .f32 0x00000000#32) reducesTo_S64_S_d0 h_S_)) (Host.exp (Host.reduceAdd (mulf (shapeCast _ c shapeCasts_S1x64_S64) (shapeCast _ d shapeCasts_S1x64_S64)) (constant S_ .f32 0x00000000#32) reducesTo_S64_S_d0 h_S_))) (constant S_ .f32 0x3E4CCCCD#32)

/-- The difference of the two maps times the values. -/
def rO (A : FVec Ideal S4x8192x8192 .f32) (p : FVec Ideal S4x8x2x8192x8192 .f32) (l : FVec Ideal S_ .f32) : FVec Ideal S4x8192x8x128 .f32 :=
  transpose S4x8192x8x128 [0, 3, 1, 2] (Host.dotGeneral dot_S4x8192x8x128_S4x8x8192x8192_S4x8x128x8192_1_3_3_2_02_01 none (shapeCast _ (extractStridedSlice S4x8192x1024 ![0, 0, 2048] A slices_S4x8192x8192_S4x8192x1024_0_0_2048) shapeCasts_S4x8192x1024_S4x8192x8x128) (subf (shapeCast _ (extractStridedSlice S4x8x1x8192x8192 ![0, 0, 0, 0, 0] p slices_S4x8x2x8192x8192_S4x8x1x8192x8192_0_0_0_0_0) shapeCasts_S4x8x1x8192x8192_S4x8x8192x8192) (mulf (broadcastInDim S4x8x8192x8192 ![] bcast_S_S4x8x8192x8192 l) (shapeCast _ (extractStridedSlice S4x8x1x8192x8192 ![0, 0, 1, 0, 0] p slices_S4x8x2x8192x8192_S4x8x1x8192x8192_0_0_1_0_0) shapeCasts_S4x8x1x8192x8192_S4x8x8192x8192)))) transposes_S4x8x128x8192_S4x8192x8x128_0_3_1_2

/-- The norm of each head, its weight and the last scale. -/
def rN (o : FVec Ideal S4x8192x8x128 .f32) (w : FVec Ideal S1x128 .f32) : FVec Ideal S4x8192x1024 .bf16 :=
  truncf .bf16 (shapeCast _ (mulf (mulf (mulf o (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf o o) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x358637BD#32)))))) (broadcastInDim S4x8192x8x128 ![0, 1, 2, 3] bcast_S1x1x1x128_S4x8192x8x128_0_1_2_3 (broadcastInDim S1x1x1x128 ![3] bcast_S128_S1x1x1x128_3 (shapeCast _ w shapeCasts_S1x128_S128)))) (broadcastInDim S4x8192x8x128 ![] bcast_S_S4x8192x8x128 (constant S_ .f32 0x3F4CCCCD#32))) shapeCasts_S4x8192x8x128_S4x8192x1024) bitsLt_bf16_f32

set_option maxHeartbeats 1600000 in
/-- The result of the reference is the steps, one after the other. -/
theorem res_steps (m : (ℓ : Loc nD τ sig) → Buf (Elt Ideal) ℓ) (c : Dev nD) :
    Cert.AttnRefIdeal.Value.res_out0 m c = rN (rO (m ((c.tc : Thread nD τ).loc main_arg0)) (rP (rE (rS (m ((c.tc : Thread nD τ).loc main_arg0))))) (rL (m ((c.tc : Thread nD τ).loc main_arg1)) (m ((c.tc : Thread nD τ).loc main_arg2)) (m ((c.tc : Thread nD τ).loc main_arg3)) (m ((c.tc : Thread nD τ).loc main_arg4)))) (m ((c.tc : Thread nD τ).loc main_arg5)) := rfl

/-- The scores at a query and a key. -/
theorem rS_at (A : FVec Ideal S4x8192x8192 .f32) (b : Fin 4) (h : Fin 8) (c : Fin 2) (q k : Fin 8192) :
    rS A (ix5 b h c q k) = Scalar.select (IntOp.cmpi CmpIPredicate.sle (BitVec.ofNat 32 ↑k) (BitVec.ofNat 32 ↑q))
      ((∑ x : Fin 64, A (ix3 b q ⟨↑h * 128 + ↑c * 64 + ↑x, by omega⟩) * A (ix3 b k ⟨1024 + (↑h * 128 + ↑c * 64 + ↑x), by omega⟩)) *
        Ideal.ofBits FTy.f32 1040187392#32) (Ideal.ofBits FTy.f32 0xFF800000#32) := by
  pointwise [rS]
  rfl

/-- An exponential at a query and a key. -/
theorem rE_at (s : FVec Ideal S4x8x2x8192x8192 .f32) (b : Fin 4) (h : Fin 8) (c : Fin 2) (q k : Fin 8192) :
    rE s (ix5 b h c q k) = Ideal.exp (s (ix5 b h c q k) - rM s (ix4 b h c q)) := by
  pointwise [rE]

/-- The word of −∞. -/
theorem negInf : Ideal.ofBits FTy.f32 4286578688#32 = ⊥ := by simp [Ideal.ofBits, Ideal.ieee]

/-- A maximum over the last of five axes is a real number when no entry is +∞ and one is not −∞. -/
theorem hostMax_real {n0 n1 n2 n3 n4 : ℕ} {u : Shape} (hr : (⟨5, ![n0, n1, n2, n3, n4]⟩ : Shape).ReducesTo [4] ⟨4, ![n0, n1, n2, n3]⟩)
    (s : (⟨5, ![n0, n1, n2, n3, n4]⟩ : Shape).Idx → Ideal .f32) (w : u.Idx → Ideal .f32) (hu : 0 < u.numel)
    (i0 : Fin n0) (i1 : Fin n1) (i2 : Fin n2) (i3 : Fin n3)
    (hw : w (Shape.Idx.first hu) = (⊥ : EReal)) (ht : ∀ k, s (ix5 i0 i1 i2 i3 k) ≠ (⊤ : EReal)) (k0 : Fin n4) (hk : s (ix5 i0 i1 i2 i3 k0) ≠ (⊥ : EReal)) :
    ∃ μ : ℝ, Host.reduce (FloatOps.maximumf (F := Ideal) (φ := .f32)) s w hr hu (ix4 i0 i1 i2 i3) = (μ : EReal) := by
  rw [Host.reduce_eq_fold, Shape.ReducesTo.fold_fiber_r5_a4, hw]
  have e : Finset.fold (FloatOps.maximumf (F := Ideal) (φ := .f32)) (⊥ : EReal) (fun k => s (ix5 i0 i1 i2 i3 k)) Finset.univ
      = Finset.fold max (⊥ : EReal) (fun k => s (ix5 i0 i1 i2 i3 k)) Finset.univ := rfl
  refine ⟨EReal.toReal (Finset.fold max (⊥ : EReal) (fun k => s (ix5 i0 i1 i2 i3 k)) Finset.univ), ?_⟩
  refine Eq.trans e (EReal.coe_toReal ?_ ?_).symm
  · exact ne_of_lt ((Finset.fold_max_lt _).2 ⟨bot_lt_top, fun k _ => lt_top_iff_ne_top.2 (ht k)⟩)
  · exact ne_of_gt ((Finset.lt_fold_max _).2 (Or.inr ⟨k0, Finset.mem_univ _, bot_lt_iff_ne_bot.2 hk⟩))

/-- A weight at a query and a key. -/
theorem rP_at (s : FVec Ideal S4x8x2x8192x8192 .f32) (b : Fin 4) (h : Fin 8) (c : Fin 2) (q k : Fin 8192) :
    rP s (ix5 b h c q k) = Ideal.div (s (ix5 b h c q k)) (∑ x : Fin 8192, s (ix5 b h c q x)) := by
  pointwise [rP]

/-- The same with the step's second comparison with −∞. -/
theorem hostMax_real' {n0 n1 n2 n3 n4 : ℕ} (hr : (⟨5, ![n0, n1, n2, n3, n4]⟩ : Shape).ReducesTo [4] ⟨4, ![n0, n1, n2, n3]⟩)
    (s : FVec Ideal ⟨5, ![n0, n1, n2, n3, n4]⟩ .f32) (hb : S_.BroadcastsInDim ⟨4, ![n0, n1, n2, n3]⟩ ![])
    (i0 : Fin n0) (i1 : Fin n1) (i2 : Fin n2) (i3 : Fin n3)
    (ht : ∀ k, s (ix5 i0 i1 i2 i3 k) ≠ (⊤ : EReal)) (k0 : Fin n4) (hk : s (ix5 i0 i1 i2 i3 k0) ≠ (⊥ : EReal)) :
    ∃ μ : ℝ, maximumf (broadcastInDim ⟨4, ![n0, n1, n2, n3]⟩ ![] hb (constant S_ .f32 0xFF800000#32)) (Host.reduce FloatOps.maximumf s (constant S_ .f32 0xFF800000#32) hr h_S_) (ix4 i0 i1 i2 i3) = (μ : EReal) := by
  obtain ⟨μ, e⟩ := hostMax_real hr s (constant S_ .f32 0xFF800000#32) h_S_ i0 i1 i2 i3 negInf ht k0 hk
  refine ⟨μ, ?_⟩
  generalize Host.reduce (FloatOps.maximumf (F := Ideal) (φ := .f32)) s (constant S_ .f32 0xFF800000#32) hr h_S_ = R at e ⊢
  have e1 : maximumf (broadcastInDim ⟨4, ![n0, n1, n2, n3]⟩ ![] hb (constant (F := Ideal) S_ .f32 0xFF800000#32)) R (ix4 i0 i1 i2 i3) = max (Ideal.ofBits FTy.f32 4286578688#32) (R (ix4 i0 i1 i2 i3)) := rfl
  rw [e1, e, negInf]
  exact max_eq_right bot_le

/-- The largest score of a query is a real number when no score is +∞ and one is not −∞. -/
theorem rM_real (s : FVec Ideal S4x8x2x8192x8192 .f32) (b : Fin 4) (h : Fin 8) (c : Fin 2) (q : Fin 8192)
    (ht : ∀ k, s (ix5 b h c q k) ≠ (⊤ : EReal)) (k0 : Fin 8192) (hk : s (ix5 b h c q k0) ≠ (⊥ : EReal)) :
    ∃ μ : ℝ, rM s (ix4 b h c q) = (μ : EReal) :=
  hostMax_real' (n0 := 4) (n1 := 8) (n2 := 2) (n3 := 8192) (n4 := 8192) reducesTo_S4x8x2x8192x8192_S4x8x2x8192_d4 s bcast_S_S4x8x2x8192 b h c q ht k0 hk

/-- Lambda. -/
theorem rL_at (a b c d : FVec Ideal S1x64 .f32) (i : S_.Idx) :
    rL a b c d i = Ideal.exp (∑ x : Fin 64, a (ix2 0 x) * b (ix2 0 x)) - Ideal.exp (∑ x : Fin 64, c (ix2 0 x) * d (ix2 0 x)) +
      Ideal.ofBits FTy.f32 1045220557#32 := by
  pointwise [rL]

/-- The weighted values. -/
theorem rO_at (A : FVec Ideal S4x8192x8192 .f32) (p : FVec Ideal S4x8x2x8192x8192 .f32) (l : FVec Ideal S_ .f32) (b : Fin 4) (q : Fin 8192) (h : Fin 8) (e : Fin 128) :
    rO A p l (ix4 b q h e) = ∑ x : Fin 8192, A (ix3 b x ⟨2048 + (↑h * 128 + ↑e), by omega⟩) * (p (ix5 b h 0 q x) - l ix0 * p (ix5 b h 1 q x)) := by
  pointwise [rO]

/-- The normalised result. -/
theorem rN_at (o : FVec Ideal S4x8192x8x128 .f32) (w : FVec Ideal S1x128 .f32) (b : Fin 4) (q : Fin 8192) (e : Fin 1024) :
    rN o w (ix3 b q e) = o (ix4 b q ⟨↑e / 128, by omega⟩ ⟨↑e % 128, by omega⟩) *
          Ideal.rsqrt
            (Ideal.div (∑ x : Fin 128, o (ix4 b q ⟨↑e / 128, by omega⟩ x) * o (ix4 b q ⟨↑e / 128, by omega⟩ x))
                (Ideal.ofBits FTy.f32 1124073472#32) +
              Ideal.ofBits FTy.f32 897988541#32) *
        w (ix2 0 ⟨↑e % 128, by omega⟩) *
      Ideal.ofBits FTy.f32 1061997773#32 := by
  pointwise [rN]

end Cert.AttnRefIdeal.Hand

end
-- ==== Proof.RefReal.lean ====
module

public import proofs.«01_k».proof.Proof.RefTerm
public import proofs.«01_k».proof.Proof.Spec
public import Idealize.ShloMosaic.Lib.WordCmp

@[expose] public section

set_option maxRecDepth 16384

noncomputable section

namespace Cert.AttnRefIdeal.Hand

open Cert.AttnRefIdeal Cert.Online
open Idealize.ShloMosaic Idealize.ShloMosaic.TcCoe

/-! What the reference computes before the norm, when the input holds real numbers. -/

section
variable (P : ℕ → ℕ → ℕ → ℝ) (A : FVec Ideal S4x8192x8192 .f32)
variable (hA : ∀ (b : Fin 4) (r : Fin 8192) (x : Fin 8192), x.val < 3072 → A (ix3 b r x) = ((P b.val r.val x.val : ℝ) : EReal))

include hA in
/-- The masked scores. -/
theorem rS_real (b : Fin 4) (h : Fin 8) (c : Fin 2) (q k : Fin 8192) :
    (rS A (ix5 b h c q k) : EReal) = if k.val ≤ q.val then ((dt P b.val h.val c.val q.val k.val * (1 / 8) : ℝ) : EReal) else ⊥ := by
  have e8 : Ideal.ofBits FTy.f32 1040187392#32 = ((1 / 8 : ℝ) : EReal) := by
    simp [Ideal.ofBits, Ideal.ieee]
    rw [← EReal.coe_mul]
    norm_num
  have hh := h.isLt
  have hc := c.isLt
  have hs : (∑ x : Fin 64, (A (ix3 b q ⟨h.val * 128 + c.val * 64 + x.val, by omega⟩) : EReal) * A (ix3 b k ⟨1024 + (h.val * 128 + c.val * 64 + x.val), by omega⟩) : EReal)
      = ((dt P b.val h.val c.val q.val k.val : ℝ) : EReal) := by
    unfold dt
    rw [coe_sum]
    refine Finset.sum_congr rfl fun x _ => ?_
    have hx := x.isLt
    rw [hA _ _ _ (by show h.val * 128 + c.val * 64 + x.val < 3072; omega), hA _ _ _ (by show 1024 + (h.val * 128 + c.val * 64 + x.val) < 3072; omega), EReal.coe_mul]
  have hw : IntOp.cmpi .sle (BitVec.ofNat 32 k.val) (BitVec.ofNat 32 q.val) = BitVec.ofBool (decide (k.val ≤ q.val)) := by
    rw [WordCmp.cmpi_sle_ofNat (by have := k.isLt; omega) (by have := q.isLt; omega)]
  rw [rS_at, hs, e8, negInf, hw, Scalar.select_ofBool, ← EReal.coe_mul]
  by_cases hkq : k.val ≤ q.val
  · rw [if_pos hkq]; simp [hkq]
  · rw [if_neg hkq]; simp [hkq]

include hA in
/-- The weights, up to a common factor: the row's largest score is a real number. -/
theorem rE_real (b : Fin 4) (h : Fin 8) (c : Fin 2) (q : Fin 8192) :
    ∃ μ : ℝ, ∀ k : Fin 8192, (rE (rS A) (ix5 b h c q k) : EReal) = ((fw P b.val h.val c.val q.val k.val / Real.exp μ : ℝ) : EReal) := by
  obtain ⟨μ, hμ⟩ := rM_real (rS A) b h c q (fun k => by
    rw [rS_real P A hA]
    split
    · exact EReal.coe_ne_top _
    · exact bot_ne_top) q (by
    rw [rS_real P A hA, if_pos le_rfl]
    exact EReal.coe_ne_bot _)
  refine ⟨μ, fun k => ?_⟩
  rw [rE_at, hμ, rS_real P A hA]
  unfold fw
  by_cases hkq : k.val ≤ q.val
  · rw [if_pos hkq, if_pos hkq, exp_sub _ (EReal.coe_ne_top _), Ideal.exp_coe, EReal.toReal_coe]
  · rw [if_neg hkq, if_neg hkq, exp_sub _ bot_ne_top, Ideal.exp_bot, EReal.toReal_zero]

include hA in
/-- The attention weights. -/
theorem rP_real (b : Fin 4) (h : Fin 8) (c : Fin 2) (q k : Fin 8192) :
    (rP (rE (rS A)) (ix5 b h c q k) : EReal) = ((fw P b.val h.val c.val q.val k.val / Dn P b.val h.val c.val q.val : ℝ) : EReal) := by
  obtain ⟨μ, hμ⟩ := rE_real P A hA b h c q
  have hD := Dn_pos P b.val h.val c.val q.val q.isLt
  have he := Real.exp_pos μ
  have hs : (∑ x : Fin 8192, (rE (rS A) (ix5 b h c q x) : EReal)) = ((Dn P b.val h.val c.val q.val / Real.exp μ : ℝ) : EReal) := by
    unfold Dn
    rw [Finset.sum_div, Finset.sum_range, coe_sum]
    exact Finset.sum_congr rfl fun x _ => hμ x
  rw [rP_at, hs, hμ, div_real _ _ (div_pos hD he).ne']
  congr 1
  field_simp

include hA in
/-- The difference of the two maps. -/
theorem rO_real (l : FVec Ideal S_ .f32) (L : ℝ) (hl : (l ix0 : EReal) = (L : EReal)) (b : Fin 4) (q : Fin 8192) (h : Fin 8) (e : Fin 128) :
    (rO A (rP (rE (rS A))) l (ix4 b q h e) : EReal) = ((diff P L b.val h.val q.val e.val : ℝ) : EReal) := by
  have hh := h.isLt
  have he := e.isLt
  rw [rO_at, hl]
  have h1 : ∀ x : Fin 8192, (A (ix3 b x ⟨2048 + (h.val * 128 + e.val), by omega⟩) : EReal) * (rP (rE (rS A)) (ix5 b h 0 q x) - (L : EReal) * rP (rE (rS A)) (ix5 b h 1 q x))
      = ((P b.val x.val (2048 + (h.val * 128 + e.val)) * (fw P b.val h.val 0 q.val x.val / Dn P b.val h.val 0 q.val - L * (fw P b.val h.val 1 q.val x.val / Dn P b.val h.val 1 q.val)) : ℝ) : EReal) := by
    intro x
    rw [hA _ _ _ (by show 2048 + (h.val * 128 + e.val) < 3072; omega), rP_real P A hA, rP_real P A hA, ← EReal.coe_mul, ← EReal.coe_sub, ← EReal.coe_mul]
    rfl
  refine (Finset.sum_congr rfl fun x _ => h1 x).trans ?_
  rw [← coe_sum]
  congr 1
  unfold diff Wn
  rw [Finset.sum_div, Finset.sum_div, Finset.mul_sum, ← Finset.sum_sub_distrib, Finset.sum_range]
  refine Finset.sum_congr rfl fun x _ => ?_
  ring

end

end Cert.AttnRefIdeal.Hand

end
-- ==== Proof.Blocks.lean ====
module

public import proofs.«01_k».proof.Proof.KTerm
public import proofs.«01_k».proof.Proof.Run
public import Idealize.ShloMosaic.Lib.Pipeline.ValueKit
public import Idealize.ShloMosaic.Lib.Claim

@[expose] public section

set_option maxRecDepth 16384

noncomputable section

namespace Cert.AttnIdeal.Hand

open Cert.AttnIdeal Cert.AttnIdeal.Gen
open Idealize.ShloMosaic Idealize.ShloMosaic.TcCoe Idealize.SL.Sem
open Idealize.ShloMosaic.Pipeline (Dat)

variable (m : (ℓ : Loc nD τ sig) → Buf (Elt Ideal) ℓ)

/-! The blocks the launch stages, read in the arguments. -/

theorem idx : ∀ t : Fin cfg0.N, win0_0.index t = ![t.val / 8, 0, t.val % 8] ∧ win0_1.index t = ![t.val / 8, 0, 8 + t.val % 8]
    ∧ win0_2.index t = ![t.val / 8, t.val % 8, 0] ∧ win0_3.index t = ![0, 0] ∧ win0_4.index t = ![0, 0] ∧ win0_5.index t = ![0, 0] ∧ win0_6.index t = ![0, 0]
    ∧ win0_7.index t = ![0, 0] ∧ win0_8.index t = ![t.val / 8, 0, t.val % 8] ∧ t.val / 8 < 4 :=
  (by decide +kernel : ∀ t : Fin grid0.N, _)

/-- The array of queries (scaled), keys and gates the host prepares. -/
def hP (A : FVec Ideal S4x8192x8192 .f32) : FVec Ideal S4x8192x6144 .bf16 :=
  truncf .bf16 (concatenate S4x8192x6144 2 [⟨S4x8192x1024, mulf (extractStridedSlice S4x8192x1024 ![0, 0, 0] A slices_S4x8192x8192_S4x8192x1024_0_0_0)
      (broadcastInDim S4x8192x1024 ![] bcast_S_S4x8192x1024 (Host.divf (constant S_ .f32 0x3E000000#32) (Host.log (constant S_ .f32 0x40000000#32))))⟩,
    ⟨S4x8192x1024, extractStridedSlice S4x8192x1024 ![0, 0, 1024] A slices_S4x8192x8192_S4x8192x1024_0_0_1024⟩,
    ⟨S4x8192x4096, extractStridedSlice S4x8192x4096 ![0, 0, 4096] A slices_S4x8192x8192_S4x8192x4096_0_0_4096⟩]
    concatenates_S4x8192x1024_S4x8192x1024_S4x8192x4096_S4x8192x6144_d2) bitsLt_bf16_f32

/-- The transposed values the host prepares, sixteen rows of ones below each head's. -/
def hV (A : FVec Ideal S4x8192x8192 .f32) : FVec Ideal S64x1152x512 .bf16 :=
  shapeCast _ (truncf .bf16 (concatenate S4x16x8x144x512 3 [⟨S4x16x8x128x512, transpose S4x16x8x128x512 [0, 1, 3, 4, 2]
      (shapeCast S4x16x512x8x128 (extractStridedSlice S4x8192x1024 ![0, 0, 2048] A slices_S4x8192x8192_S4x8192x1024_0_0_2048) shapeCasts_S4x8192x1024_S4x16x512x8x128) transposes_S4x16x512x8x128_S4x16x8x128x512_0_1_3_4_2⟩,
    ⟨S4x16x8x16x512, broadcastInDim S4x16x8x16x512 ![] bcast_S_S4x16x8x16x512 (constant (F := Ideal) S_ .f32 0x3F800000#32)⟩]
    concatenates_S4x16x8x128x512_S4x16x8x16x512_S4x16x8x144x512_d3) bitsLt_bf16_f32) shapeCasts_S4x16x8x144x512_S64x1152x512

set_option maxHeartbeats 1600000 in
theorem V9 (c : Dev nD) : V m c main_v9 = hP (m ((c : Thread nD τ).loc main_arg0)) := by
  have e : (hostOps0 : List (HloOp τ sig (Elt Ideal))) = hostOps0.take 10 ++ ((hostOps0.drop 10).take 2 ++ hostOps0.drop 12) := by
    rfl
  have h7 : StableHlo.after ((hostOps0 : List (HloOp τ sig (Elt Ideal))).take 10) (fun b => m (c, b)) main_v7 = (mulf (extractStridedSlice S4x8192x1024 ![0, 0, 0] (m ((c : Thread nD τ).loc main_arg0) : FVec Ideal S4x8192x8192 .f32) slices_S4x8192x8192_S4x8192x1024_0_0_0)
      (broadcastInDim S4x8192x1024 ![] bcast_S_S4x8192x1024 (Host.divf (constant S_ .f32 0x3E000000#32) (Host.log (constant S_ .f32 0x40000000#32)))) : FVec Ideal S4x8192x1024 .f32) := by
    simp only [hostOps0, List.take_succ_cons, List.take_zero]
    entry_read
    try rfl
  have h1 : StableHlo.after ((hostOps0 : List (HloOp τ sig (Elt Ideal))).take 10) (fun b => m (c, b)) main_v1 = (extractStridedSlice S4x8192x1024 ![0, 0, 1024] (m ((c : Thread nD τ).loc main_arg0) : FVec Ideal S4x8192x8192 .f32) slices_S4x8192x8192_S4x8192x1024_0_0_1024 : FVec Ideal S4x8192x1024 .f32) := by
    simp only [hostOps0, List.take_succ_cons, List.take_zero]
    entry_read
    try rfl
  have h3 : StableHlo.after ((hostOps0 : List (HloOp τ sig (Elt Ideal))).take 10) (fun b => m (c, b)) main_v3 = (extractStridedSlice S4x8192x4096 ![0, 0, 4096] (m ((c : Thread nD τ).loc main_arg0) : FVec Ideal S4x8192x8192 .f32) slices_S4x8192x8192_S4x8192x4096_0_0_4096 : FVec Ideal S4x8192x4096 .f32) := by
    simp only [hostOps0, List.take_succ_cons, List.take_zero]
    entry_read
    try rfl
  show StableHlo.after hostOps0 (fun b => m (c, b)) (Proc.devRef .tc main_v9) = _
  rw [e, StableHlo.after_append, StableHlo.after_append]
  generalize StableHlo.after ((hostOps0 : List (HloOp τ sig (Elt Ideal))).take 10) (fun b => m (c, b)) = W at h7 h1 h3 ⊢
  rw [StableHlo.after_of_forall_not_mem (b := Proc.devRef .tc main_v9) _ _ (List.forall_iff_forall_mem.mp (by
    simp only [hostOps0, List.drop_succ_cons, List.drop_zero, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  simp only [hostOps0, List.drop_succ_cons, List.drop_zero, List.take_succ_cons, List.take_zero]
  rw [StableHlo.after_cons, StableHlo.after_cons, StableHlo.after_nil, StableHlo.unary_result, StableHlo.nary_result]
  unfold hP
  rw [← h7, ← h1, ← h3]
  rfl

set_option maxHeartbeats 1600000 in
theorem V15 (c : Dev nD) : V m c main_v15 = hV (m ((c : Thread nD τ).loc main_arg0)) := by
  entry_read
  rfl

/-- The factor the queries are scaled by: an eighth over the logarithm of two. -/
def sc : EReal := Ideal.div (Ideal.ofBits FTy.f32 1040187392#32) (Ideal.log (Ideal.ofBits FTy.f32 1073741824#32))

theorem hP_q (A : FVec Ideal S4x8192x8192 .f32) (b : Fin 4) (r : Fin 8192) (e : Fin 1024) :
    hP A (ix3 b r ⟨e.val, by omega⟩) = A (ix3 b r ⟨e.val, by omega⟩) * sc := by
  pointwise [hP]
  rfl
theorem hP_k (A : FVec Ideal S4x8192x8192 .f32) (b : Fin 4) (r : Fin 8192) (e : Fin 1024) :
    hP A (ix3 b r ⟨1024 + e.val, by omega⟩) = A (ix3 b r ⟨1024 + e.val, by omega⟩) := by
  pointwise [hP]
theorem hV_at (A : FVec Ideal S4x8192x8192 .f32) (i : Fin 64) (r : Fin 1152) (x : Fin 512) :
    hV A (ix3 i r x) = if h : r.val % 144 < 128 then A (ix3 ⟨i.val / 16, by omega⟩ ⟨i.val % 16 * 512 + x.val, by omega⟩ ⟨2048 + (r.val / 144 * 128 + r.val % 144), by omega⟩) else 1 := by
  pointwise [hV]

/-- The arguments. -/
abbrev A0 (c : Dev nD) : FVec Ideal S4x8192x8192 .f32 := m ((c : Thread nD τ).loc main_arg0)
abbrev A1 (c : Dev nD) : FVec Ideal S1x64 .f32 := m ((c : Thread nD τ).loc main_arg1)
abbrev A2 (c : Dev nD) : FVec Ideal S1x64 .f32 := m ((c : Thread nD τ).loc main_arg2)
abbrev A3 (c : Dev nD) : FVec Ideal S1x64 .f32 := m ((c : Thread nD τ).loc main_arg3)
abbrev A4 (c : Dev nD) : FVec Ideal S1x64 .f32 := m ((c : Thread nD τ).loc main_arg4)
abbrev A5 (c : Dev nD) : FVec Ideal S1x128 .f32 := m ((c : Thread nD τ).loc main_arg5)

theorem tlt (t : Fin cfg0.N) : t.val / 8 < 4 := by have := idx t; omega

theorem blk0 (c : Dev nD) (t : Fin cfg0.N) (r : Fin 8192) (e : Fin 128) :
    (iblk m c 0 t : Vec Ideal S1x8192x128 .bf16) (ix3 0 r e) = A0 m c (ix3 ⟨t.val / 8, tlt t⟩ r ⟨t.val % 8 * 128 + e.val, by omega⟩) * sc := by
  have h : (iblk m c 0 t : Vec Ideal S1x8192x128 .bf16) (ix3 0 r e) = (V m c main_v9 : FVec Ideal S4x8192x6144 .bf16) (ix3 ⟨t.val / 8, tlt t⟩ r ⟨t.val % 8 * 128 + e.val, by omega⟩) := by
    blk_simp [iblk]
    blk_ext [idx t]
  rw [h, V9]
  exact hP_q _ ⟨t.val / 8, tlt t⟩ r ⟨t.val % 8 * 128 + e.val, by omega⟩

theorem blk1 (c : Dev nD) (t : Fin cfg0.N) (r : Fin 8192) (e : Fin 128) :
    (iblk m c 1 t : Vec Ideal S1x8192x128 .bf16) (ix3 0 r e) = A0 m c (ix3 ⟨t.val / 8, tlt t⟩ r ⟨1024 + (t.val % 8 * 128 + e.val), by omega⟩) := by
  have h : (iblk m c 1 t : Vec Ideal S1x8192x128 .bf16) (ix3 0 r e) = (V m c main_v9 : FVec Ideal S4x8192x6144 .bf16) (ix3 ⟨t.val / 8, tlt t⟩ r ⟨1024 + (t.val % 8 * 128 + e.val), by omega⟩) := by
    blk_simp [iblk]
    blk_ext [idx t]
  rw [h, V9]
  exact hP_k _ ⟨t.val / 8, tlt t⟩ r ⟨t.val % 8 * 128 + e.val, by omega⟩

theorem blk2 (c : Dev nD) (t : Fin cfg0.N) (n : Fin 16) (r : Fin 144) (x : Fin 512) :
    (iblk m c 2 t : Vec Ideal S16x144x512 .bf16) (ix3 n r x) = if h : r.val < 128 then A0 m c (ix3 ⟨t.val / 8, tlt t⟩ ⟨512 * n.val + x.val, by omega⟩ ⟨2048 + (t.val % 8 * 128 + r.val), by omega⟩) else 1 := by
  have hb := tlt t
  have h : (iblk m c 2 t : Vec Ideal S16x144x512 .bf16) (ix3 n r x) = (V m c main_v15 : FVec Ideal S64x1152x512 .bf16) (ix3 ⟨t.val / 8 * 16 + n.val, by omega⟩ ⟨t.val % 8 * 144 + r.val, by omega⟩ x) := by
    blk_simp [iblk]
    blk_ext [idx t]
  rw [h, V15, hV_at]
  have e1 : (t.val % 8 * 144 + r.val) % 144 = r.val := by omega
  have e2 : (t.val % 8 * 144 + r.val) / 144 = t.val % 8 := by omega
  have e3 : (t.val / 8 * 16 + n.val) / 16 = t.val / 8 := by omega
  have e4 : (t.val / 8 * 16 + n.val) % 16 = n.val := by omega
  simp only [e1, e2, e3, e4]
  by_cases hr : r.val < 128
  · rw [dif_pos hr, dif_pos hr]
    congr 3
    omega
  · rw [dif_neg hr, dif_neg hr]

theorem blk3 (c : Dev nD) (t : Fin cfg0.N) (e : Fin 64) :
    (iblk m c 3 t : Vec Ideal S1x64 .f32) (ix2 0 e) = A1 m c (ix2 0 e) := by
  have h : (iblk m c 3 t : Vec Ideal S1x64 .f32) (ix2 0 e) = (V m c main_v17 : FVec Ideal S1x64 .f32) (ix2 0 e) := by
    blk_simp [iblk]
    blk_ext [idx t]
  rw [h]
  entry_read
  pointwise

theorem blk4 (c : Dev nD) (t : Fin cfg0.N) (e : Fin 64) :
    (iblk m c 4 t : Vec Ideal S1x64 .f32) (ix2 0 e) = A2 m c (ix2 0 e) := by
  have h : (iblk m c 4 t : Vec Ideal S1x64 .f32) (ix2 0 e) = (V m c main_v19 : FVec Ideal S1x64 .f32) (ix2 0 e) := by
    blk_simp [iblk]
    blk_ext [idx t]
  rw [h]
  entry_read
  pointwise

theorem blk5 (c : Dev nD) (t : Fin cfg0.N) (e : Fin 64) :
    (iblk m c 5 t : Vec Ideal S1x64 .f32) (ix2 0 e) = A3 m c (ix2 0 e) := by
  have h : (iblk m c 5 t : Vec Ideal S1x64 .f32) (ix2 0 e) = (V m c main_v21 : FVec Ideal S1x64 .f32) (ix2 0 e) := by
    blk_simp [iblk]
    blk_ext [idx t]
  rw [h]
  entry_read
  pointwise

theorem blk6 (c : Dev nD) (t : Fin cfg0.N) (e : Fin 64) :
    (iblk m c 6 t : Vec Ideal S1x64 .f32) (ix2 0 e) = A4 m c (ix2 0 e) := by
  have h : (iblk m c 6 t : Vec Ideal S1x64 .f32) (ix2 0 e) = (V m c main_v23 : FVec Ideal S1x64 .f32) (ix2 0 e) := by
    blk_simp [iblk]
    blk_ext [idx t]
  rw [h]
  entry_read
  pointwise

theorem blk7 (c : Dev nD) (t : Fin cfg0.N) (e : Fin 128) :
    (iblk m c 7 t : Vec Ideal S128x1 .f32) (ix2 e 0) = A5 m c (ix2 0 e) := by
  have h : (iblk m c 7 t : Vec Ideal S128x1 .f32) (ix2 e 0) = (V m c main_v25 : FVec Ideal S128x1 .f32) (ix2 e 0) := by
    blk_simp [iblk]
    blk_ext [idx t]
  rw [h]
  entry_read
  pointwise

end Cert.AttnIdeal.Hand

end
-- ==== Proof.Value.lean ====
module

public import proofs.«01_k».proof.Proof.KFin
public import proofs.«01_k».proof.Proof.RefReal
public import proofs.«01_k».proof.Proof.Blocks

@[expose] public section

set_option maxRecDepth 16384

noncomputable section

namespace Cert.AttnIdeal.Hand

open Cert.AttnIdeal Cert.AttnIdeal.Gen Cert.Online
open Cert.AttnRefIdeal.Hand (rS rM rE rP rL rO rN rN_at rL_at rO_real)
open Idealize.ShloMosaic Idealize.ShloMosaic.TcCoe

/-! The kernel's result array is the reference's, when the queries, keys, values and the four factors of lambda are real numbers. -/

/-- The queries' scale is a real number. -/
theorem sc_real : sc = ((1 / 8 / Real.log 2 : ℝ) : EReal) := by
  have e8 : Ideal.ofBits FTy.f32 1040187392#32 = ((1 / 8 : ℝ) : EReal) := by
    simp [Ideal.ofBits, Ideal.ieee]
    rw [← EReal.coe_mul]
    norm_num
  have e2 : Ideal.ofBits FTy.f32 1073741824#32 = ((2 : ℝ) : EReal) := by
    simp [Ideal.ofBits, Ideal.ieee]
    rw [← EReal.coe_mul]
    norm_num
  have hl : Ideal.log ((2 : ℝ) : EReal) = ((Real.log 2 : ℝ) : EReal) := by
    rw [Ideal.log_coe, if_neg (by norm_num)]
  unfold sc
  rw [e8, e2, hl, div_real _ _ (Real.log_pos (by norm_num)).ne']

/-- The entries of an array as real numbers, at natural indices. -/
def reals (A : FVec Ideal S4x8192x8192 .f32) (b r x : ℕ) : ℝ :=
  EReal.toReal (A (ix3 ⟨b % 4, Nat.mod_lt _ (by norm_num)⟩ ⟨r % 8192, Nat.mod_lt _ (by norm_num)⟩ ⟨x % 8192, Nat.mod_lt _ (by norm_num)⟩))

theorem reals_eq (A : FVec Ideal S4x8192x8192 .f32) (hA : ∀ (b : Fin 4) (r x : Fin 8192), x.val < 3072 → ∃ a : ℝ, (A (ix3 b r x) : EReal) = (a : EReal))
    (b : Fin 4) (r x : Fin 8192) (hx : x.val < 3072) : A (ix3 b r x) = ((reals A b.val r.val x.val : ℝ) : EReal) := by
  obtain ⟨a, ha⟩ := hA b r x hx
  have e : reals A b.val r.val x.val = EReal.toReal (A (ix3 b r x)) := by
    unfold reals
    congr 2
    have e1 : (⟨b.val % 4, Nat.mod_lt _ (by norm_num)⟩ : Fin 4) = b := Fin.ext (Nat.mod_eq_of_lt b.isLt)
    have e2 : (⟨r.val % 8192, Nat.mod_lt _ (by norm_num)⟩ : Fin 8192) = r := Fin.ext (Nat.mod_eq_of_lt r.isLt)
    have e3 : (⟨x.val % 8192, Nat.mod_lt _ (by norm_num)⟩ : Fin 8192) = x := Fin.ext (Nat.mod_eq_of_lt x.isLt)
    rw [e1, e2, e3]
  rw [e, ha, EReal.toReal_coe]

/-- Lambda of four real vectors is a real number. -/
theorem rL_real (x5 x6 x7 x8 : FVec Ideal S1x64 .f32) (h5 : ∀ e : Fin 64, ∃ a : ℝ, (x5 (ix2 0 e) : EReal) = (a : EReal)) (h6 : ∀ e : Fin 64, ∃ a : ℝ, (x6 (ix2 0 e) : EReal) = (a : EReal))
    (h7 : ∀ e : Fin 64, ∃ a : ℝ, (x7 (ix2 0 e) : EReal) = (a : EReal)) (h8 : ∀ e : Fin 64, ∃ a : ℝ, (x8 (ix2 0 e) : EReal) = (a : EReal)) :
    ∃ L : ℝ, (rL x5 x6 x7 x8 ix0 : EReal) = (L : EReal) := by
  have hs : ∀ y z : FVec Ideal S1x64 .f32, (∀ e : Fin 64, ∃ a : ℝ, (y (ix2 0 e) : EReal) = (a : EReal)) → (∀ e : Fin 64, ∃ a : ℝ, (z (ix2 0 e) : EReal) = (a : EReal)) →
      ∃ a : ℝ, (∑ x : Fin 64, (y (ix2 0 x) : EReal) * z (ix2 0 x) : EReal) = (a : EReal) := by
    intro y z hy hz
    choose f hf using hy
    choose g hg using hz
    refine ⟨∑ x : Fin 64, f x * g x, ?_⟩
    rw [coe_sum]
    exact Finset.sum_congr rfl fun x _ => by rw [hf, hg, EReal.coe_mul]
  have ec : ∃ a : ℝ, Ideal.ofBits FTy.f32 1045220557#32 = (a : EReal) := by
    refine ⟨13421773 * (1 / 67108864), ?_⟩
    simp [Ideal.ofBits, Ideal.ieee]
    norm_num
  obtain ⟨a, ha⟩ := hs x5 x6 h5 h6
  obtain ⟨b, hb⟩ := hs x7 x8 h7 h8
  obtain ⟨d, hd⟩ := ec
  refine ⟨Real.exp a - Real.exp b + d, ?_⟩
  rw [rL_at, ha, hb, hd, Ideal.exp_coe, Ideal.exp_coe, EReal.coe_add, EReal.coe_sub]

/-- The output block at a row and a feature is its query tile's. -/
theorem outBlk_at (X2 X3 : Vec Ideal S1x8192x128 .bf16) (X4 : Vec Ideal S16x144x512 .bf16) (x5 x6 x7 x8 : Vec Ideal S1x64 .f32) (x9 : Vec Ideal S128x1 .f32) (y : Fin 8192) (e : Fin 128) :
    outBlk X2 X3 X4 x5 x6 x7 x8 x9 (ix3 0 y e) = outTile X2 X3 X4 x5 x6 x7 x8 x9 (y.val / 512) (ix3 0 ⟨y.val % 512, Nat.mod_lt _ (by norm_num)⟩ e) := by
  unfold outBlk
  congr 1
  funext a
  have := e.isLt
  fin_cases a
  · rfl
  · rfl
  · apply Fin.ext
    show e.val % 128 = e.val
    exact Nat.mod_eq_of_lt e.isLt

variable (m : (ℓ : Loc nD τ sig) → Buf (Elt Ideal) ℓ)

/-- What the reference computes, over the kernel's arguments. -/
def RES (c : Dev nD) : FVec Ideal S4x8192x1024 .bf16 :=
  rN (rO (A0 m c) (rP (rE (rS (A0 m c)))) (rL (A1 m c) (A2 m c) (A3 m c) (A4 m c))) (A5 m c)

/-- The inputs that enter the softmax and lambda are real numbers. -/
structure Fini (c : Dev nD) : Prop where
  h0 : ∀ (b : Fin 4) (r x : Fin 8192), x.val < 3072 → ∃ a : ℝ, (A0 m c (ix3 b r x) : EReal) = (a : EReal)
  h1 : ∀ e : Fin 64, ∃ a : ℝ, (A1 m c (ix2 0 e) : EReal) = (a : EReal)
  h2 : ∀ e : Fin 64, ∃ a : ℝ, (A2 m c (ix2 0 e) : EReal) = (a : EReal)
  h3 : ∀ e : Fin 64, ∃ a : ℝ, (A3 m c (ix2 0 e) : EReal) = (a : EReal)
  h4 : ∀ e : Fin 64, ∃ a : ℝ, (A4 m c (ix2 0 e) : EReal) = (a : EReal)

theorem kl_eq (c : Dev nD) (t : Fin cfg0.N) :
    kl (iblk m c 3 t) (iblk m c 4 t) (iblk m c 5 t) (iblk m c 6 t) = rL (A1 m c) (A2 m c) (A3 m c) (A4 m c) ix0 := by
  rw [rL_at]
  unfold kl
  simp only [blk3, blk4, blk5, blk6]

/-- One entry of an output block. -/
theorem out_entry (c : Dev nD) (hf : Fini m c) (t : Fin cfg0.N) (y : Fin 8192) (e : Fin 128) :
    outAt m c t (ix3 0 y e) = RES m c (ix3 ⟨t.val / 8, tlt t⟩ y ⟨t.val % 8 * 128 + e.val, by omega⟩) := by
  have ht := tlt t
  have he := e.isLt
  have hy := y.isLt
  obtain ⟨L, hL⟩ := rL_real _ _ _ _ hf.h1 hf.h2 hf.h3 hf.h4
  have hA := reals_eq (A0 m c) hf.h0
  have h2 : ∀ (r : Fin 8192) (x : Fin 128), (iblk m c 0 t : Vec Ideal S1x8192x128 .bf16) (ix3 0 r x) = ((reals (A0 m c) (t.val / 8) r.val (t.val % 8 * 128 + x.val) * (1 / 8 / Real.log 2) : ℝ) : EReal) := by
    intro r x
    have hx := x.isLt
    rw [blk0, hA _ _ _ (by show t.val % 8 * 128 + x.val < 3072; omega), sc_real, EReal.coe_mul]
  have h3 : ∀ (r : Fin 8192) (x : Fin 128), (iblk m c 1 t : Vec Ideal S1x8192x128 .bf16) (ix3 0 r x) = ((reals (A0 m c) (t.val / 8) r.val (1024 + (t.val % 8 * 128 + x.val)) : ℝ) : EReal) := by
    intro r x
    have hx := x.isLt
    rw [blk1, hA _ _ _ (by show 1024 + (t.val % 8 * 128 + x.val) < 3072; omega)]
  have h4 : ∀ (n : Fin 16) (r : Fin 144) (x : Fin 512), (iblk m c 2 t : Vec Ideal S16x144x512 .bf16) (ix3 n r x)
      = ((if r.val < 128 then reals (A0 m c) (t.val / 8) (512 * n.val + x.val) (2048 + (t.val % 8 * 128 + r.val)) else 1 : ℝ) : EReal) := by
    intro n r x
    rw [blk2]
    by_cases hr : r.val < 128
    · rw [dif_pos hr, if_pos hr, hA _ _ _ (by show 2048 + (t.val % 8 * 128 + r.val) < 3072; omega)]
    · rw [dif_neg hr, if_neg hr, EReal.coe_one]
  have hk : ∀ x : Fin 128, ko (fin (iblk m c 0 t) (iblk m c 1 t) (iblk m c 2 t) (y.val / 512)) (kl (iblk m c 3 t) (iblk m c 4 t) (iblk m c 5 t) (iblk m c 6 t)) ⟨y.val % 512, Nat.mod_lt _ (by norm_num)⟩ x
      = rO (A0 m c) (rP (rE (rS (A0 m c)))) (rL (A1 m c) (A2 m c) (A3 m c) (A4 m c)) (ix4 ⟨t.val / 8, tlt t⟩ y ⟨t.val % 8, Nat.mod_lt _ (by norm_num)⟩ x) := by
    intro x
    rw [kl_eq, hL, ko_real (reals (A0 m c)) (t.val / 8) (t.val % 8) _ _ _ h2 h3 h4 (y.val / 512) (by omega), rO_real (reals (A0 m c)) (A0 m c) hA _ L hL]
    rw [show 512 * (y.val / 512) + y.val % 512 = y.val by omega]
  have d1 : (⟨(t.val % 8 * 128 + e.val) / 128, by omega⟩ : Fin 8) = ⟨t.val % 8, Nat.mod_lt _ (by norm_num)⟩ := Fin.ext (by show (t.val % 8 * 128 + e.val) / 128 = t.val % 8; omega)
  have d2 : (⟨(t.val % 8 * 128 + e.val) % 128, by omega⟩ : Fin 128) = e := Fin.ext (by show (t.val % 8 * 128 + e.val) % 128 = e.val; omega)
  unfold outAt RES
  rw [outBlk_at]
  unfold outTile
  rw [out_at, rN_at, d1, d2, blk7]
  simp only [hk]

/-- The kernel's result array after the run is what the reference computes. -/
theorem final (c : Dev nD) (hf : Fini m c) : (dats m 0 c).arrAt 8 (cfgs 0).N = RES m c := by
  refine (dats m 0 c).arrAt_eq_of_covers 8 _ (by decide +kernel) fun t _ y => ?_
  blk_simp
  rw [after_8]
  have hy : y = ix3 0 (y 1) (y 2) := by
    funext a
    fin_cases a
    · apply Fin.ext
      show (y 0).val = 0
      have : (y 0).val < 1 := (y 0).isLt
      omega
    · rfl
    · rfl
  rw [hy]
  refine (out_entry m c hf t (y 1) (y 2)).trans ?_
  blk_ext [idx t]

end Cert.AttnIdeal.Hand

end
-- ==== Proof.Pre.lean ====
module

public import proofs.«01_k».proof.Defs
public import proofs.«01_k».proof.Proof.Value
public import proofs.«01_k».proof.Proof.Gen.AttnIdeal

@[expose] public section

set_option maxRecDepth 16384

noncomputable section

namespace Cert.Pre_finite.Hand

open Idealize.ShloMosaic Idealize.ShloMosaic.TcCoe

/-! The precondition: the inputs of the softmax and of lambda are real numbers. -/

/-- The shape facts of the precondition. -/
theorem facts : Cert.Pre_finite.Facts where
  slices_S4x8192x8192_S4x8192x3072_0_0_0 := by decide
  bcast_S_S4x8192x3072 := by decide
  bcast_S_S1x64 := by decide

theorem posInf : Ideal.ofBits FTy.f32 2139095040#32 = ⊤ := by simp [Ideal.ofBits, Ideal.ieee]

/-- An extended real whose absolute value is below +∞ is a real number. -/
theorem real_of_lt (x : EReal) (h : Ideal.cmp .olt (max x (-x)) ⊤ = 1#1) : ∃ a : ℝ, x = (a : EReal) := by
  have h' : max x (-x) < ⊤ := by
    by_contra hn
    simp [Ideal.cmp, hn] at h
  induction x with
  | bot => simp at h'
  | top => simp at h'
  | coe a => exact ⟨a, rfl⟩

/-- The first 3072 columns of an array. -/
theorem slice_at (A : FVec Ideal S4x8192x8192 .f32) (b : Fin 4) (r x : Fin 8192) (hx : x.val < 3072) :
    extractStridedSlice S4x8192x3072 ![0, 0, 0] A facts.slices_S4x8192x8192_S4x8192x3072_0_0_0 (ix3 b r ⟨x.val, hx⟩) = A (ix3 b r x) := by
  pointwise

/-- The precondition gives real numbers. -/
theorem fini (m : (ℓ : Loc Cert.AttnIdeal.nD Cert.AttnIdeal.τ Cert.AttnIdeal.sig) → Buf (Elt Ideal) ℓ)
    (h : Cert.Pre_AttnIdeal_finite (hPre_finite := facts) m) (c : Dev Cert.AttnIdeal.nD) : Cert.AttnIdeal.Hand.Fini m c := by
  obtain ⟨p0, p1, p2, p3, p4⟩ := h c
  refine ⟨fun b r x hx => ?_, fun e => ?_, fun e => ?_, fun e => ?_, fun e => ?_⟩
  · have h0 := congrFun p0 (ix3 b r ⟨x.val, hx⟩)
    refine real_of_lt _ (Eq.trans ?_ h0)
    rw [← posInf]
    rw [← slice_at (Cert.AttnIdeal.Hand.A0 m c) b r x hx]
    rfl
  · exact real_of_lt _ (Eq.trans (by rw [← posInf]; rfl) (congrFun p1 (ix2 0 e)))
  · exact real_of_lt _ (Eq.trans (by rw [← posInf]; rfl) (congrFun p2 (ix2 0 e)))
  · exact real_of_lt _ (Eq.trans (by rw [← posInf]; rfl) (congrFun p3 (ix2 0 e)))
  · exact real_of_lt _ (Eq.trans (by rw [← posInf]; rfl) (congrFun p4 (ix2 0 e)))

end Cert.Pre_finite.Hand

end
-- ==== Proof.FfnPure.lean ====
module

public import proofs.«01_k».proof.Proof.Gen.FfnIdeal.Skeleton
public import proofs.«01_k».proof.Proof.Gen.FfnRefIdeal.Run
public import Idealize.ShloMosaic.Lib.Pointwise

@[expose] public section

set_option maxRecDepth 16384

noncomputable section

/-! The feed-forward part entry by entry: what one block of each of its two calls computes, and what the reference computes. -/

namespace Cert.Rows

open Idealize.ShloMosaic

/-- A gated hidden entry, of a row of activations, a column of gate weights and a column of up weights. -/
def hid (z g u : Fin 2048 → EReal) : EReal :=
  (∑ k, z k * g k) * Ideal.div 1 (1 + Ideal.exp (-∑ k, z k * g k)) * ∑ k, z k * u k

/-- The entry of a row after division by the row's root mean square, times a weight. -/
def rms (x : Fin 2048 → EReal) (w : EReal) (d : Fin 2048) : EReal :=
  x d * Ideal.rsqrt (Ideal.div (∑ e, x e * x e) (Ideal.ofBits FTy.f32 0x45000000#32) + Ideal.ofBits FTy.f32 0x358637BD#32) * w

end Cert.Rows

namespace Cert.FfnIdeal.Hand

open Cert.FfnIdeal Cert.FfnIdeal.Gen Cert.Rows
open Idealize.ShloMosaic Idealize.ShloMosaic.TcCoe

/-- A hidden block entry. -/
theorem up_at (x0 : Vec Ideal S1024x2048 .bf16) (x1 x2 : Vec Ideal S2048x512 .bf16) (r : Fin 1024) (f : Fin 512) :
    k0_pay1 x0 x1 x2 (ix2 r f) = hid (fun k => x0 (ix2 r k)) (fun k => x1 (ix2 k f)) (fun k => x2 (ix2 k f)) := by
  pointwise [k0_pay1, hid]
  rfl

/-- An output block entry. -/
theorem down_at (a : Vec Ideal S256x5632 .bf16) (wd : Vec Ideal S5632x2048 .bf16) (h : Vec Ideal S256x2048 .f32) (w : Vec Ideal S1x2048 .f32) (r : Fin 256) (d : Fin 2048) :
    k1_pay1 a wd h w (ix2 r d) = h (ix2 r d) + rms (fun e => ∑ k : Fin 5632, a (ix2 r k) * wd (ix2 k e)) (w (ix2 0 d)) d := by
  pointwise [k1_pay1, rms]

end Cert.FfnIdeal.Hand

namespace Cert.FfnRefIdeal.Hand

open Cert.FfnRefIdeal Cert.FfnRefIdeal.Gen Cert.Rows
open Idealize.ShloMosaic Idealize.ShloMosaic.TcCoe

/-- A product with a matrix of weights of the hidden width. -/
def rX (Z : FVec Ideal S4x8192x2048 .f32) (G : FVec Ideal S1x2048x5632 .f32) : FVec Ideal S4x8192x5632 .f32 :=
  Host.dotGeneral dot_S4x8192x2048_S2048x5632_S4x8192x5632_2_0_01_1_n_n none Z (shapeCast _ G shapeCasts_S1x2048x5632_S2048x5632)

/-- The reference's hidden activations. -/
def rH (x y : FVec Ideal S4x8192x5632 .f32) : FVec Ideal S4x8192x5632 .f32 :=
  mulf (mulf x (Host.divf (broadcastInDim S4x8192x5632 ![] bcast_S_S4x8192x5632 (constant S_ .f32 0x3F800000#32)) (addf (broadcastInDim S4x8192x5632 ![] bcast_S_S4x8192x5632 (constant S_ .f32 0x3F800000#32)) (Host.exp (Host.negf x))))) y

/-- The reference's product of the hidden activations with the last weights. -/
def rF (a : FVec Ideal S4x8192x5632 .f32) (D : FVec Ideal S1x5632x2048 .f32) : FVec Ideal S4x8192x2048 .f32 :=
  Host.dotGeneral dot_S4x8192x5632_S5632x2048_S4x8192x2048_2_0_01_1_n_n none a (shapeCast _ D shapeCasts_S1x5632x2048_S5632x2048)

/-- The reference's result, of the product before the norm. -/
def rOut (H f : FVec Ideal S4x8192x2048 .f32) (W : FVec Ideal S1x2048 .f32) : FVec Ideal S32768x2048 .f32 :=
  shapeCast _ (addf H (mulf (mulf f (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf f f) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 (shapeCast _ W shapeCasts_S1x2048_S2048))))) shapeCasts_S4x8192x2048_S32768x2048

theorem rH_at (Z : FVec Ideal S4x8192x2048 .f32) (G U : FVec Ideal S1x2048x5632 .f32) (b : Fin 4) (r : Fin 8192) (f : Fin 5632) :
    rH (rX Z G) (rX Z U) (ix3 b r f) = hid (fun k => Z (ix3 b r k)) (fun k => G (ix3 0 k f)) (fun k => U (ix3 0 k f)) := by
  pointwise [rH, rX, hid]

theorem rF_at (a : FVec Ideal S4x8192x5632 .f32) (D : FVec Ideal S1x5632x2048 .f32) (b : Fin 4) (r : Fin 8192) (d : Fin 2048) :
    rF a D (ix3 b r d) = ∑ k : Fin 5632, a (ix3 b r k) * D (ix3 0 k d) := by
  pointwise [rF]

theorem rOut_at (H f : FVec Ideal S4x8192x2048 .f32) (W : FVec Ideal S1x2048 .f32) (r : Fin 32768) (d : Fin 2048) :
    rOut H f W (ix2 r d) = H (ix3 ⟨r.val / 8192, by omega⟩ ⟨r.val % 8192, by omega⟩ d)
      + rms (fun e => f (ix3 ⟨r.val / 8192, by omega⟩ ⟨r.val % 8192, by omega⟩ e)) (W (ix2 0 d)) d := by
  pointwise [rOut, rms]

end Cert.FfnRefIdeal.Hand

end
-- ==== Proof.FfnRun.lean ====
module

public import proofs.«01_k».proof.Proof.Gen.FfnIdeal.Frame

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The two calls run one after the other: every buffer that lives through the run ends with the contents that the second
    call's region leaves in it. -/
theorem run : θ_run defs (onTc (τ := τ) (main (F := F))) ⟨m, fun _ => 0, ρ⟩ (fun r => ∀ c : Dev nD, ∀ b ∈ Pipeline.ucRefs τ sig,
    r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The result array ends as the second call's write-backs leave it. -/
theorem run_out : θ_run defs (onTc (τ := τ) (main (F := F))) ⟨m, fun _ => 0, ρ⟩ (fun r => ∀ c : Dev nD,
    r.2.mem ((c.tc : Thread nD τ).loc main_v12) = (dat1 (V2 m ρ) c).arrAt 4 cfg1.N) :=
  (θ_run defs _ _).mono (fun _ h c => (h c _ (mem_uc main_v12 (by decide))).trans (W3_arr m ρ c 4)) (run m ρ)

end Cert.FfnIdeal.Hand

end
-- ==== Proof.FfnVal.lean ====
module

public import proofs.«01_k».proof.Proof.FfnPure
public import proofs.«01_k».proof.Proof.FfnRun
public import Idealize.ShloMosaic.Lib.Pipeline.ValueKit
public import Idealize.ShloMosaic.Lib.Claim

@[expose] public section

set_option maxRecDepth 16384

noncomputable section

namespace Cert.FfnIdeal.Hand

open Cert.FfnIdeal Cert.FfnIdeal.Gen Cert.Rows
open Idealize.ShloMosaic Idealize.ShloMosaic.TcCoe Idealize.SL.Sem
open Idealize.ShloMosaic.Pipeline (Dat)
open Cert.FfnRefIdeal.Hand (rX rH rF rOut rH_at rF_at rOut_at)

variable (m : (ℓ : Loc nD τ sig) → Buf (Elt Ideal) ℓ) (ρ : Dev nD → PrngReg)

/-! The two calls' result arrays, and their agreement with the reference. -/

/-- Which block of each array a step of the first call works on. -/
theorem idx0 : ∀ t : Fin cfg0.N, win0_0.index t = ![t.val / 11, 0] ∧ win0_1.index t = ![0, t.val % 11] ∧ win0_2.index t = ![0, t.val % 11]
    ∧ win0_3.index t = ![t.val / 11, t.val % 11] ∧ t.val / 11 < 32 :=
  (by decide +kernel : ∀ t : Fin grid0.N, _)

/-- Which block of each array a step of the second call works on. -/
theorem idx1 : ∀ t : Fin cfg1.N, win1_0.index t = ![t.val, 0] ∧ win1_1.index t = ![t.val, 0] ∧ win1_2.index t = ![0, 0] ∧ win1_3.index t = ![0, 0]
    ∧ win1_4.index t = ![t.val, 0] ∧ t.val < 128 :=
  (by decide +kernel : ∀ t : Fin grid1.N, _)

/-- The hidden activations, of the rows of activations and the two weight matrices. -/
def HID (z : FVec Ideal S32768x2048 .bf16) (g u : FVec Ideal S2048x5632 .bf16) : FVec Ideal S32768x5632 .bf16 :=
  fun i => hid (fun k => z (ix2 (i 0) k)) (fun k => g (ix2 k (i 1))) (fun k => u (ix2 k (i 1)))

/-- The feed-forward part's result, of the hidden activations, the residual, the last weights and the norm's weights. -/
def OUT (a : FVec Ideal S32768x5632 .bf16) (h : FVec Ideal S32768x2048 .f32) (wd : FVec Ideal S5632x2048 .bf16) (w : FVec Ideal S1x2048 .f32) : FVec Ideal S32768x2048 .f32 :=
  fun i => h (ix2 (i 0) (i 1)) + rms (fun e => ∑ k : Fin 5632, a (ix2 (i 0) k) * wd (ix2 k e)) (w (ix2 0 (i 1))) (i 1)

section
variable (V : (c : Dev nD) → (b : Ref sig .tc) → Buf (Elt Ideal) ((c : Thread nD τ).loc b))

theorem t0lt (t : Fin cfg0.N) : t.val / 11 < 32 := by have := idx0 t; omega
theorem t1lt (t : Fin cfg1.N) : t.val < 128 := by have := idx1 t; omega

/-! The blocks that a step works on, read in the arrays. -/

theorem blk0_0 (c : Dev nD) (t : Fin cfg0.N) (r : Fin 1024) (k : Fin 2048) :
    (iblk0 V c 0 t : Vec Ideal S1024x2048 .bf16) (ix2 r k) = (V c main_v1 : FVec Ideal S32768x2048 .bf16) (ix2 ⟨t.val / 11 * 1024 + r.val, by have := t0lt t; omega⟩ k) := by
  blk_simp [iblk0]
  blk_ext [idx0 t]
theorem blk0_1 (c : Dev nD) (t : Fin cfg0.N) (k : Fin 2048) (f : Fin 512) :
    (iblk0 V c 1 t : Vec Ideal S2048x512 .bf16) (ix2 k f) = (V c main_v4 : FVec Ideal S2048x5632 .bf16) (ix2 k ⟨t.val % 11 * 512 + f.val, by omega⟩) := by
  blk_simp [iblk0]
  blk_ext [idx0 t]
theorem blk0_2 (c : Dev nD) (t : Fin cfg0.N) (k : Fin 2048) (f : Fin 512) :
    (iblk0 V c 2 t : Vec Ideal S2048x512 .bf16) (ix2 k f) = (V c main_v6 : FVec Ideal S2048x5632 .bf16) (ix2 k ⟨t.val % 11 * 512 + f.val, by omega⟩) := by
  blk_simp [iblk0]
  blk_ext [idx0 t]
theorem emb0 (t : Fin cfg0.N) (r : Fin 1024) (f : Fin 512) :
    (((cfg0.win 3).blk t).view.emb (ix2 r f : S1024x512.Idx) : S32768x5632.Idx) = ix2 ⟨t.val / 11 * 1024 + r.val, by have := t0lt t; omega⟩ ⟨t.val % 11 * 512 + f.val, by omega⟩ := by
  blk_ext [idx0 t]
theorem blk1_0 (c : Dev nD) (t : Fin cfg1.N) (r : Fin 256) (k : Fin 5632) :
    (iblk1 V c 0 t : Vec Ideal S256x5632 .bf16) (ix2 r k) = (V c main_v11 : FVec Ideal S32768x5632 .bf16) (ix2 ⟨t.val * 256 + r.val, by have := t1lt t; omega⟩ k) := by
  blk_simp [iblk1]
  blk_ext [idx1 t]
theorem blk1_1 (c : Dev nD) (t : Fin cfg1.N) (r : Fin 256) (d : Fin 2048) :
    (iblk1 V c 1 t : Vec Ideal S256x2048 .f32) (ix2 r d) = (V c main_v2 : FVec Ideal S32768x2048 .f32) (ix2 ⟨t.val * 256 + r.val, by have := t1lt t; omega⟩ d) := by
  blk_simp [iblk1]
  blk_ext [idx1 t]
theorem blk1_2 (c : Dev nD) (t : Fin cfg1.N) (k : Fin 5632) (d : Fin 2048) :
    (iblk1 V c 2 t : Vec Ideal S5632x2048 .bf16) (ix2 k d) = (V c main_v8 : FVec Ideal S5632x2048 .bf16) (ix2 k d) := by
  blk_simp [iblk1]
  blk_ext [idx1 t]
theorem blk1_3 (c : Dev nD) (t : Fin cfg1.N) (d : Fin 2048) :
    (iblk1 V c 3 t : Vec Ideal S1x2048 .f32) (ix2 0 d) = (V c main_v10 : FVec Ideal S1x2048 .f32) (ix2 0 d) := by
  blk_simp [iblk1]
  blk_ext [idx1 t]
theorem emb1 (t : Fin cfg1.N) (r : Fin 256) (d : Fin 2048) :
    (((cfg1.win 4).blk t).view.emb (ix2 r d : S256x2048.Idx) : S32768x2048.Idx) = ix2 ⟨t.val * 256 + r.val, by have := t1lt t; omega⟩ d := by
  blk_ext [idx1 t]

theorem point0 (c : Dev nD) (t : Fin cfg0.N) (y : S1024x512.Idx) :
    k0_pay1 (iblk0 V c 0 t) (iblk0 V c 1 t) (iblk0 V c 2 t) y = HID (V c main_v1) (V c main_v4) (V c main_v6) (((cfg0.win 3).blk t).view.emb y) := by
  idx_vars y
  refine (up_at _ _ _ y0 y1).trans ?_
  refine Eq.trans ?_ (congrArg (HID (V c main_v1) (V c main_v4) (V c main_v6)) (emb0 t y0 y1)).symm
  unfold HID
  simp only [blk0_0, blk0_1, blk0_2]
  rfl

/-- The first call leaves the hidden activations in its result array. -/
theorem final0 (c : Dev nD) : (dat0 V c).arrAt 3 cfg0.N = HID (V c main_v1) (V c main_v4) (V c main_v6) := by
  refine (dat0 V c).arrAt_eq_of_covers 3 _ (by decide +kernel) fun t _ y => ?_
  blk_simp
  rw [after0_3]; frame_out
  exact point0 V c t y

theorem point1 (c : Dev nD) (t : Fin cfg1.N) (y : S256x2048.Idx) :
    k1_pay1 (iblk1 V c 0 t) (iblk1 V c 2 t) (iblk1 V c 1 t) (iblk1 V c 3 t) y = OUT (V c main_v11) (V c main_v2) (V c main_v8) (V c main_v10) (((cfg1.win 4).blk t).view.emb y) := by
  idx_vars y
  refine (down_at _ _ _ _ y0 y1).trans ?_
  refine Eq.trans ?_ (congrArg (OUT (V c main_v11) (V c main_v2) (V c main_v8) (V c main_v10)) (emb1 t y0 y1)).symm
  unfold OUT
  simp only [blk1_0, blk1_1, blk1_2, blk1_3]
  rfl

/-- The second call leaves the feed-forward part's result in its array. -/
theorem final1 (c : Dev nD) : (dat1 V c).arrAt 4 cfg1.N = OUT (V c main_v11) (V c main_v2) (V c main_v8) (V c main_v10) := by
  refine (dat1 V c).arrAt_eq_of_covers 4 _ (by decide +kernel) fun t _ y => ?_
  blk_simp
  rw [after1_4]; frame_out
  exact point1 V c t y

end

/-! The contents that the first call finds, from the arguments. -/

abbrev A0 (c : Dev nD) : FVec Ideal S4x8192x2048 .f32 := m ((c : Thread nD τ).loc main_arg0)
abbrev A1 (c : Dev nD) : FVec Ideal S4x8192x2048 .f32 := m ((c : Thread nD τ).loc main_arg1)
abbrev A2 (c : Dev nD) : FVec Ideal S1x2048x5632 .f32 := m ((c : Thread nD τ).loc main_arg2)
abbrev A3 (c : Dev nD) : FVec Ideal S1x2048x5632 .f32 := m ((c : Thread nD τ).loc main_arg3)
abbrev A4 (c : Dev nD) : FVec Ideal S1x5632x2048 .f32 := m ((c : Thread nD τ).loc main_arg4)
abbrev A5 (c : Dev nD) : FVec Ideal S1x2048 .f32 := m ((c : Thread nD τ).loc main_arg5)

theorem V1_z (c : Dev nD) : V1 m ρ c main_v1 = (shapeCast _ (truncf .bf16 (A0 m c) bitsLt_bf16_f32 : FVec Ideal S4x8192x2048 .bf16) shapeCasts_S4x8192x2048_S32768x2048 : FVec Ideal S32768x2048 .bf16) := by
  show StableHlo.after hostOps0 (fun b => m (c, b)) (Proc.devRef .tc main_v1) = _
  entry_read
  rfl
theorem V1_h (c : Dev nD) : V1 m ρ c main_v2 = (shapeCast _ (A1 m c) shapeCasts_S4x8192x2048_S32768x2048 : FVec Ideal S32768x2048 .f32) := by
  show StableHlo.after hostOps0 (fun b => m (c, b)) (Proc.devRef .tc main_v2) = _
  entry_read
  rfl
theorem V1_g (c : Dev nD) : V1 m ρ c main_v4 = (truncf .bf16 (shapeCast _ (A2 m c) shapeCasts_S1x2048x5632_S2048x5632 : FVec Ideal S2048x5632 .f32) bitsLt_bf16_f32 : FVec Ideal S2048x5632 .bf16) := by
  show StableHlo.after hostOps0 (fun b => m (c, b)) (Proc.devRef .tc main_v4) = _
  entry_read
  rfl
theorem V1_u (c : Dev nD) : V1 m ρ c main_v6 = (truncf .bf16 (shapeCast _ (A3 m c) shapeCasts_S1x2048x5632_S2048x5632 : FVec Ideal S2048x5632 .f32) bitsLt_bf16_f32 : FVec Ideal S2048x5632 .bf16) := by
  show StableHlo.after hostOps0 (fun b => m (c, b)) (Proc.devRef .tc main_v6) = _
  entry_read
  rfl
theorem V1_d (c : Dev nD) : V1 m ρ c main_v8 = (truncf .bf16 (shapeCast _ (A4 m c) shapeCasts_S1x5632x2048_S5632x2048 : FVec Ideal S5632x2048 .f32) bitsLt_bf16_f32 : FVec Ideal S5632x2048 .bf16) := by
  show StableHlo.after hostOps0 (fun b => m (c, b)) (Proc.devRef .tc main_v8) = _
  entry_read
  rfl
theorem V1_w (c : Dev nD) : V1 m ρ c main_v10 = (shapeCast _ (shapeCast _ (A5 m c) shapeCasts_S1x2048_S2048 : FVec Ideal S2048 .f32) shapeCasts_S2048_S1x2048 : FVec Ideal S1x2048 .f32) := by
  show StableHlo.after hostOps0 (fun b => m (c, b)) (Proc.devRef .tc main_v10) = _
  entry_read
  rfl

/-- The hidden activations at an entry are the reference's. -/
theorem HID_at (Z : FVec Ideal S4x8192x2048 .f32) (G U : FVec Ideal S1x2048x5632 .f32) (r : Fin 32768) (f : Fin 5632) :
    HID (shapeCast _ (truncf .bf16 Z bitsLt_bf16_f32 : FVec Ideal S4x8192x2048 .bf16) shapeCasts_S4x8192x2048_S32768x2048)
      (truncf .bf16 (shapeCast _ G shapeCasts_S1x2048x5632_S2048x5632 : FVec Ideal S2048x5632 .f32) bitsLt_bf16_f32)
      (truncf .bf16 (shapeCast _ U shapeCasts_S1x2048x5632_S2048x5632 : FVec Ideal S2048x5632 .f32) bitsLt_bf16_f32) (ix2 r f)
      = rH (rX Z G) (rX Z U) (ix3 ⟨r.val / 8192, by omega⟩ ⟨r.val % 8192, by omega⟩ f) := by
  rw [rH_at]
  pointwise [HID, hid]

/-- The result at an entry is the reference's. -/
theorem OUT_at (a : FVec Ideal S32768x5632 .bf16) (b : FVec Ideal Cert.FfnRefIdeal.S4x8192x5632 .f32) (H : FVec Ideal S4x8192x2048 .f32) (D : FVec Ideal S1x5632x2048 .f32) (W : FVec Ideal S1x2048 .f32)
    (hab : ∀ (r : Fin 32768) (f : Fin 5632), a (ix2 r f) = b (ix3 ⟨r.val / 8192, by omega⟩ ⟨r.val % 8192, by omega⟩ f)) (r : Fin 32768) (d : Fin 2048) :
    OUT a (shapeCast _ H shapeCasts_S4x8192x2048_S32768x2048) (truncf .bf16 (shapeCast _ D shapeCasts_S1x5632x2048_S5632x2048 : FVec Ideal S5632x2048 .f32) bitsLt_bf16_f32)
      (shapeCast _ (shapeCast _ W shapeCasts_S1x2048_S2048 : FVec Ideal S2048 .f32) shapeCasts_S2048_S1x2048) (ix2 r d) = rOut H (rF b D) W (ix2 r d) := by
  rw [rOut_at]
  simp only [rF_at]
  pointwise [OUT, rms, hab]

/-- The reference's steps, of the arguments. -/
abbrev RES (c : Dev nD) : FVec Ideal S32768x2048 .f32 := rOut (A1 m c) (rF (rH (rX (A0 m c) (A2 m c)) (rX (A0 m c) (A3 m c))) (A4 m c)) (A5 m c)

/-- The result array after the run is what the reference computes. -/
theorem final (c : Dev nD) : (dat1 (V2 m ρ) c).arrAt 4 cfg1.N = RES m c := by
  rw [final1]
  have e11 : V2 m ρ c main_v11 = HID (V1 m ρ c main_v1) (V1 m ρ c main_v4) (V1 m ρ c main_v6) :=
    (W2_arr m ρ c 3).trans (final0 (V1 m ρ) c)
  have e2 : V2 m ρ c main_v2 = V1 m ρ c main_v2 := W2_of m ρ c main_v2 (by decide)
  have e8 : V2 m ρ c main_v8 = V1 m ρ c main_v8 := W2_of m ρ c main_v8 (by decide)
  have e10 : V2 m ρ c main_v10 = V1 m ρ c main_v10 := W2_of m ρ c main_v10 (by decide)
  rw [e11, e2, e8, e10, V1_z, V1_h, V1_g, V1_u, V1_d, V1_w]
  funext i
  rw [eq_ix2 i]
  exact OUT_at _ _ _ _ _ (fun r f => HID_at _ _ _ r f) (i 0) (i 1)

end Cert.FfnIdeal.Hand

end
-- ==== Proof.MgPure.lean ====
module

public import proofs.«01_k».proof.Proof.FfnPure
public import proofs.«01_k».proof.Proof.Gen.MergeIdeal.Skeleton
public import proofs.«01_k».proof.Proof.Gen.MergeRefIdeal.Run
public import Idealize.ShloMosaic.Lib.Pointwise

@[expose] public section

set_option maxRecDepth 16384

noncomputable section

/-! The merge of the two branches entry by entry: what one block of rows computes, and what the reference computes. -/

namespace Cert.Rows

open Idealize.ShloMosaic

/-- The logistic function. -/
def lgs (x : EReal) : EReal := Ideal.div 1 (1 + Ideal.exp (-x))

/-- The gelu function in its form with a hyperbolic tangent. -/
def gelu (y : EReal) : EReal :=
  y * (Ideal.ofBits FTy.f32 0x3F000000#32 * (1 + Ideal.tanh (Ideal.ofBits FTy.f32 0x3F4C422A#32 * (y + Ideal.ofBits FTy.f32 0x3D372713#32 * (y * (y * y))))))

/-- The state-space branch's gated linear unit. -/
def glu (y : Fin 1024 → EReal) (w : Fin 1024 → Fin 1024 → EReal) (b : Fin 1024 → EReal) (j : Fin 1024) : EReal :=
  gelu (y j) * lgs ((∑ k, gelu (y k) * w k j) + b j)

end Cert.Rows

namespace Cert.MergeIdeal.Hand

open Cert.MergeIdeal Cert.MergeIdeal.Gen Cert.Rows
open Idealize.ShloMosaic Idealize.ShloMosaic.TcCoe

theorem pay2_at (a : Vec Ideal S256x1024 .bf16) (w : Vec Ideal S1024x2048 .bf16) (r : Fin 256) (d : Fin 2048) :
    k0_pay2 a w (ix2 r d) = ∑ k : Fin 1024, a (ix2 r k) * w (ix2 k d) := by
  pointwise [k0_pay2]

theorem pay3_at (y : Vec Ideal S256x1024 .f32) (wg : Vec Ideal S1024x1024 .bf16) (b : Vec Ideal S1x1024 .f32) (ws : Vec Ideal S1024x2048 .bf16) (r : Fin 256) (d : Fin 2048) :
    k0_pay3 y wg b ws (ix2 r d) = ∑ k : Fin 1024, glu (fun j => y (ix2 r j)) (fun i j => wg (ix2 i j)) (fun j => b (ix2 0 j)) k * ws (ix2 k d) := by
  pointwise [k0_pay3, glu, gelu, lgs]
  rfl

theorem pay4_at (g : Vec Ideal S256x2048 .bf16) (r : Fin 256) (d : Fin 2048) : k0_pay4 g (ix2 r d) = lgs (g (ix2 r d)) := by
  pointwise [k0_pay4, lgs]
  rfl

/-- The new residual's block entry, of the two branches' products and the first gate. -/
theorem pay5_at (a s g : FVec Ideal S256x2048 .f32) (gs : Vec Ideal S256x2048 .bf16) (wo : Vec Ideal S2048x2048 .bf16) (x : Vec Ideal S256x2048 .f32) (n : Vec Ideal S1x2048 .f32)
    (r : Fin 256) (d : Fin 2048) : k0_pay5 a s g gs wo x n (ix2 r d)
      = x (ix2 r d) + rms (fun e => ∑ k : Fin 2048, (g (ix2 r k) * a (ix2 r k) + lgs (gs (ix2 r k)) * s (ix2 r k)) * wo (ix2 k e)) (n (ix2 0 d)) d := by
  pointwise [k0_pay5, rms, lgs]
  rfl

/-- The normed activations' block entry, of the new residual's block. -/
theorem pay1_at (a s g : FVec Ideal S256x2048 .f32) (gs : Vec Ideal S256x2048 .bf16) (wo : Vec Ideal S2048x2048 .bf16) (x : Vec Ideal S256x2048 .f32) (n n' : Vec Ideal S1x2048 .f32)
    (r : Fin 256) (d : Fin 2048) : k0_pay1 (k0_pay5 a s g gs wo x n) (k0_pay6 n') (k0_pay7 a s g gs wo x n) (ix2 r d)
      = rms (fun e => k0_pay5 a s g gs wo x n (ix2 r e)) (n' (ix2 0 d)) d := by
  unfold k0_pay7
  generalize k0_pay5 a s g gs wo x n = h
  pointwise [k0_pay1, k0_pay6, rms]

end Cert.MergeIdeal.Hand

namespace Cert.MergeRefIdeal.Hand

open Cert.MergeRefIdeal Cert.MergeRefIdeal.Gen Cert.Rows
open Idealize.ShloMosaic Idealize.ShloMosaic.TcCoe

/-- The reference's gelu. -/
def rGelu (y : FVec Ideal S4x8192x1024 .f32) : FVec Ideal S4x8192x1024 .f32 :=
  mulf y (mulf (broadcastInDim S4x8192x1024 ![] bcast_S_S4x8192x1024 (constant S_ .f32 0x3F000000#32)) (addf (broadcastInDim S4x8192x1024 ![] bcast_S_S4x8192x1024 (constant S_ .f32 0x3F800000#32))
    (Host.tanh (mulf (broadcastInDim S4x8192x1024 ![] bcast_S_S4x8192x1024 (constant S_ .f32 0x3F4C422A#32)) (addf y (mulf (broadcastInDim S4x8192x1024 ![] bcast_S_S4x8192x1024 (constant S_ .f32 0x3D372713#32)) (mulf (mulf y y) y)))))))

/-- The reference's gated linear unit, of the gelu's values. -/
def rGlu (y : FVec Ideal S4x8192x1024 .f32) (w : FVec Ideal S1x1024x1024 .f32) (b : FVec Ideal S1x1024 .f32) : FVec Ideal S4x8192x1024 .f32 :=
  mulf y (Host.divf (broadcastInDim S4x8192x1024 ![] bcast_S_S4x8192x1024 (constant S_ .f32 0x3F800000#32)) (addf (broadcastInDim S4x8192x1024 ![] bcast_S_S4x8192x1024 (constant S_ .f32 0x3F800000#32))
    (Host.exp (Host.negf (addf (Host.dotGeneral dot_S4x8192x1024_S1024x1024_S4x8192x1024_2_0_01_1_n_n none y (shapeCast _ w shapeCasts_S1x1024x1024_S1024x1024))
      (broadcastInDim S4x8192x1024 ![0, 1, 2] bcast_S1x1x1024_S4x8192x1024_0_1_2 (broadcastInDim S1x1x1024 ![2] bcast_S1024_S1x1x1024_2 (shapeCast _ b shapeCasts_S1x1024_S1024))))))))

/-- The reference's logistic function of a gate. -/
def rSig (g : FVec Ideal S4x8192x2048 .f32) : FVec Ideal S4x8192x2048 .f32 :=
  Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf g)))

/-- A branch's product with its weights. -/
def rBr (y : FVec Ideal S4x8192x1024 .f32) (w : FVec Ideal S1x1024x2048 .f32) : FVec Ideal S4x8192x2048 .f32 :=
  Host.dotGeneral dot_S4x8192x1024_S1024x2048_S4x8192x2048_2_0_01_1_n_n none y (shapeCast _ w shapeCasts_S1x1024x2048_S1024x2048)

/-- The gated sum of the two branches. -/
def rMix (p : FVec Ideal S4x8192x8192 .f32) (a s : FVec Ideal S4x8192x2048 .f32) : FVec Ideal S4x8192x2048 .f32 :=
  addf (mulf (rSig (extractStridedSlice S4x8192x2048 ![0, 0, 4096] p slices_S4x8192x8192_S4x8192x2048_0_0_4096)) a) (mulf (rSig (extractStridedSlice S4x8192x2048 ![0, 0, 6144] p slices_S4x8192x8192_S4x8192x2048_0_0_6144)) s)

/-- The product with the output weights. -/
def rPr (y : FVec Ideal S4x8192x2048 .f32) (w : FVec Ideal S1x2048x2048 .f32) : FVec Ideal S4x8192x2048 .f32 :=
  Host.dotGeneral dot_S4x8192x2048_S2048x2048_S4x8192x2048_2_0_01_1_n_n none y (shapeCast _ w shapeCasts_S1x2048x2048_S2048x2048)

/-- The reference's norm. -/
def rRms (f : FVec Ideal S4x8192x2048 .f32) (w : FVec Ideal S1x2048 .f32) : FVec Ideal S4x8192x2048 .f32 :=
  mulf (mulf f (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf f f) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 (shapeCast _ w shapeCasts_S1x2048_S2048)))

/-- The reference's new residual, before its rows are laid out one below the other. -/
def rH (x : FVec Ideal S4x8192x2048 .f32) (ya ys : FVec Ideal S4x8192x1024 .f32) (p : FVec Ideal S4x8192x8192 .f32) (wg : FVec Ideal S1x1024x1024 .f32) (b : FVec Ideal S1x1024 .f32)
    (wa ws : FVec Ideal S1x1024x2048 .f32) (wo : FVec Ideal S1x2048x2048 .f32) (n : FVec Ideal S1x2048 .f32) : FVec Ideal S4x8192x2048 .f32 :=
  addf x (rRms (rPr (rMix p (rBr ya wa) (rBr (rGlu (rGelu ys) wg b) ws)) wo) n)

theorem rGelu_at (y : FVec Ideal S4x8192x1024 .f32) (b : Fin 4) (r : Fin 8192) (j : Fin 1024) : rGelu y (ix3 b r j) = gelu (y (ix3 b r j)) := by
  pointwise [rGelu, gelu]
  rw [mul_comm (y _) (y _ * y _)]

theorem rGlu_at (y : FVec Ideal S4x8192x1024 .f32) (w : FVec Ideal S1x1024x1024 .f32) (b : FVec Ideal S1x1024 .f32) (i : Fin 4) (r : Fin 8192) (j : Fin 1024) :
    rGlu (rGelu y) w b (ix3 i r j) = glu (fun k => y (ix3 i r k)) (fun k l => w (ix3 0 k l)) (fun k => b (ix2 0 k)) j := by
  unfold glu
  simp only [← rGelu_at]
  generalize rGelu y = y
  pointwise [rGlu, lgs]

theorem rBr_at (y : FVec Ideal S4x8192x1024 .f32) (w : FVec Ideal S1x1024x2048 .f32) (b : Fin 4) (r : Fin 8192) (d : Fin 2048) :
    rBr y w (ix3 b r d) = ∑ k : Fin 1024, y (ix3 b r k) * w (ix3 0 k d) := by
  pointwise [rBr]

theorem rMix_at (p : FVec Ideal S4x8192x8192 .f32) (a s : FVec Ideal S4x8192x2048 .f32) (b : Fin 4) (r : Fin 8192) (d : Fin 2048) :
    rMix p a s (ix3 b r d) = lgs (p (ix3 b r ⟨4096 + d.val, by omega⟩)) * a (ix3 b r d) + lgs (p (ix3 b r ⟨6144 + d.val, by omega⟩)) * s (ix3 b r d) := by
  pointwise [rMix, rSig, lgs]

theorem rPr_at (y : FVec Ideal S4x8192x2048 .f32) (w : FVec Ideal S1x2048x2048 .f32) (b : Fin 4) (r : Fin 8192) (d : Fin 2048) :
    rPr y w (ix3 b r d) = ∑ k : Fin 2048, y (ix3 b r k) * w (ix3 0 k d) := by
  pointwise [rPr]

theorem rRms_at (f : FVec Ideal S4x8192x2048 .f32) (w : FVec Ideal S1x2048 .f32) (b : Fin 4) (r : Fin 8192) (d : Fin 2048) :
    rRms f w (ix3 b r d) = rms (fun e => f (ix3 b r e)) (w (ix2 0 d)) d := by
  pointwise [rRms, rms]

theorem rH_at (x : FVec Ideal S4x8192x2048 .f32) (ya ys : FVec Ideal S4x8192x1024 .f32) (p : FVec Ideal S4x8192x8192 .f32) (wg : FVec Ideal S1x1024x1024 .f32) (b : FVec Ideal S1x1024 .f32)
    (wa ws : FVec Ideal S1x1024x2048 .f32) (wo : FVec Ideal S1x2048x2048 .f32) (n : FVec Ideal S1x2048 .f32) (i : Fin 4) (r : Fin 8192) (d : Fin 2048) :
    rH x ya ys p wg b wa ws wo n (ix3 i r d) = x (ix3 i r d) + rms (fun e => ∑ k : Fin 2048, (lgs (p (ix3 i r ⟨4096 + k.val, by omega⟩)) * (∑ l : Fin 1024, ya (ix3 i r l) * wa (ix3 0 l k))
      + lgs (p (ix3 i r ⟨6144 + k.val, by omega⟩)) * (∑ l : Fin 1024, glu (fun j => ys (ix3 i r j)) (fun k l => wg (ix3 0 k l)) (fun j => b (ix2 0 j)) l * ws (ix3 0 l k))) * wo (ix3 0 k e)) (n (ix2 0 d)) d := by
  have h : rH x ya ys p wg b wa ws wo n (ix3 i r d) = x (ix3 i r d) + rRms (rPr (rMix p (rBr ya wa) (rBr (rGlu (rGelu ys) wg b) ws)) wo) n (ix3 i r d) := rfl
  rw [h, rRms_at]
  simp only [rPr_at, rMix_at, rBr_at, rGlu_at]

/-- The reference's second result, of the first: the normed activations, their rows laid out one below the other. -/
def rZ (h : FVec Ideal S4x8192x2048 .f32) (n : FVec Ideal S1x2048 .f32) : FVec Ideal S32768x2048 .bf16 :=
  truncf .bf16 (shapeCast S32768x2048 (rRms h n) shapeCasts_S4x8192x2048_S32768x2048) bitsLt_bf16_f32

/-- A layer's activations, their rows laid out one below the other. -/
def rFl (h : FVec Ideal S4x8192x2048 .f32) : FVec Ideal S32768x2048 .f32 := shapeCast S32768x2048 h shapeCasts_S4x8192x2048_S32768x2048

theorem rFl_at (h : FVec Ideal S4x8192x2048 .f32) (r : Fin 32768) (d : Fin 2048) : rFl h (ix2 r d) = h (ix3 ⟨r.val / 8192, by omega⟩ ⟨r.val % 8192, by omega⟩ d) := by
  pointwise [rFl]

theorem rZ_at (h : FVec Ideal S4x8192x2048 .f32) (n : FVec Ideal S1x2048 .f32) (r : Fin 32768) (d : Fin 2048) :
    rZ h n (ix2 r d) = rms (fun e => h (ix3 ⟨r.val / 8192, by omega⟩ ⟨r.val % 8192, by omega⟩ e)) (n (ix2 0 d)) d := by
  rw [← rRms_at h n]
  unfold rZ
  generalize rRms h n = g
  pointwise []

/-- The first result of the reference is the steps, one after the other. -/
theorem res_h (m : (ℓ : Loc nD τ sig) → Buf (Elt Ideal) ℓ) (c : Dev nD) :
    Cert.MergeRefIdeal.Value.res_out0 m c = rFl (rH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := rfl

/-- The second result of the reference is the steps, one after the other. -/
theorem res_z (m : (ℓ : Loc nD τ sig) → Buf (Elt Ideal) ℓ) (c : Dev nD) :
    Cert.MergeRefIdeal.Value.res_out1 m c = rZ (rH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) := rfl

end Cert.MergeRefIdeal.Hand

end
-- ==== Proof.MgVal.lean ====
module

public import proofs.«01_k».proof.Proof.MgPure
public import proofs.«01_k».proof.Proof.Gen.MergeIdeal.Value
public import Idealize.ShloMosaic.Lib.Pipeline.ValueKit
public import Idealize.ShloMosaic.Lib.Claim

@[expose] public section

set_option maxRecDepth 16384

noncomputable section

namespace Cert.MergeIdeal.Hand

open Cert.MergeIdeal Cert.MergeIdeal.Gen Cert.Rows
open Idealize.ShloMosaic Idealize.ShloMosaic.TcCoe Idealize.SL.Sem
open Cert.MergeRefIdeal.Hand (rH rZ rFl rH_at rZ_at rFl_at)

variable (m : (ℓ : Loc nD τ sig) → Buf (Elt Ideal) ℓ)

/-! The merge's two result arrays, and their agreement with the reference. -/

/-- Which block of each array a step works on. -/
theorem idx : ∀ t : Fin cfg0.N, win0_0.index t = ![t.val, 0] ∧ win0_1.index t = ![t.val, 0] ∧ win0_2.index t = ![t.val, 0] ∧ win0_3.index t = ![t.val, 1] ∧ win0_4.index t = ![t.val, 2]
    ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![t.val, 0] ∧ t.val < 128 :=
  (by decide +kernel : ∀ t : Fin grid0.N, _)

theorem tlt (t : Fin cfg0.N) : t.val < 128 := by have := idx t; omega

/-- The new residual, of the arrays the call reads. -/
def NH (x : FVec Ideal S32768x2048 .f32) (ya : FVec Ideal S32768x1024 .bf16) (ys : FVec Ideal S32768x1024 .f32) (p : FVec Ideal S32768x6144 .bf16) (wg : FVec Ideal S1024x1024 .bf16) (b : FVec Ideal S1x1024 .f32) (wa : FVec Ideal S1024x2048 .bf16) (ws : FVec Ideal S1024x2048 .bf16) (wo : FVec Ideal S2048x2048 .bf16) (n : FVec Ideal S1x2048 .f32) : FVec Ideal S32768x2048 .f32 :=
  fun i => x (ix2 (i 0) (i 1)) + rms (fun e => ∑ k : Fin 2048, (lgs (p (ix2 (i 0) ⟨2048 + k.val, by omega⟩)) * (∑ l : Fin 1024, ya (ix2 (i 0) l) * wa (ix2 l k))
    + lgs (p (ix2 (i 0) ⟨4096 + k.val, by omega⟩)) * (∑ l : Fin 1024, glu (fun j => ys (ix2 (i 0) j)) (fun k l => wg (ix2 k l)) (fun j => b (ix2 0 j)) l * ws (ix2 l k))) * wo (ix2 k e)) (n (ix2 0 (i 1))) (i 1)

/-- The normed activations, of the new residual and the norm's weights. -/
def NZ (h : FVec Ideal S32768x2048 .f32) (n : FVec Ideal S1x2048 .f32) : FVec Ideal S32768x2048 .bf16 :=
  fun i => rms (fun e => h (ix2 (i 0) e)) (n (ix2 0 (i 1))) (i 1)

/-! The blocks that a step works on, read in the arrays. -/

theorem blk0 (c : Dev nD) (t : Fin cfg0.N) (r : Fin 256) (k : Fin 2048) :
    (iblk m c 0 t : Vec Ideal S256x2048 .f32) (ix2 r k) = (V m c main_v5 : FVec Ideal S32768x2048 .f32) (ix2 ⟨t.val * 256 + r.val, by have := tlt t; omega⟩ k) := by
  blk_simp [iblk]
  blk_ext [idx t]
theorem blk1 (c : Dev nD) (t : Fin cfg0.N) (r : Fin 256) (k : Fin 1024) :
    (iblk m c 1 t : Vec Ideal S256x1024 .bf16) (ix2 r k) = (V m c main_v7 : FVec Ideal S32768x1024 .bf16) (ix2 ⟨t.val * 256 + r.val, by have := tlt t; omega⟩ k) := by
  blk_simp [iblk]
  blk_ext [idx t]
theorem blk2 (c : Dev nD) (t : Fin cfg0.N) (r : Fin 256) (k : Fin 1024) :
    (iblk m c 2 t : Vec Ideal S256x1024 .f32) (ix2 r k) = (V m c main_v8 : FVec Ideal S32768x1024 .f32) (ix2 ⟨t.val * 256 + r.val, by have := tlt t; omega⟩ k) := by
  blk_simp [iblk]
  blk_ext [idx t]
theorem blk3 (c : Dev nD) (t : Fin cfg0.N) (r : Fin 256) (k : Fin 2048) :
    (iblk m c 3 t : Vec Ideal S256x2048 .bf16) (ix2 r k) = (V m c main_v9 : FVec Ideal S32768x6144 .bf16) (ix2 ⟨t.val * 256 + r.val, by have := tlt t; omega⟩ ⟨2048 + k.val, by omega⟩) := by
  blk_simp [iblk]
  blk_ext [idx t]
theorem blk4 (c : Dev nD) (t : Fin cfg0.N) (r : Fin 256) (k : Fin 2048) :
    (iblk m c 4 t : Vec Ideal S256x2048 .bf16) (ix2 r k) = (V m c main_v9 : FVec Ideal S32768x6144 .bf16) (ix2 ⟨t.val * 256 + r.val, by have := tlt t; omega⟩ ⟨4096 + k.val, by omega⟩) := by
  blk_simp [iblk]
  blk_ext [idx t]
theorem blk5 (c : Dev nD) (t : Fin cfg0.N) (i : Fin 1024) (j : Fin 1024) :
    (iblk m c 5 t : Vec Ideal S1024x1024 .bf16) (ix2 i j) = (V m c main_v11 : FVec Ideal S1024x1024 .bf16) (ix2 i j) := by
  blk_simp [iblk]
  blk_ext [idx t]
theorem blk6 (c : Dev nD) (t : Fin cfg0.N) (j : Fin 1024) :
    (iblk m c 6 t : Vec Ideal S1x1024 .f32) (ix2 0 j) = (V m c main_v13 : FVec Ideal S1x1024 .f32) (ix2 0 j) := by
  blk_simp [iblk]
  blk_ext [idx t]
theorem blk7 (c : Dev nD) (t : Fin cfg0.N) (i : Fin 1024) (j : Fin 2048) :
    (iblk m c 7 t : Vec Ideal S1024x2048 .bf16) (ix2 i j) = (V m c main_v15 : FVec Ideal S1024x2048 .bf16) (ix2 i j) := by
  blk_simp [iblk]
  blk_ext [idx t]
theorem blk8 (c : Dev nD) (t : Fin cfg0.N) (i : Fin 1024) (j : Fin 2048) :
    (iblk m c 8 t : Vec Ideal S1024x2048 .bf16) (ix2 i j) = (V m c main_v17 : FVec Ideal S1024x2048 .bf16) (ix2 i j) := by
  blk_simp [iblk]
  blk_ext [idx t]
theorem blk9 (c : Dev nD) (t : Fin cfg0.N) (i : Fin 2048) (j : Fin 2048) :
    (iblk m c 9 t : Vec Ideal S2048x2048 .bf16) (ix2 i j) = (V m c main_v19 : FVec Ideal S2048x2048 .bf16) (ix2 i j) := by
  blk_simp [iblk]
  blk_ext [idx t]
theorem blk10 (c : Dev nD) (t : Fin cfg0.N) (j : Fin 2048) :
    (iblk m c 10 t : Vec Ideal S1x2048 .f32) (ix2 0 j) = (V m c main_v21 : FVec Ideal S1x2048 .f32) (ix2 0 j) := by
  blk_simp [iblk]
  blk_ext [idx t]
theorem blk11 (c : Dev nD) (t : Fin cfg0.N) (j : Fin 2048) :
    (iblk m c 11 t : Vec Ideal S1x2048 .f32) (ix2 0 j) = (V m c main_v23 : FVec Ideal S1x2048 .f32) (ix2 0 j) := by
  blk_simp [iblk]
  blk_ext [idx t]
theorem emb12 (t : Fin cfg0.N) (r : Fin 256) (d : Fin 2048) :
    (((cfg0.win 12).blk t).view.emb (ix2 r d : S256x2048.Idx) : S32768x2048.Idx) = ix2 ⟨t.val * 256 + r.val, by have := tlt t; omega⟩ d := by
  blk_ext [idx t]
theorem emb13 (t : Fin cfg0.N) (r : Fin 256) (d : Fin 2048) :
    (((cfg0.win 13).blk t).view.emb (ix2 r d : S256x2048.Idx) : S32768x2048.Idx) = ix2 ⟨t.val * 256 + r.val, by have := tlt t; omega⟩ d := by
  blk_ext [idx t]

/-- The new residual, of the arrays as the call finds them. -/
abbrev NHV (c : Dev nD) : FVec Ideal S32768x2048 .f32 := NH (V m c main_v5) (V m c main_v7) (V m c main_v8) (V m c main_v9) (V m c main_v11) (V m c main_v13) (V m c main_v15) (V m c main_v17) (V m c main_v19) (V m c main_v21)

theorem row12 (c : Dev nD) (t : Fin cfg0.N) (r : Fin 256) (d : Fin 2048) :
    k0_pay5 (k0_pay2 (iblk m c 1 t) (iblk m c 7 t)) (k0_pay3 (iblk m c 2 t) (iblk m c 5 t) (iblk m c 6 t) (iblk m c 8 t)) (k0_pay4 (iblk m c 3 t)) (iblk m c 4 t) (iblk m c 9 t) (iblk m c 0 t) (iblk m c 10 t) (ix2 r d)
      = NHV m c (ix2 ⟨t.val * 256 + r.val, by have := tlt t; omega⟩ d) := by
  refine (pay5_at _ _ _ _ _ _ _ r d).trans ?_
  unfold NHV NH
  simp only [pay2_at, pay3_at, pay4_at, blk0, blk1, blk2, blk3, blk4, blk5, blk6, blk7, blk8, blk9, blk10]
  rfl

theorem point12 (c : Dev nD) (t : Fin cfg0.N) (y : S256x2048.Idx) :
    k0_pay5 (k0_pay2 (iblk m c 1 t) (iblk m c 7 t)) (k0_pay3 (iblk m c 2 t) (iblk m c 5 t) (iblk m c 6 t) (iblk m c 8 t)) (k0_pay4 (iblk m c 3 t)) (iblk m c 4 t) (iblk m c 9 t) (iblk m c 0 t) (iblk m c 10 t) y = NHV m c (((cfg0.win 12).blk t).view.emb y) := by
  idx_vars y
  exact (row12 m c t y0 y1).trans (congrArg (NHV m c) (emb12 t y0 y1)).symm

theorem point13 (c : Dev nD) (t : Fin cfg0.N) (y : S256x2048.Idx) :
    k0_pay1 (k0_pay5 (k0_pay2 (iblk m c 1 t) (iblk m c 7 t)) (k0_pay3 (iblk m c 2 t) (iblk m c 5 t) (iblk m c 6 t) (iblk m c 8 t)) (k0_pay4 (iblk m c 3 t)) (iblk m c 4 t) (iblk m c 9 t) (iblk m c 0 t) (iblk m c 10 t)) (k0_pay6 (iblk m c 11 t)) (k0_pay7 (k0_pay2 (iblk m c 1 t) (iblk m c 7 t)) (k0_pay3 (iblk m c 2 t) (iblk m c 5 t) (iblk m c 6 t) (iblk m c 8 t)) (k0_pay4 (iblk m c 3 t)) (iblk m c 4 t) (iblk m c 9 t) (iblk m c 0 t) (iblk m c 10 t)) y = NZ (NHV m c) (V m c main_v23) (((cfg0.win 13).blk t).view.emb y) := by
  idx_vars y
  refine (pay1_at _ _ _ _ _ _ _ _ y0 y1).trans ?_
  refine Eq.trans ?_ (congrArg (NZ (NHV m c) (V m c main_v23)) (emb13 t y0 y1)).symm
  unfold NZ
  simp only [row12, blk11]
  rfl

/-- The call leaves the new residual in its first result array. -/
theorem final12 (c : Dev nD) : (dats m 0 c).arrAt 12 cfg0.N = NHV m c := by
  refine (dats m 0 c).arrAt_eq_of_covers 12 _ (by decide +kernel) fun t _ y => ?_
  blk_simp
  rw [after0_12]; unfold_out out0_12; frame_out
  exact point12 m c t y

/-- The call leaves the normed activations in its second result array. -/
theorem final13 (c : Dev nD) : (dats m 0 c).arrAt 13 cfg0.N = NZ (NHV m c) (V m c main_v23) := by
  refine (dats m 0 c).arrAt_eq_of_covers 13 _ (by decide +kernel) fun t _ y => ?_
  blk_simp
  rw [after0_13]; unfold_out out0_13; frame_out
  exact point13 m c t y

/-! The contents that the call finds, from the arguments. -/

abbrev A0 (c : Dev nD) : FVec Ideal S4x8192x2048 .f32 := m ((c : Thread nD τ).loc main_arg0)
abbrev A1 (c : Dev nD) : FVec Ideal S4x8192x1024 .f32 := m ((c : Thread nD τ).loc main_arg1)
abbrev A2 (c : Dev nD) : FVec Ideal S4x8192x1024 .f32 := m ((c : Thread nD τ).loc main_arg2)
abbrev A3 (c : Dev nD) : FVec Ideal S4x8192x8192 .f32 := m ((c : Thread nD τ).loc main_arg3)
abbrev A4 (c : Dev nD) : FVec Ideal S1x1024x1024 .f32 := m ((c : Thread nD τ).loc main_arg4)
abbrev A5 (c : Dev nD) : FVec Ideal S1x1024 .f32 := m ((c : Thread nD τ).loc main_arg5)
abbrev A6 (c : Dev nD) : FVec Ideal S1x1024x2048 .f32 := m ((c : Thread nD τ).loc main_arg6)
abbrev A7 (c : Dev nD) : FVec Ideal S1x1024x2048 .f32 := m ((c : Thread nD τ).loc main_arg7)
abbrev A8 (c : Dev nD) : FVec Ideal S1x2048x2048 .f32 := m ((c : Thread nD τ).loc main_arg8)
abbrev A9 (c : Dev nD) : FVec Ideal S1x2048 .f32 := m ((c : Thread nD τ).loc main_arg9)
abbrev A10 (c : Dev nD) : FVec Ideal S1x2048 .f32 := m ((c : Thread nD τ).loc main_arg10)

/-- The projection's columns that the call reads, as the host prepares them. -/
def hP (A : FVec Ideal S4x8192x8192 .f32) : FVec Ideal S4x8192x6144 .bf16 :=
  truncf .bf16 (concatenate S4x8192x6144 2 [⟨S4x8192x1024, extractStridedSlice S4x8192x1024 ![0, 0, 0] A slices_S4x8192x8192_S4x8192x1024_0_0_0⟩, ⟨S4x8192x1024, extractStridedSlice S4x8192x1024 ![0, 0, 1024] A slices_S4x8192x8192_S4x8192x1024_0_0_1024⟩,
    ⟨S4x8192x4096, extractStridedSlice S4x8192x4096 ![0, 0, 4096] A slices_S4x8192x8192_S4x8192x4096_0_0_4096⟩] concatenates_S4x8192x1024_S4x8192x1024_S4x8192x4096_S4x8192x6144_d2) bitsLt_bf16_f32

theorem V5 (c : Dev nD) : V m c main_v5 = (shapeCast _ (A0 m c) shapeCasts_S4x8192x2048_S32768x2048 : FVec Ideal S32768x2048 .f32) := by
  entry_read
  rfl
theorem V7 (c : Dev nD) : V m c main_v7 = (shapeCast _ (truncf .bf16 (A1 m c) bitsLt_bf16_f32 : FVec Ideal S4x8192x1024 .bf16) shapeCasts_S4x8192x1024_S32768x1024 : FVec Ideal S32768x1024 .bf16) := by
  entry_read
  rfl
theorem V8 (c : Dev nD) : V m c main_v8 = (shapeCast _ (A2 m c) shapeCasts_S4x8192x1024_S32768x1024 : FVec Ideal S32768x1024 .f32) := by
  entry_read
  rfl
set_option maxHeartbeats 1600000 in
theorem V9 (c : Dev nD) : V m c main_v9 = (shapeCast _ (hP (A3 m c)) shapeCasts_S4x8192x6144_S32768x6144 : FVec Ideal S32768x6144 .bf16) := by
  have e : (hostOps0 : List (HloOp τ sig (Elt Ideal))) = hostOps0.take 3 ++ ((hostOps0.drop 3).take 1 ++ hostOps0.drop 4) := by
    rfl
  have h0 : StableHlo.after ((hostOps0 : List (HloOp τ sig (Elt Ideal))).take 3) (fun b => m (c, b)) main_v0 = (extractStridedSlice S4x8192x1024 ![0, 0, 0] (A3 m c) slices_S4x8192x8192_S4x8192x1024_0_0_0 : FVec Ideal S4x8192x1024 .f32) := by
    simp only [hostOps0, List.take_succ_cons, List.take_zero]
    entry_read
    try rfl
  have h1 : StableHlo.after ((hostOps0 : List (HloOp τ sig (Elt Ideal))).take 3) (fun b => m (c, b)) main_v1 = (extractStridedSlice S4x8192x1024 ![0, 0, 1024] (A3 m c) slices_S4x8192x8192_S4x8192x1024_0_0_1024 : FVec Ideal S4x8192x1024 .f32) := by
    simp only [hostOps0, List.take_succ_cons, List.take_zero]
    entry_read
    try rfl
  have h2 : StableHlo.after ((hostOps0 : List (HloOp τ sig (Elt Ideal))).take 3) (fun b => m (c, b)) main_v2 = (extractStridedSlice S4x8192x4096 ![0, 0, 4096] (A3 m c) slices_S4x8192x8192_S4x8192x4096_0_0_4096 : FVec Ideal S4x8192x4096 .f32) := by
    simp only [hostOps0, List.take_succ_cons, List.take_zero]
    entry_read
    try rfl
  have h9 : ∀ W : Valuation τ sig (Elt Ideal), StableHlo.after ((hostOps0 : List (HloOp τ sig (Elt Ideal))).drop 4) W (Proc.devRef .tc main_v9)
      = (shapeCast _ (truncf .bf16 (W (Proc.devRef .tc main_v3) : FVec Ideal S4x8192x6144 .f32) bitsLt_bf16_f32 : FVec Ideal S4x8192x6144 .bf16) shapeCasts_S4x8192x6144_S32768x6144 : FVec Ideal S32768x6144 .bf16) := by
    intro W
    simp only [hostOps0, List.drop_succ_cons, List.drop_zero]
    entry_read
    try rfl
  show StableHlo.after hostOps0 (fun b => m (c, b)) (Proc.devRef .tc main_v9) = _
  rw [e, StableHlo.after_append, StableHlo.after_append, h9]
  generalize StableHlo.after ((hostOps0 : List (HloOp τ sig (Elt Ideal))).take 3) (fun b => m (c, b)) = W at h0 h1 h2 ⊢
  simp only [hostOps0, List.drop_succ_cons, List.drop_zero, List.take_succ_cons, List.take_zero]
  rw [StableHlo.after_cons, StableHlo.after_nil, StableHlo.nary_result]
  unfold hP
  rw [← h0, ← h1, ← h2]
  rfl
theorem V11 (c : Dev nD) : V m c main_v11 = (truncf .bf16 (shapeCast _ (A4 m c) shapeCasts_S1x1024x1024_S1024x1024 : FVec Ideal S1024x1024 .f32) bitsLt_bf16_f32 : FVec Ideal S1024x1024 .bf16) := by
  entry_read
  rfl
theorem V13 (c : Dev nD) : V m c main_v13 = (shapeCast _ (shapeCast _ (A5 m c) shapeCasts_S1x1024_S1024 : FVec Ideal S1024 .f32) shapeCasts_S1024_S1x1024 : FVec Ideal S1x1024 .f32) := by
  entry_read
  rfl
theorem V15 (c : Dev nD) : V m c main_v15 = (truncf .bf16 (shapeCast _ (A6 m c) shapeCasts_S1x1024x2048_S1024x2048 : FVec Ideal S1024x2048 .f32) bitsLt_bf16_f32 : FVec Ideal S1024x2048 .bf16) := by
  entry_read
  rfl
theorem V17 (c : Dev nD) : V m c main_v17 = (truncf .bf16 (shapeCast _ (A7 m c) shapeCasts_S1x1024x2048_S1024x2048 : FVec Ideal S1024x2048 .f32) bitsLt_bf16_f32 : FVec Ideal S1024x2048 .bf16) := by
  entry_read
  rfl
theorem V19 (c : Dev nD) : V m c main_v19 = (truncf .bf16 (shapeCast _ (A8 m c) shapeCasts_S1x2048x2048_S2048x2048 : FVec Ideal S2048x2048 .f32) bitsLt_bf16_f32 : FVec Ideal S2048x2048 .bf16) := by
  entry_read
  rfl
theorem V21 (c : Dev nD) : V m c main_v21 = (shapeCast _ (shapeCast _ (A9 m c) shapeCasts_S1x2048_S2048 : FVec Ideal S2048 .f32) shapeCasts_S2048_S1x2048 : FVec Ideal S1x2048 .f32) := by
  entry_read
  rfl
theorem V23 (c : Dev nD) : V m c main_v23 = (shapeCast _ (shapeCast _ (A10 m c) shapeCasts_S1x2048_S2048 : FVec Ideal S2048 .f32) shapeCasts_S2048_S1x2048 : FVec Ideal S1x2048 .f32) := by
  entry_read
  rfl

theorem hP_at (A : FVec Ideal S4x8192x8192 .f32) (b : Fin 4) (r : Fin 8192) (d : Fin 4096) : hP A (ix3 b r ⟨2048 + d.val, by omega⟩) = A (ix3 b r ⟨4096 + d.val, by omega⟩) := by
  pointwise [hP]
  rw [dif_neg (by omega), dif_neg (by omega)]
  exact congrArg (fun e => A (ix3 b r e)) (Fin.ext (show 4096 + (2048 + d.val - 1024 - 1024) = 4096 + d.val by omega))

/-- The gates' columns of the projection's rows. -/
theorem gate_at (A : FVec Ideal S4x8192x8192 .f32) (r : Fin 32768) (d : Fin 4096) :
    (shapeCast _ (hP A) shapeCasts_S4x8192x6144_S32768x6144 : FVec Ideal S32768x6144 .bf16) (ix2 r ⟨2048 + d.val, by omega⟩) = A (ix3 ⟨r.val / 8192, by omega⟩ ⟨r.val % 8192, by omega⟩ ⟨4096 + d.val, by omega⟩) := by
  rw [← hP_at A]
  generalize hP A = p
  pointwise []

/-- The first result at an entry is the reference's. -/
theorem NH_at (X : FVec Ideal S4x8192x2048 .f32) (YA YS : FVec Ideal S4x8192x1024 .f32) (P : FVec Ideal S4x8192x8192 .f32) (WG : FVec Ideal S1x1024x1024 .f32) (B : FVec Ideal S1x1024 .f32)
    (WA WS : FVec Ideal S1x1024x2048 .f32) (WO : FVec Ideal S1x2048x2048 .f32) (N : FVec Ideal S1x2048 .f32) (r : Fin 32768) (d : Fin 2048) :
    NH (shapeCast _ X shapeCasts_S4x8192x2048_S32768x2048) (shapeCast _ (truncf .bf16 YA bitsLt_bf16_f32 : FVec Ideal S4x8192x1024 .bf16) shapeCasts_S4x8192x1024_S32768x1024)
      (shapeCast _ YS shapeCasts_S4x8192x1024_S32768x1024) (shapeCast _ (hP P) shapeCasts_S4x8192x6144_S32768x6144)
      (truncf .bf16 (shapeCast _ WG shapeCasts_S1x1024x1024_S1024x1024 : FVec Ideal S1024x1024 .f32) bitsLt_bf16_f32) (shapeCast _ (shapeCast _ B shapeCasts_S1x1024_S1024 : FVec Ideal S1024 .f32) shapeCasts_S1024_S1x1024)
      (truncf .bf16 (shapeCast _ WA shapeCasts_S1x1024x2048_S1024x2048 : FVec Ideal S1024x2048 .f32) bitsLt_bf16_f32) (truncf .bf16 (shapeCast _ WS shapeCasts_S1x1024x2048_S1024x2048 : FVec Ideal S1024x2048 .f32) bitsLt_bf16_f32)
      (truncf .bf16 (shapeCast _ WO shapeCasts_S1x2048x2048_S2048x2048 : FVec Ideal S2048x2048 .f32) bitsLt_bf16_f32) (shapeCast _ (shapeCast _ N shapeCasts_S1x2048_S2048 : FVec Ideal S2048 .f32) shapeCasts_S2048_S1x2048) (ix2 r d)
      = rFl (rH X YA YS P WG B WA WS WO N) (ix2 r d) := by
  rw [rFl_at, rH_at]
  have g1 : ∀ k : Fin 2048, (shapeCast _ (hP P) shapeCasts_S4x8192x6144_S32768x6144 : FVec Ideal S32768x6144 .bf16) (ix2 r ⟨2048 + k.val, by omega⟩) = P (ix3 ⟨r.val / 8192, by omega⟩ ⟨r.val % 8192, by omega⟩ ⟨4096 + k.val, by omega⟩) :=
    fun k => gate_at P r ⟨k.val, by omega⟩
  have g2 : ∀ k : Fin 2048, (shapeCast _ (hP P) shapeCasts_S4x8192x6144_S32768x6144 : FVec Ideal S32768x6144 .bf16) (ix2 r ⟨4096 + k.val, by omega⟩) = P (ix3 ⟨r.val / 8192, by omega⟩ ⟨r.val % 8192, by omega⟩ ⟨6144 + k.val, by omega⟩) := by
    intro k
    have h := gate_at P r ⟨2048 + k.val, by omega⟩
    have e1 : (⟨2048 + (2048 + k.val), by omega⟩ : Fin 6144) = ⟨4096 + k.val, by omega⟩ := Fin.ext (show 2048 + (2048 + k.val) = 4096 + k.val by omega)
    have e2 : (⟨4096 + (2048 + k.val), by omega⟩ : Fin 8192) = ⟨6144 + k.val, by omega⟩ := Fin.ext (show 4096 + (2048 + k.val) = 6144 + k.val by omega)
    simp only [e1, e2] at h
    exact h
  generalize (shapeCast _ (hP P) shapeCasts_S4x8192x6144_S32768x6144 : FVec Ideal S32768x6144 .bf16) = p at g1 g2
  pointwise [NH, rms, glu, g1, g2]

/-- The second result at an entry is the reference's. -/
theorem NZ_at (h : FVec Ideal S4x8192x2048 .f32) (N : FVec Ideal S1x2048 .f32) (r : Fin 32768) (d : Fin 2048) :
    NZ (rFl h) (shapeCast _ (shapeCast _ N shapeCasts_S1x2048_S2048 : FVec Ideal S2048 .f32) shapeCasts_S2048_S1x2048) (ix2 r d) = rZ h N (ix2 r d) := by
  rw [rZ_at]
  simp only [← rFl_at]
  generalize rFl h = g
  pointwise [NZ, rms]

/-- The reference's new residual, of the arguments. -/
abbrev RH (c : Dev nD) : FVec Ideal S4x8192x2048 .f32 := rH (A0 m c) (A1 m c) (A2 m c) (A3 m c) (A4 m c) (A5 m c) (A6 m c) (A7 m c) (A8 m c) (A9 m c)

/-- The first result array after the run is what the reference computes. -/
theorem val_h (c : Dev nD) : (dats m 0 c).arrAt 12 cfg0.N = rFl (RH m c) := by
  rw [final12]
  unfold NHV
  rw [V5, V7, V8, V9, V11, V13, V15, V17, V19, V21]
  funext i
  rw [eq_ix2 i]
  exact NH_at _ _ _ _ _ _ _ _ _ _ (i 0) (i 1)

/-- The second result array after the run is what the reference computes. -/
theorem val_z (c : Dev nD) : (dats m 0 c).arrAt 13 cfg0.N = rZ (RH m c) (A10 m c) := by
  rw [final13, V23, ← final12, val_h]
  generalize RH m c = h
  funext i
  rw [eq_ix2 i]
  exact NZ_at _ _ (i 0) (i 1)

end Cert.MergeIdeal.Hand

end
-- ==== Proof.InBody.lean ====
module

public import proofs.«01_k».proof.Proof.Gen.InIdeal.Frame
public import proofs.«01_k».proof.Proof.Gen.InIdeal.Launch
public import Idealize.ShloMosaic.Lib.Exec
public import Idealize.ShloMosaic.Lib.Tactic
public import Idealize.ShloMosaic.Lib.VecWindow
public import Idealize.ShloMosaic.Lib.Pipeline.Kit

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffer behind `m` holds the array `X`. -/
abbrev holds (c : Dev nD) {s : Shape} {e : EltTy} (m : Memref sig .tc .vmem s e) (X : Vec F s e) : sProp 𝕄 :=
  (m.view.loc (c : Thread nD τ) ↦[m.view.set]{fullShare} m.view.rep X)

/-- The buffer behind `m` is owned, at contents left open. -/
abbrev owned (c : Dev nD) {s : Shape} {e : EltTy} (m : Memref sig .tc .vmem s e) : sProp 𝕄 :=
  iprop(∃ f : Buf (Elt F) (m.view.loc (c : Thread nD τ)), m.view.loc (c : Thread nD τ) ↦[m.view.set]{fullShare} f)

/-- The block of the normalized activations: each row over the root of its mean square, times the gains, rounded. -/
def uBlk (x : Vec F S512x2048 .f32) (g : Vec F S1x2048 .f32) : Vec F S512x2048 .bf16 :=
  shapeCast S512x2048 (truncf .bf16 (mulf (mulf (shapeCast S512x2048 x shapeCasts_S512x2048_S512x2048)
      (broadcastTo S512x2048 (rsqrt (addf (divf (shapeCast S512x1 (multiReduction .add [1] S512
          (mulf (shapeCast S512x2048 x shapeCasts_S512x2048_S512x2048) (shapeCast S512x2048 x shapeCasts_S512x2048_S512x2048)) 0x00000000#32 reduces_S512x2048_S512 (.inl rfl) rfl) shapeCasts_S512_S512x1)
        (broadcast S512x1 (Scalar.ofBits .f32 0x45000000#32 : F .f32))) (broadcast S512x1 (Scalar.ofBits .f32 0x358637BD#32 : F .f32)))) broadcasts_S512x1_S512x2048))
    (broadcastTo S512x2048 (shapeCast S1x2048 g shapeCasts_S1x2048_S1x2048) broadcasts_S1x2048_S512x2048)) bitsLt_bf16_f32) shapeCasts_S512x2048_S512x2048

/-- A block of columns of the projection of `u`, rounded. -/
def oBlk (u : Vec F S512x2048 .bf16) (w : Vec F S2048x2048 .bf16) : Vec F S512x2048 .bf16 :=
  truncf .bf16 (matmul dot_S512x2048_S2048x2048_S512x2048_1_0_0_1_n_n none u (shapeCast S2048x2048 w shapeCasts_S2048x2048_S2048x2048) (constant S512x2048 .f32 0x00000000#32)) bitsLt_bf16_f32

theorem uBlk_loads {κ κ' : Kind} {sp sp' : Space} (v2 : View sig κ sp S512x2048 .f32) (v3 : View sig κ' sp' S1x2048 .f32) (X2 : Vec F S512x2048 .f32) (X3 : Vec F S1x2048 .f32) :
    uBlk (v2.readAt (Elt F) (Rect.unit (s := S512x2048) ![0, 0] S512x2048.size inb_S512x2048_S512x2048_0_0).toLoadRect (v2.rep X2))
        (v3.readAt (Elt F) (Rect.unit (s := S1x2048) ![0, 0] S1x2048.size inb_S1x2048_S1x2048_0_0).toLoadRect (v3.rep X3)) = uBlk X2 X3 := by
  rw [View.readAt_rep_full, View.readAt_rep_full]

theorem oBlk_loads {κ κ' : Kind} {sp sp' : Space} (v : View sig κ sp S512x2048 .bf16) (v4 : View sig κ' sp' S2048x2048 .bf16) (U : Vec F S512x2048 .bf16) (X4 : Vec F S2048x2048 .bf16) :
    oBlk (v.readAt (Elt F) (Rect.unit (s := S512x2048) ![0, 0] S512x2048.size inb_S512x2048_S512x2048_0_0).toLoadRect (v.rep U))
        (v4.readAt (Elt F) (Rect.unit (s := S2048x2048) ![0, 0] S2048x2048.size inb_S2048x2048_S2048x2048_0_0).toLoadRect (v4.rep X4)) = oBlk U X4 := by
  rw [View.readAt_rep_full, View.readAt_rep_full]

/-- A piece that keeps `P`, then the pieces after it. -/
theorem run_next (c : Dev nD) {α β : Type} (P R : sProp 𝕄) (p : Prog (TpuEff nD τ sig (Elt F) Λ₀ .tc) α) (k : α → Prog (TpuEff nD τ sig (Elt F) Λ₀ .tc) β) (Q : β → sProp 𝕄)
    (hk : ∀ a, iprop(P ∗ R) ⊢ wp Idealize.ShloMosaic.frame (wpE (defs₀ (F := F)) Variants.none (c : Thread nD τ) none) Set.univ (k a) Q)
    (hp : P ⊢ wp Idealize.ShloMosaic.frame (wpE (defs₀ (F := F)) Variants.none (c : Thread nD τ) none) Set.univ p (fun _ => P)) :
    iprop(P ∗ R) ⊢ wp Idealize.ShloMosaic.frame (wpE (defs₀ (F := F)) Variants.none (c : Thread nD τ) none) Set.univ (p >>= k) Q := by
  rw [wp_bind]
  exact (BI.sep_mono_l hp).trans ((wp_frame_r _ _ _).trans (wp_mono _ _ _ hk))

/-- The first piece of a point's body: it fills the scratch block of activations. -/
theorem part1_run (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S2048x2048 .bf16) (harg4 : arg4.IsWhole)
  (arg5 : Memref sig .tc .vmem S1024x2048 .bf16) (harg5 : arg5.IsWhole)
  (arg6 : Memref sig .tc .vmem S2048x1024 .bf16) (harg6 : arg6.IsWhole)
  (arg7 : Memref sig .tc .vmem S512x2048 .bf16) (harg7 : arg7.IsWhole)
  (arg8 : Memref sig .tc .vmem S1x1152x512 .bf16) (harg8 : arg8.IsWhole)
  (arg9 : Memref sig .tc .vmem S8x64x1024 .bf16) (harg9 : arg9.IsWhole)
  (arg10 : Memref sig .tc .vmem S512x2048 .bf16) (harg10 : arg10.IsWhole)
  (arg11 : Memref sig .tc .vmem S8x512x128 .f32) (harg11 : arg11.IsWhole)
  (X2 : Vec F S512x2048 .f32) (X3 : Vec F S1x2048 .f32) (X5 : Vec F S1024x2048 .bf16) :
    iprop(holds c arg2 X2 ∗ holds c arg3 X3 ∗ holds c arg5 X5 ∗ owned c arg8 ∗ owned c arg10)
      ⊢ wp Idealize.ShloMosaic.frame (wpE (defs₀ (F := F)) Variants.none (c : Thread nD τ) none) Set.univ (k0_part1 (F := F) i arg2 harg2 arg3 harg3 arg4 harg4 arg5 harg5 arg6 harg6 arg7 harg7 arg8 harg8 arg9 harg9 arg10 harg10 arg11 harg11)
          (fun _ => iprop(holds c arg2 X2 ∗ holds c arg3 X3 ∗ holds c arg5 X5 ∗ owned c arg8 ∗ holds c arg10 (uBlk X2 X3))) := by
  unfold k0_part1
  iintro ⟨H2, H3, H5, ⟨%f8, H8⟩, ⟨%f10, H10⟩⟩
  sl_exec
  ihave H10 := (pointsTo_rep_of_read (Val := Elt F) (c : Thread nD τ) arg10 _ fullShare (uBlk X2 X3) ?g10) $$ H10
  case g10 =>
    rw [View.read_writes_full]
    exact uBlk_loads arg2.view arg3.view X2 X3
  sl_step
  isplitl [H2]; · iexact H2
  isplitl [H3]; · iexact H3
  isplitl [H5]; · iexact H5
  isplitl [H8]; · iexists _; iexact H8
  iexact H10

/-- The body at one point: on the first of a row of points it fills the scratch block, and on every point it leaves the block of the projection. -/
theorem body_run (c : Dev nD) (i : grid0.Coords)
  (arg2 : Memref sig .tc .vmem S512x2048 .f32) (harg2 : arg2.IsWhole)
  (arg3 : Memref sig .tc .vmem S1x2048 .f32) (harg3 : arg3.IsWhole)
  (arg4 : Memref sig .tc .vmem S2048x2048 .bf16) (harg4 : arg4.IsWhole)
  (arg5 : Memref sig .tc .vmem S1024x2048 .bf16) (harg5 : arg5.IsWhole)
  (arg6 : Memref sig .tc .vmem S2048x1024 .bf16) (harg6 : arg6.IsWhole)
  (arg7 : Memref sig .tc .vmem S512x2048 .bf16) (harg7 : arg7.IsWhole)
  (arg8 : Memref sig .tc .vmem S1x1152x512 .bf16) (harg8 : arg8.IsWhole)
  (arg9 : Memref sig .tc .vmem S8x64x1024 .bf16) (harg9 : arg9.IsWhole)
  (arg10 : Memref sig .tc .vmem S512x2048 .bf16) (harg10 : arg10.IsWhole)
  (arg11 : Memref sig .tc .vmem S8x512x128 .f32) (harg11 : arg11.IsWhole)
  (X2 : Vec F S512x2048 .f32) (X3 : Vec F S1x2048 .f32) (X4 : Vec F S2048x2048 .bf16) (X5 : Vec F S1024x2048 .bf16) (X6 : Vec F S2048x1024 .bf16) (U : Vec F S512x2048 .bf16) (P : sProp 𝕄)
  (hU : k0_cond1 i = 1#1 → U = uBlk X2 X3) (hf : k0_cond1 i = 1#1 → (P ⊢ owned c arg10)) (hl : ¬ k0_cond1 i = 1#1 → (P ⊢ holds c arg10 U)) :
    iprop(holds c arg2 X2 ∗ holds c arg3 X3 ∗ holds c arg4 X4 ∗ holds c arg5 X5 ∗ holds c arg6 X6 ∗ owned c arg7 ∗ owned c arg8 ∗ owned c arg9 ∗ P ∗ owned c arg11)
      ⊢ wp Idealize.ShloMosaic.frame (wpE (defs₀ (F := F)) Variants.none (c : Thread nD τ) none) Set.univ (cc0_in_proj (F := F) i arg2 harg2 arg3 harg3 arg4 harg4 arg5 harg5 arg6 harg6 arg7 harg7 arg8 harg8 arg9 harg9 arg10 harg10 arg11 harg11)
          (fun _ => iprop(holds c arg2 X2 ∗ holds c arg3 X3 ∗ holds c arg4 X4 ∗ holds c arg5 X5 ∗ holds c arg6 X6 ∗ holds c arg7 (oBlk U X4) ∗ owned c arg8 ∗ owned c arg9 ∗ holds c arg10 U ∗ owned c arg11)) := by
  unfold cc0_in_proj
  by_cases h : k0_cond1 i = 1#1
  · rw [dif_pos h, hU h]
    iintro ⟨H2, H3, H4, H5, H6, H7, H8, H9, H10, H11⟩
    ihave H10 := (hf h) $$ H10
    rw [wp_bind]
    iapply (wp_wand_r Idealize.ShloMosaic.frame (wpE (defs₀ (F := F)) Variants.none (c : Thread nD τ) none) Set.univ)
    isplitl [H2 H3 H5 H8 H10]
    · iapply (part1_run c i arg2 harg2 arg3 harg3 arg4 harg4 arg5 harg5 arg6 harg6 arg7 harg7 arg8 harg8 arg9 harg9 arg10 harg10 arg11 harg11 X2 X3 X5)
      isplitl [H2]; · iexact H2
      isplitl [H3]; · iexact H3
      isplitl [H5]; · iexact H5
      isplitl [H8]; · iexact H8
      iexact H10
    iintro %r ⟨H2, H3, H5, H8, H10⟩
    obtain ⟨v25, v31, v42, v43⟩ := r
    dsimp only
    iapply (run_next c iprop(holds c arg6 X6 ∗ owned c arg8 ∗ owned c arg9 ∗ owned c arg11) iprop(holds c arg2 X2 ∗ holds c arg3 X3 ∗ holds c arg4 X4 ∗ holds c arg5 X5 ∗ owned c arg7 ∗ holds c arg10 (uBlk X2 X3)) _ _ _ ?rest ?p2)
    rotate_right
    · isplitl [H6 H8 H9 H11]
      · isplitl [H6]; · iexact H6
        isplitl [H8]; · iexact H8
        isplitl [H9]; · iexact H9
        iexact H11
      isplitl [H2]; · iexact H2
      isplitl [H3]; · iexact H3
      isplitl [H4]; · iexact H4
      isplitl [H5]; · iexact H5
      isplitl [H7]; · iexact H7
      iexact H10
    case' rest =>
      intro r
      refine run_next c _ _ _ _ _ (fun r => ?_) ?p3
      refine run_next c _ _ _ _ _ (fun r => ?_) ?p4
      obtain ⟨v106, v131⟩ := r
      dsimp only
      refine run_next c _ _ _ _ _ (fun r => ?_) ?p5
      refine run_next c _ _ _ _ _ (fun r => ?_) ?p6
      refine run_next c _ _ _ _ _ (fun r => ?_) ?p7
      refine run_next c _ _ _ _ _ (fun r => ?_) ?p8
      refine run_next c _ _ _ _ _ (fun r => ?_) ?p9
      refine run_next c _ _ _ _ _ (fun r => ?_) ?p10
      refine run_next c _ _ _ _ _ (fun r => ?_) ?p11
      refine run_next c _ _ _ _ _ (fun r => ?_) ?p12
      refine run_next c _ _ _ _ _ (fun r => ?_) ?p13
      refine run_next c _ _ _ _ _ (fun r => ?_) ?p14
      refine run_next c _ _ _ _ _ (fun r => ?_) ?p15
      refine run_next c _ _ _ _ _ (fun r => ?_) ?p16
      refine run_next c _ _ _ _ _ (fun r => ?_) ?p17
      refine run_next c _ _ _ _ _ (fun r => ?_) ?p18
      refine run_next c _ _ _ _ _ (fun r => ?_) ?p19
      refine run_next c _ _ _ _ _ (fun r => ?_) ?p20
      refine run_next c _ _ _ _ _ (fun r => ?_) ?p21
    · iintro ⟨⟨H6, ⟨%f8, H8⟩, ⟨%f9, H9⟩, ⟨%f11, H11⟩⟩, H2, H3, H4, H5, ⟨%f7, H7⟩, H10⟩
      sl_exec
      ihave H7 := (pointsTo_rep_of_read (Val := Elt F) (c : Thread nD τ) arg7 _ fullShare (oBlk (uBlk X2 X3) X4) ?g7) $$ H7
      case g7 =>
        rw [View.read_writes_full]
        exact oBlk_loads arg10.view arg4.view (uBlk X2 X3) X4
      sl_step
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      iexists _; iexact H11
    all_goals
      first
        | unfold k0_part2
        | unfold k0_part3
        | unfold k0_part4
        | unfold k0_part5
        | unfold k0_part6
        | unfold k0_part7
        | unfold k0_part8
        | unfold k0_part9
        | unfold k0_part10
        | unfold k0_part11
        | unfold k0_part12
        | unfold k0_part13
        | unfold k0_part14
        | unfold k0_part15
        | unfold k0_part16
        | unfold k0_part17
        | unfold k0_part18
        | unfold k0_part19
        | unfold k0_part20
        | unfold k0_part21
      iintro ⟨H6, ⟨%f8, H8⟩, ⟨%f9, H9⟩, ⟨%f11, H11⟩⟩
      sl_exec
      sl_step
      isplitl [H6]; · iexact H6
      isplitl [H8]; · iexists _; iexact H8
      isplitl [H9]; · iexists _; iexact H9
      iexists _; iexact H11
  · rw [dif_neg h]
    iintro ⟨H2, H3, H4, H5, H6, ⟨%f7, H7⟩, ⟨%f8, H8⟩, ⟨%f9, H9⟩, H10, ⟨%f11, H11⟩⟩
    ihave H10 := (hl h) $$ H10
    sl_exec
    ihave H7 := (pointsTo_rep_of_read (Val := Elt F) (c : Thread nD τ) arg7 _ fullShare (oBlk U X4) ?g7) $$ H7
    case g7 =>
      rw [View.read_writes_full]
      exact oBlk_loads arg10.view arg4.view U X4
    sl_step
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    iexists _; iexact H11

end Cert.InIdeal.Hand
-- ==== Proof.InPure.lean ====
module

public import proofs.«01_k».proof.Proof.FfnPure
public import proofs.«01_k».proof.Proof.InBody
public import proofs.«01_k».proof.Proof.Gen.InRefIdeal.Run
public import Idealize.ShloMosaic.Lib.Pointwise

@[expose] public section

set_option maxRecDepth 16384

noncomputable section

/-! The input projection entry by entry: what one block of rows computes, and what the reference computes. -/

namespace Cert.Rows

/-- The column of the layer's weights that makes a column of the first result: the first two splits, then the last two. -/
def col (d : Fin 6144) : Fin 8192 := if d.val < 2048 then ⟨d.val, by omega⟩ else ⟨2048 + d.val, by omega⟩

theorem col_lo (d : Fin 6144) (h : d.val < 2048) : (col d).val = d.val := by
  unfold col
  rw [if_pos h]
theorem col_hi (d : Fin 6144) (h : ¬ d.val < 2048) : (col d).val = 2048 + d.val := by
  unfold col
  rw [if_neg h]

end Cert.Rows

namespace Cert.InIdeal.Hand

open Cert.InIdeal Cert.InIdeal.Gen Cert.Rows
open Idealize.ShloMosaic Idealize.ShloMosaic.TcCoe

/-- The normed activations' block at an entry. -/
theorem uBlk_at (x : Vec Ideal S512x2048 .f32) (g : Vec Ideal S1x2048 .f32) (r : Fin 512) (d : Fin 2048) :
    uBlk x g (ix2 r d) = rms (fun e => x (ix2 r e)) (g (ix2 0 d)) d := by
  pointwise [uBlk, rms]

/-- The projection's block at an entry. -/
theorem oBlk_at (u : Vec Ideal S512x2048 .bf16) (w : Vec Ideal S2048x2048 .bf16) (r : Fin 512) (d : Fin 2048) :
    oBlk u w (ix2 r d) = ∑ k : Fin 2048, u (ix2 r k) * w (ix2 k d) := by
  pointwise [oBlk]

/-- The weights' columns that the call reads, as the host prepares them. -/
def hW (w : FVec Ideal S2048x8192 .f32) : FVec Ideal S2048x6144 .bf16 :=
  truncf .bf16 (concatenate S2048x6144 1 [⟨S2048x1024, extractStridedSlice S2048x1024 ![0, 0] w slices_S2048x8192_S2048x1024_0_0⟩, ⟨S2048x1024, extractStridedSlice S2048x1024 ![0, 1024] w slices_S2048x8192_S2048x1024_0_1024⟩,
    ⟨S2048x2048, extractStridedSlice S2048x2048 ![0, 4096] w slices_S2048x8192_S2048x2048_0_4096⟩, ⟨S2048x2048, extractStridedSlice S2048x2048 ![0, 6144] w slices_S2048x8192_S2048x2048_0_6144⟩]
    concatenates_S2048x1024_S2048x1024_S2048x2048_S2048x2048_S2048x6144_d1) bitsLt_bf16_f32

theorem hW_at (w : FVec Ideal S2048x8192 .f32) (k : Fin 2048) (d : Fin 6144) : hW w (ix2 k d) = w (ix2 k (col d)) := by
  pointwise [hW]
  have lo := col_lo d
  have hi := col_hi d
  split_ifs <;> refine congrArg (fun e => w (ix2 k e)) (Fin.ext ?_) <;> dsimp only <;> by_cases h : d.val < 2048 <;> simp only [lo, hi, h, not_false_eq_true] <;> omega

end Cert.InIdeal.Hand

namespace Cert.InRefIdeal.Hand

open Cert.InRefIdeal Cert.InRefIdeal.Gen Cert.Rows
open Idealize.ShloMosaic Idealize.ShloMosaic.TcCoe

/-- The reference's norm. -/
def rU (f : FVec Ideal S4x8192x2048 .f32) (w : FVec Ideal S1x2048 .f32) : FVec Ideal S4x8192x2048 .f32 :=
  mulf (mulf f (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf f f) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 (shapeCast _ w shapeCasts_S1x2048_S2048)))

/-- The reference's whole projection. -/
def rPrj (u : FVec Ideal S4x8192x2048 .f32) (w : FVec Ideal S1x2048x8192 .f32) : FVec Ideal S4x8192x8192 .f32 :=
  Host.dotGeneral dot_S4x8192x2048_S2048x8192_S4x8192x8192_2_0_01_1_n_n none u (shapeCast _ w shapeCasts_S1x2048x8192_S2048x8192)

/-- The columns of the projection that the reference returns. -/
def rCut (p : FVec Ideal S4x8192x8192 .f32) : FVec Ideal S4x8192x6144 .f32 :=
  concatenate S4x8192x6144 2 [⟨S4x8192x1024, extractStridedSlice S4x8192x1024 ![0, 0, 0] p slices_S4x8192x8192_S4x8192x1024_0_0_0⟩, ⟨S4x8192x1024, extractStridedSlice S4x8192x1024 ![0, 0, 1024] p slices_S4x8192x8192_S4x8192x1024_0_0_1024⟩,
    ⟨S4x8192x2048, extractStridedSlice S4x8192x2048 ![0, 0, 4096] p slices_S4x8192x8192_S4x8192x2048_0_0_4096⟩, ⟨S4x8192x2048, extractStridedSlice S4x8192x2048 ![0, 0, 6144] p slices_S4x8192x8192_S4x8192x2048_0_0_6144⟩]
    concatenates_S4x8192x1024_S4x8192x1024_S4x8192x2048_S4x8192x2048_S4x8192x6144_d2

/-- The reference's result: those columns, their rows laid out one below the other. -/
def rQ (p : FVec Ideal S4x8192x6144 .f32) : FVec Ideal S32768x6144 .bf16 := truncf .bf16 (shapeCast S32768x6144 p shapeCasts_S4x8192x6144_S32768x6144) bitsLt_bf16_f32

theorem rU_at (f : FVec Ideal S4x8192x2048 .f32) (w : FVec Ideal S1x2048 .f32) (b : Fin 4) (r : Fin 8192) (d : Fin 2048) :
    rU f w (ix3 b r d) = rms (fun e => f (ix3 b r e)) (w (ix2 0 d)) d := by
  pointwise [rU, rms]

theorem rPrj_at (u : FVec Ideal S4x8192x2048 .f32) (w : FVec Ideal S1x2048x8192 .f32) (b : Fin 4) (r : Fin 8192) (d : Fin 8192) :
    rPrj u w (ix3 b r d) = ∑ k : Fin 2048, u (ix3 b r k) * w (ix3 0 k d) := by
  pointwise [rPrj]

theorem rCut_at (p : FVec Ideal S4x8192x8192 .f32) (b : Fin 4) (r : Fin 8192) (d : Fin 6144) : rCut p (ix3 b r d) = p (ix3 b r (col d)) := by
  pointwise [rCut]
  have lo := col_lo d
  have hi := col_hi d
  split_ifs <;> refine congrArg (fun e => p (ix3 b r e)) (Fin.ext ?_) <;> dsimp only <;> by_cases h : d.val < 2048 <;> simp only [lo, hi, h, not_false_eq_true] <;> omega

theorem rQ_at (p : FVec Ideal S4x8192x6144 .f32) (r : Fin 32768) (d : Fin 6144) : rQ p (ix2 r d) = p (ix3 ⟨r.val / 8192, by omega⟩ ⟨r.val % 8192, by omega⟩ d) := by
  pointwise [rQ]

/-- The reference's result at an entry. -/
theorem res_at (x : FVec Ideal S4x8192x2048 .f32) (w : FVec Ideal S1x2048x8192 .f32) (n : FVec Ideal S1x2048 .f32) (r : Fin 32768) (d : Fin 6144) :
    rQ (rCut (rPrj (rU x n) w)) (ix2 r d) = ∑ k : Fin 2048, rms (fun e => x (ix3 ⟨r.val / 8192, by omega⟩ ⟨r.val % 8192, by omega⟩ e)) (n (ix2 0 k)) k * w (ix3 0 k (col d)) := by
  simp only [rQ_at, rCut_at, rPrj_at, rU_at]

/-- The reference's result is the steps, one after the other. -/
theorem res_p (m : (ℓ : Loc nD τ sig) → Buf (Elt Ideal) ℓ) (c : Dev nD) :
    Cert.InRefIdeal.Value.res_out0 m c = rQ (rCut (rPrj (rU (m ((c.tc : Thread nD τ).loc main_arg0)) (m ((c.tc : Thread nD τ).loc main_arg2))) (m ((c.tc : Thread nD τ).loc main_arg1)))) := rfl

end Cert.InRefIdeal.Hand

end
-- ==== Proof.InRun.lean ====
module

public import proofs.«01_k».proof.Proof.Gen.InIdeal.Frame
public import proofs.«01_k».proof.Proof.InBody
public import Idealize.ShloMosaic.Lib.Pipeline.TableIdle
public import Idealize.ShloMosaic.Lib.Exec
public import Idealize.ShloMosaic.Lib.Tactic
public import Idealize.ShloMosaic.Lib.Pipeline.Kit

@[expose] public section

set_option maxRecDepth 16384

noncomputable section

namespace Cert.InIdeal.Hand

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat Cfg Window BodyObligation cellOf)
variable (m : (ℓ : Loc nD τ sig) → Buf (Elt F) ℓ) (ρ : Dev nD → PrngReg)

/-- The body fills the scratch block at the first of each three points. -/
theorem cond1 : ∀ t : Fin grid0.N, k0_cond1 (grid0.coords t) = 1#1 ↔ t.val % 3 = 0 := by decide +kernel

/-- The first of the three points that share a block of rows with point `t`. -/
def fst3 (t : Fin cfg0.N) : Fin cfg0.N := ⟨3 * (t.val / 3), by have := t.isLt; omega⟩

/-- The block of activations that point `t` works with. -/
def uAt (c : Dev nD) (t : Fin cfg0.N) : Vec F S512x2048 .bf16 := uBlk (iblk m c 0 (fst3 t)) (iblk m c 1 (fst3 t))

theorem uAt_first (c : Dev nD) (t : Fin cfg0.N) (h : t.val % 3 = 0) : uAt m c t = uBlk (iblk m c 0 t) (iblk m c 1 t) := by
  unfold uAt
  rw [show fst3 t = t from Fin.ext (show 3 * (t.val / 3) = t.val by omega)]

theorem uAt_later (c : Dev nD) (t t' : Fin cfg0.N) (h : t.val / 3 = t'.val / 3) : uAt m c t = uAt m c t' := by
  unfold uAt
  rw [show fst3 t = fst3 t' from Fin.ext (show 3 * (t.val / 3) = 3 * (t'.val / 3) by rw [h])]

/-- What the body leaves in the projection's staging buffer at point `t`. -/
def outAt (c : Dev nD) (t : Fin cfg0.N) : Vec F S512x2048 .bf16 := oBlk (uAt m c t) (iblk m c 2 t)

/-- The other two results are left open: no claim reads them. -/
def opened : Fin 8 → Bool := fun | 0 => false | 1 => false | 2 => false | 3 => false | 4 => false | 5 => false | 6 => true | 7 => true | ⟨_ + 8, h⟩ => absurd h (Nat.not_lt.2 (Nat.le_add_left _ _))

/-- Between two points of one row of points the scratch block holds that row's activations; elsewhere it holds anything. -/
def between (c : Dev nD) (k : Fin (cfg0.N + 1)) : sProp 𝕄 :=
  if h : k.val % 3 = 0 then Pipeline.ΦA spec0 c
  else iprop((holds c (Memref.whole cc0_scratch0) (uAt m c ⟨k.val - 1, by have := k.isLt; omega⟩) ∗ (∃ d, owns (c : Thread nD τ) (Memref.whole cc0_scratch1) fullShare d)) ∗ ∃ r, prngReg c r)

/-- The launch's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => Pipeline.Dat.unnamed (cfg := cfg0) 6 t
    | ⟨7, _⟩ => Pipeline.Dat.unnamed (cfg := cfg0) 7 t
  Φ k := between m c k
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = outAt m c t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X)
    ∗ (∃ X, owns (c : Thread nD τ) (st0_7 t) fullShare X))

theorem owns_holds (c : Dev nD) {s : Shape} {e : EltTy} (M : Memref sig .tc .vmem s e) (X : Vec F s e) :
    (owns (c : Thread nD τ) M fullShare X : sProp 𝕄) = holds c M X := owns_eq_rep (c : Thread nD τ) M fullShare X

/-- A buffer owned at open contents, in the two spellings. -/
theorem open_owned (c : Dev nD) {s : Shape} {e : EltTy} (M : Memref sig .tc .vmem s e) :
    (iprop(∃ X, owns (c : Thread nD τ) M fullShare X) : sProp 𝕄) ⊢ owned c M := by
  simp only [owns_holds]
  iintro ⟨%X, H⟩
  iexists _; iexact H
theorem owned_open (c : Dev nD) {s : Shape} {e : EltTy} (M : Memref sig .tc .vmem s e) :
    owned c M ⊢ (iprop(∃ X, owns (c : Thread nD τ) M fullShare X) : sProp 𝕄) := by
  simp only [owns_holds]
  iintro ⟨%f, H⟩
  ihave H := (pointsTo_rep_entails (Val := Elt F) (c : Thread nD τ) M _ fullShare) $$ H
  iexists _; iexact H

/-- The scoped buffers as values held, one by one. -/
theorem scratch_eq (c : Dev nD) : (Pipeline.scopedRest (Ix := Unit) (Name := ℕ) (U := UR sig nD τ) (Lvl := ℕ) (Val := Elt F) spec0 c : sProp 𝕄)
    = iprop((∃ d, owns (c : Thread nD τ) (Memref.whole cc0_scratch0) fullShare d) ∗ (∃ d, owns (c : Thread nD τ) (Memref.whole cc0_scratch1) fullShare d)) := by
  rw [scopedRest0_eq]
  rw [(Memref.isWhole_whole cc0_scratch0).exists_owns_eq, (Memref.isWhole_whole cc0_scratch1).exists_owns_eq]

/-- What holds between points gives the scratch block at open contents before the first of a row of points. -/
theorem between_first (c : Dev nD) (k : Fin (cfg0.N + 1)) (h : k.val % 3 = 0) : between m c k
    = iprop(((∃ d, owns (c : Thread nD τ) (Memref.whole cc0_scratch0) fullShare d) ∗ (∃ d, owns (c : Thread nD τ) (Memref.whole cc0_scratch1) fullShare d)) ∗ ∃ r, prngReg c r) := by
  unfold between
  rw [dif_pos h]
  unfold Pipeline.ΦA
  rw [scratch_eq]

theorem between_later (c : Dev nD) (k : Fin (cfg0.N + 1)) (h : ¬ k.val % 3 = 0) (t : Fin cfg0.N) (ht : (k.val - 1) / 3 = t.val / 3) : between m c k
    = iprop((holds c (Memref.whole cc0_scratch0) (uAt m c t) ∗ (∃ d, owns (c : Thread nD τ) (Memref.whole cc0_scratch1) fullShare d)) ∗ ∃ r, prngReg c r) := by
  unfold between
  rw [dif_neg h, uAt_later m c _ t ht]

/-- What the scratch block holds before point `t`. -/
def pre10 (c : Dev nD) (t : Fin cfg0.N) : sProp 𝕄 :=
  if t.val % 3 = 0 then iprop(∃ d, owns (c : Thread nD τ) (Memref.whole cc0_scratch0) fullShare d) else holds c (Memref.whole cc0_scratch0) (uAt m c t)

theorem between_pre (c : Dev nD) (t : Fin cfg0.N) : between m c t.castSucc
    = iprop((pre10 m c t ∗ (∃ d, owns (c : Thread nD τ) (Memref.whole cc0_scratch1) fullShare d)) ∗ ∃ r, prngReg c r) := by
  unfold pre10
  by_cases h : t.val % 3 = 0
  · rw [if_pos h, between_first m c _ h]
  · rw [if_neg h, between_later m c _ h t (show (t.val - 1) / 3 = t.val / 3 by omega)]

theorem between_post (c : Dev nD) (t : Fin cfg0.N) :
    iprop((holds c (Memref.whole cc0_scratch0) (uAt m c t) ∗ (∃ d, owns (c : Thread nD τ) (Memref.whole cc0_scratch1) fullShare d)) ∗ ∃ r, prngReg c r) ⊢ between m c t.succ := by
  by_cases h : (t.val + 1) % 3 = 0
  · rw [between_first m c t.succ h, ← owns_holds]
    iintro ⟨⟨H0, H1⟩, Hg⟩
    isplitr [Hg]
    · isplitl [H0]; · iexists _; iexact H0
      iexact H1
    iexact Hg
  · rw [between_later m c t.succ h t (show (t.val + 1 - 1) / 3 = t.val / 3 by omega)]

theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  rw [show (dats m 0 c).Φ t.castSucc = between m c t.castSucc from rfl, between_pre]
  rw [show (dats m 0 c).Φ t.succ = between m c t.succ from rfl]
  rw [show (dats m 0 c).owesAt () t.succ = (dats m 0 c).owesAt () t.castSucc from rfl]
  rw [after_0, after_1, after_2, after_3, after_4, after_5]
  simp only [before_0, before_1, before_2, before_3, before_4]
  unfold outAt
  iintro ⟨⟨⟨HS0, HS1⟩, Hg⟩, HW, ⟨%_, H0⟩, ⟨%_, H1⟩, ⟨%_, H2⟩, ⟨%_, H3⟩, ⟨%_, H4⟩, ⟨%d5, H5⟩, H6, H7⟩
  iapply (wp_wand_r Idealize.ShloMosaic.frame (wpE (defs₀ (F := F)) Variants.none (c : Thread nD τ) none) Set.univ)
  isplitl [H0 H1 H2 H3 H4 H5 H6 H7 HS0 HS1]
  · iapply (body_run c (grid0.coords t) _ _ _ _ _ _ _ _ _ _ _ _ _ _ _ _ _ _ _ _
      (iblk m c 0 t) (iblk m c 1 t) (iblk m c 2 t) (iblk m c 3 t) (iblk m c 4 t) (uAt m c t) (pre10 m c t)
      (fun h => uAt_first m c t ((cond1 t).1 h))
      (fun h => by unfold pre10; rw [if_pos ((cond1 t).1 h)]; exact open_owned c _)
      (fun h => by unfold pre10; rw [if_neg (fun hc => h ((cond1 t).2 hc))]))
    rw [← owns_holds, ← owns_holds, ← owns_holds, ← owns_holds, ← owns_holds]
    isplitl [H0]; · iexact H0
    isplitl [H1]; · iexact H1
    isplitl [H2]; · iexact H2
    isplitl [H3]; · iexact H3
    isplitl [H4]; · iexact H4
    isplitl [H5]; · iapply (open_owned c _); iexists _; iexact H5
    isplitl [H6]; · iapply (open_owned c _); iexact H6
    isplitl [H7]; · iapply (open_owned c _); iexact H7
    isplitl [HS0]; · iexact HS0
    iapply (open_owned c _); iexact HS1
  iintro %_ ⟨H0, H1, H2, H3, H4, H5, H6, H7, HS0, HS1⟩
  isplitl [HS0 HS1 Hg]
  · iapply (between_post m c t)
    isplitr [Hg]
    · isplitl [HS0]; · iexact HS0
      iapply (owned_open c _); iexact HS1
    iexact Hg
  isplitl [HW]; · iexact HW
  rw [owns_holds, owns_holds, owns_holds, owns_holds, owns_holds, owns_holds]
  isplitl [H0]; · iexact H0
  isplitl [H1]; · iexact H1
  isplitl [H2]; · iexact H2
  isplitl [H3]; · iexact H3
  isplitl [H4]; · iexact H4
  isplitl [H5]; · iexact H5
  isplitl [H6]; · iapply (owned_open c _); iexact H6
  iapply (owned_open c _); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ opened := fun t => by
  rw [bigSep_W0, bigSep_W0, defs₀_row]
  exact triple_restated (sound_body m c t) rfl .rfl fun _ => .rfl

theorem between_eq (c : Dev nD) (k : Fin (cfg0.N + 1)) (h : k.val % 3 = 0) : between m c k = Pipeline.ΦA spec0 c := by
  unfold between
  rw [dif_pos h]

set_option backward.isDefEq.respectTransparency.types false in
/-- The launch terminates with every semaphore at zero, the arrays that are named as the data say and the others as the region found them. -/
theorem run_main : θ_run defs (onTc (τ := τ) (main (F := F))) (s₀ m ρ)
    (fun r => Pipeline.RDat.FramePost (cfgs 0) (fun c => (dats m 0 c).toRForget opened) (V m) r ∧ r.2.sem = fun _ => 0) :=
  Pipeline.θ_run_frame_track_forget (Q' := _) cfgs (dats m) (0 : Fin 1) launch0 defs₀ Variants.none opened m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.BIBase.Entails.of_eq (between_eq m c 0 rfl).symm)
    (hout := fun c => Idealize.SL.BI.BIBase.Entails.of_eq (between_eq m c (Fin.last cfg0.N) (by decide)))

/-- The three arguments hold at the end what they held at the launch, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

/-- The same with the projection's array at what the points leave in it. -/
theorem run_proj : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v15_0) = (dats m 0 c).arrAt 5 cfg0.N)
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((dats m 0 c).toRForget_arrAt_iff (rfl : opened 5 = false) _ _).mp ((h.1 c).1 5)⟩, h.2⟩) (run_main m ρ)

end Cert.InIdeal.Hand

end
-- ==== Proof.InVal.lean ====
module

public import proofs.«01_k».proof.Proof.InPure
public import proofs.«01_k».proof.Proof.InRun
public import Idealize.ShloMosaic.Lib.Pipeline.ValueKit
public import Idealize.ShloMosaic.Lib.Claim

@[expose] public section

set_option maxRecDepth 16384

noncomputable section

namespace Cert.InIdeal.Hand

open Cert.InIdeal Cert.InIdeal.Gen Cert.Rows
open Idealize.ShloMosaic Idealize.ShloMosaic.TcCoe Idealize.SL.Sem
open Cert.InRefIdeal.Hand (rU rPrj rCut rQ res_at)

variable (m : (ℓ : Loc nD τ sig) → Buf (Elt Ideal) ℓ)

/-! The input projection's first result array, and its agreement with the reference. -/

/-- Which block of each array a step works on. -/
theorem idx : ∀ t : Fin cfg0.N, win0_0.index t = ![t.val / 3, 0] ∧ win0_1.index t = ![0, 0] ∧ win0_2.index t = ![0, t.val % 3] ∧ win0_5.index t = ![t.val / 3, t.val % 3] ∧ t.val < 192 :=
  (by decide +kernel : ∀ t : Fin grid0.N, _)

theorem tlt (t : Fin cfg0.N) : t.val < 192 := by have := idx t; omega

/-- The projection, of the arrays the call reads. -/
def PR (x : FVec Ideal S32768x2048 .f32) (g : FVec Ideal S1x2048 .f32) (w : FVec Ideal S2048x6144 .bf16) : FVec Ideal S32768x6144 .bf16 :=
  fun i => ∑ k : Fin 2048, rms (fun e => x (ix2 (i 0) e)) (g (ix2 0 k)) k * w (ix2 k (i 1))

/-! The blocks that a step works on, read in the arrays. -/

theorem blk0 (c : Dev nD) (t : Fin cfg0.N) (r : Fin 512) (k : Fin 2048) :
    (iblk m c 0 t : Vec Ideal S512x2048 .f32) (ix2 r k) = (V m c main_v9 : FVec Ideal S32768x2048 .f32) (ix2 ⟨t.val / 3 * 512 + r.val, by have := tlt t; omega⟩ k) := by
  blk_simp [iblk]
  blk_ext [idx t]
theorem blk1 (c : Dev nD) (t : Fin cfg0.N) (j : Fin 2048) :
    (iblk m c 1 t : Vec Ideal S1x2048 .f32) (ix2 0 j) = (V m c main_v11 : FVec Ideal S1x2048 .f32) (ix2 0 j) := by
  blk_simp [iblk]
  blk_ext [idx t]
theorem blk2 (c : Dev nD) (t : Fin cfg0.N) (i : Fin 2048) (j : Fin 2048) :
    (iblk m c 2 t : Vec Ideal S2048x2048 .bf16) (ix2 i j) = (V m c main_v8 : FVec Ideal S2048x6144 .bf16) (ix2 i ⟨t.val % 3 * 2048 + j.val, by omega⟩) := by
  blk_simp [iblk]
  blk_ext [idx t]
theorem emb5 (t : Fin cfg0.N) (r : Fin 512) (d : Fin 2048) :
    (((cfg0.win 5).blk t).view.emb (ix2 r d : S512x2048.Idx) : S32768x6144.Idx) = ix2 ⟨t.val / 3 * 512 + r.val, by have := tlt t; omega⟩ ⟨t.val % 3 * 2048 + d.val, by omega⟩ := by
  blk_ext [idx t]

/-- The projection, of the arrays as the call finds them. -/
abbrev PRV (c : Dev nD) : FVec Ideal S32768x6144 .bf16 := PR (V m c main_v9) (V m c main_v11) (V m c main_v8)

/-- The block of activations at a point, read in the arrays. -/
theorem uAt_at (c : Dev nD) (t : Fin cfg0.N) (r : Fin 512) (d : Fin 2048) :
    uAt m c t (ix2 r d) = rms (fun e => (V m c main_v9 : FVec Ideal S32768x2048 .f32) (ix2 ⟨t.val / 3 * 512 + r.val, by have := tlt t; omega⟩ e)) ((V m c main_v11 : FVec Ideal S1x2048 .f32) (ix2 0 d)) d := by
  have h : (fst3 t).val / 3 = t.val / 3 := show 3 * (t.val / 3) / 3 = t.val / 3 by omega
  unfold uAt
  rw [uBlk_at]
  simp only [blk0, blk1, h]

theorem row5 (c : Dev nD) (t : Fin cfg0.N) (r : Fin 512) (d : Fin 2048) :
    outAt m c t (ix2 r d) = PRV m c (ix2 ⟨t.val / 3 * 512 + r.val, by have := tlt t; omega⟩ ⟨t.val % 3 * 2048 + d.val, by omega⟩) := by
  unfold outAt
  refine (oBlk_at _ _ r d).trans ?_
  unfold PRV PR
  simp only [uAt_at, blk2]
  rfl

theorem point5 (c : Dev nD) (t : Fin cfg0.N) (y : S512x2048.Idx) : outAt m c t y = PRV m c (((cfg0.win 5).blk t).view.emb y) := by
  idx_vars y
  exact (row5 m c t y0 y1).trans (congrArg (PRV m c) (emb5 t y0 y1)).symm

/-- The call leaves the projection in its first result array. -/
theorem final5 (c : Dev nD) : (dats m 0 c).arrAt 5 cfg0.N = PRV m c := by
  refine (dats m 0 c).arrAt_eq_of_covers 5 _ (by decide +kernel) fun t _ y => ?_
  blk_simp
  rw [after_5]
  exact point5 m c t y

/-! The contents that the call finds, from the arguments. -/

abbrev A0 (c : Dev nD) : FVec Ideal S4x8192x2048 .f32 := m ((c : Thread nD τ).loc main_arg0)
abbrev A1 (c : Dev nD) : FVec Ideal S1x2048x8192 .f32 := m ((c : Thread nD τ).loc main_arg1)
abbrev A2 (c : Dev nD) : FVec Ideal S1x2048 .f32 := m ((c : Thread nD τ).loc main_arg2)

theorem V9 (c : Dev nD) : V m c main_v9 = (shapeCast _ (A0 m c) shapeCasts_S4x8192x2048_S32768x2048 : FVec Ideal S32768x2048 .f32) := by
  entry_read
  rfl
theorem V11 (c : Dev nD) : V m c main_v11 = (shapeCast _ (shapeCast _ (A2 m c) shapeCasts_S1x2048_S2048 : FVec Ideal S2048 .f32) shapeCasts_S2048_S1x2048 : FVec Ideal S1x2048 .f32) := by
  entry_read
  rfl

/-- The layer's weights as a matrix. -/
abbrev WM (w : FVec Ideal S1x2048x8192 .f32) : FVec Ideal S2048x8192 .f32 := shapeCast _ w shapeCasts_S1x2048x8192_S2048x8192

set_option maxHeartbeats 1600000 in
theorem V8 (c : Dev nD) : V m c main_v8 = hW (WM (A1 m c)) := by
  have e : (hostOps0 : List (HloOp τ sig (Elt Ideal))) = hostOps0.take 7 ++ ((hostOps0.drop 7).take 1 ++ hostOps0.drop 8) := by
    rfl
  have h1 : StableHlo.after ((hostOps0 : List (HloOp τ sig (Elt Ideal))).take 7) (fun b => m (c, b)) main_v1 = (extractStridedSlice S2048x1024 ![0, 0] (WM (A1 m c)) slices_S2048x8192_S2048x1024_0_0 : FVec Ideal S2048x1024 .f32) := by
    simp only [hostOps0, List.take_succ_cons, List.take_zero]
    entry_read
    try rfl
  have h2 : StableHlo.after ((hostOps0 : List (HloOp τ sig (Elt Ideal))).take 7) (fun b => m (c, b)) main_v2 = (extractStridedSlice S2048x1024 ![0, 1024] (WM (A1 m c)) slices_S2048x8192_S2048x1024_0_1024 : FVec Ideal S2048x1024 .f32) := by
    simp only [hostOps0, List.take_succ_cons, List.take_zero]
    entry_read
    try rfl
  have h5 : StableHlo.after ((hostOps0 : List (HloOp τ sig (Elt Ideal))).take 7) (fun b => m (c, b)) main_v5 = (extractStridedSlice S2048x2048 ![0, 4096] (WM (A1 m c)) slices_S2048x8192_S2048x2048_0_4096 : FVec Ideal S2048x2048 .f32) := by
    simp only [hostOps0, List.take_succ_cons, List.take_zero]
    entry_read
    try rfl
  have h6 : StableHlo.after ((hostOps0 : List (HloOp τ sig (Elt Ideal))).take 7) (fun b => m (c, b)) main_v6 = (extractStridedSlice S2048x2048 ![0, 6144] (WM (A1 m c)) slices_S2048x8192_S2048x2048_0_6144 : FVec Ideal S2048x2048 .f32) := by
    simp only [hostOps0, List.take_succ_cons, List.take_zero]
    entry_read
    try rfl
  have h8 : ∀ W : Valuation τ sig (Elt Ideal), StableHlo.after ((hostOps0 : List (HloOp τ sig (Elt Ideal))).drop 8) W (Proc.devRef .tc main_v8)
      = (truncf .bf16 (W (Proc.devRef .tc main_v7) : FVec Ideal S2048x6144 .f32) bitsLt_bf16_f32 : FVec Ideal S2048x6144 .bf16) := by
    intro W
    simp only [hostOps0, List.drop_succ_cons, List.drop_zero]
    entry_read
    try rfl
  show StableHlo.after hostOps0 (fun b => m (c, b)) (Proc.devRef .tc main_v8) = _
  rw [e, StableHlo.after_append, StableHlo.after_append, h8]
  generalize StableHlo.after ((hostOps0 : List (HloOp τ sig (Elt Ideal))).take 7) (fun b => m (c, b)) = W at h1 h2 h5 h6 ⊢
  simp only [hostOps0, List.drop_succ_cons, List.drop_zero, List.take_succ_cons, List.take_zero]
  rw [StableHlo.after_cons, StableHlo.after_nil, StableHlo.nary_result]
  unfold hW
  rw [← h1, ← h2, ← h5, ← h6]
  rfl

theorem WM_at (w : FVec Ideal S1x2048x8192 .f32) (k : Fin 2048) (d : Fin 8192) : WM w (ix2 k d) = w (ix3 0 k d) := by
  pointwise [WM]

/-- The result at an entry is the reference's. -/
theorem PR_at (X : FVec Ideal S4x8192x2048 .f32) (W : FVec Ideal S1x2048x8192 .f32) (N : FVec Ideal S1x2048 .f32) (r : Fin 32768) (d : Fin 6144) :
    PR (shapeCast _ X shapeCasts_S4x8192x2048_S32768x2048) (shapeCast _ (shapeCast _ N shapeCasts_S1x2048_S2048 : FVec Ideal S2048 .f32) shapeCasts_S2048_S1x2048) (hW (WM W)) (ix2 r d)
      = rQ (rCut (rPrj (rU X N) W)) (ix2 r d) := by
  rw [res_at]
  simp only [← WM_at, ← hW_at]
  generalize hW (WM W) = w
  pointwise [PR, rms]

/-- What the reference computes, of the arguments. -/
abbrev RES (c : Dev nD) : FVec Ideal S32768x6144 .bf16 := rQ (rCut (rPrj (rU (A0 m c) (A2 m c)) (A1 m c)))

/-- The first result array after the run is what the reference computes. -/
theorem val_p (c : Dev nD) : (dats m 0 c).arrAt 5 cfg0.N = RES m c := by
  rw [final5]
  unfold PRV
  rw [V9, V11, V8]
  funext i
  rw [eq_ix2 i]
  exact PR_at _ _ _ (i 0) (i 1)

end Cert.InIdeal.Hand

end
-- ==== Proof.InBits.lean ====
module

public import proofs.«01_k».proof.Proof.InRun
public import proofs.«01_k».proof.Proof.Gen.In
public import proofs.«01_k».proof.Proof.Gen.In.Launch

@[expose] public section

set_option maxRecDepth 16384

noncomputable section

/-! The input projection as printed is, text for text, the one over the extended reals: its run is that one's. -/

namespace Cert.In.Hand

open Idealize.ShloMosaic Idealize.ShloMosaic.TcCoe Idealize.SL.Sem
open Cert.In

variable {F : FTy → Type} [FloatOps F]

/-- The two bodies are the same. -/
theorem body_eq (i a1 h1 a2 h2 a3 h3 a4 h4 a5 h5 a6 h6 a7 h7 a8 h8 a9 h9 a10 h10) :
    cc0_in_proj (F := F) i a1 h1 a2 h2 a3 h3 a4 h4 a5 h5 a6 h6 a7 h7 a8 h8 a9 h9 a10 h10
      = Cert.InIdeal.cc0_in_proj (F := F) i a1 h1 a2 h2 a3 h3 a4 h4 a5 h5 a6 h6 a7 h7 a8 h8 a9 h9 a10 h10 := rfl

/-- The two tables of bodies are the same: each has the one body. -/
theorem table_eq : defs₀ (F := F) = Cert.InIdeal.defs₀ (F := F) := by
  unfold defs₀ Cert.InIdeal.defs₀
  refine congrArg Defs.onTc (funext fun l => ?_)
  match l with
  | 0 =>
    funext a
    obtain ⟨t, s⟩ := a
    exact body_eq (F := F) ..
  | ⟨_ + 1, h⟩ => exact absurd h (Nat.not_lt.2 (Nat.le_add_left _ _))

/-- The two programs' tables are the same. -/
theorem defs_eq : defs (F := F) = Cert.InIdeal.defs (F := F) := congrArg (Pipeline.defs Cert.InIdeal.pcfgs) table_eq

/-- The two programs' host code is the same. -/
theorem main_eq : main (F := F) = Cert.InIdeal.main (F := F) := rfl

/-- The projection as printed runs, leaves its arguments as they are and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_eq, main_eq]
  exact Cert.InIdeal.Hand.frame (F := F) m ρ

end Cert.In.Hand

end
-- ==== Proof.lean ====
module

public import proofs.«01_k».proof.Defs
public import proofs.«01_k».proof.Proof.Run
public import proofs.«01_k».proof.Proof.BitsRun
public import proofs.«01_k».proof.Proof.Pre
public import proofs.«01_k».proof.Proof.Gen.Attn
public import proofs.«01_k».proof.Proof.Gen.AttnIdeal
public import proofs.«01_k».proof.Proof.Gen.AttnRefIdeal
public import proofs.«01_k».proof.Proof.Gen.AttnRefIdeal.Run
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.Ffn
public import proofs.«01_k».proof.Proof.Gen.FfnIdeal
public import proofs.«01_k».proof.Proof.Gen.FfnRefIdeal
public import proofs.«01_k».proof.Proof.Gen.Ffn.Frame
public import proofs.«01_k».proof.Proof.Gen.FfnIdeal.Frame
public import proofs.«01_k».proof.Proof.Gen.FfnRefIdeal.Run
public import proofs.«01_k».proof.Proof.Gen.In
public import proofs.«01_k».proof.Proof.Gen.InIdeal
public import proofs.«01_k».proof.Proof.Gen.InRefIdeal
public import proofs.«01_k».proof.Proof.Gen.In.Frame
public import proofs.«01_k».proof.Proof.Gen.InIdeal.Frame
public import proofs.«01_k».proof.Proof.Gen.InRefIdeal.Run
public import proofs.«01_k».proof.Proof.FfnVal
public import proofs.«01_k».proof.Proof.MgVal
public import proofs.«01_k».proof.Proof.InVal
public import proofs.«01_k».proof.Proof.InBits
import Idealize.ShloMosaic.Lib.Claim

@[expose] public section

set_option maxRecDepth 16384

noncomputable section

namespace Cert.Proof

open Idealize.ShloMosaic Idealize.SL.Sem

/-- The kernel as printed runs, leaves its arguments as they are and every semaphore at zero. -/
theorem frame_kernel : Cert.quiescent_Attn := fun m g _ => Cert.Attn.Hand.frame m g

/-- The idealized kernel runs, leaves its arguments as they are and every semaphore at zero. -/
theorem frame_ideal : Cert.quiescent_AttnIdeal := fun m g _ => Cert.AttnIdeal.Hand.frame m g

/-- The reference is host code only: it runs, leaves its arguments as they are, and has no semaphores. -/
theorem frame_reference : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run (F := Ideal) m g)

/-- The constant of the mask, −1e30, is named: it stands for −∞. -/
theorem preserves : Cert.preserves_Attn_AttnIdeal :=
  IdealRules.named_const.statement Cert.AttnIdeal.κ "mask" .f32 0xF149F2CA#32 ⊥ rfl

/-- The idealized kernel's frame, with the precondition. -/
theorem frame_ideal_finite : Cert.quiescent_AttnIdeal_pre_finite (hPre_finite := Cert.Pre_finite.Hand.facts) := fun m g _ => Cert.AttnIdeal.Hand.frame m g

/-- The reference's frame, with the precondition. -/
theorem frame_reference_finite : Cert.quiescent_AttnRefIdeal_pre_finite (hPre_finite := Cert.Pre_finite.Hand.facts) := fun m g _ => frame_reference m g trivial

/-- Where the inputs of the softmax and of lambda are real numbers, the idealized kernel and the reference end with the same result. -/
theorem algebraic : Cert.algebraic_AttnIdeal_AttnRefIdeal_pre_finite (hPre_finite := Cert.Pre_finite.Hand.facts) := by
  intro m g m' g' hpre hagree
  refine ⟨fun c => Cert.AttnIdeal.Hand.RES m c, ?_, ?_⟩
  · refine (θ_run Cert.AttnIdeal.defs _ _).mono (fun r h c => ⟨?_,
      ((h.1 c).2 Cert.AttnIdeal.main_arg0 (Pipeline.mem_restRefs_of Cert.AttnIdeal.main_arg0 (by decide) (by decide))).trans (Cert.AttnIdeal.Gen.V_main_arg0 m c),
      ((h.1 c).2 Cert.AttnIdeal.main_arg1 (Pipeline.mem_restRefs_of Cert.AttnIdeal.main_arg1 (by decide) (by decide))).trans (Cert.AttnIdeal.Gen.V_main_arg1 m c),
      ((h.1 c).2 Cert.AttnIdeal.main_arg2 (Pipeline.mem_restRefs_of Cert.AttnIdeal.main_arg2 (by decide) (by decide))).trans (Cert.AttnIdeal.Gen.V_main_arg2 m c),
      ((h.1 c).2 Cert.AttnIdeal.main_arg3 (Pipeline.mem_restRefs_of Cert.AttnIdeal.main_arg3 (by decide) (by decide))).trans (Cert.AttnIdeal.Gen.V_main_arg3 m c),
      ((h.1 c).2 Cert.AttnIdeal.main_arg4 (Pipeline.mem_restRefs_of Cert.AttnIdeal.main_arg4 (by decide) (by decide))).trans (Cert.AttnIdeal.Gen.V_main_arg4 m c),
      ((h.1 c).2 Cert.AttnIdeal.main_arg5 (Pipeline.mem_restRefs_of Cert.AttnIdeal.main_arg5 (by decide) (by decide))).trans (Cert.AttnIdeal.Gen.V_main_arg5 m c)⟩)
      (Cert.AttnIdeal.Hand.run_main m g)
    exact ((h.1 c).1 8).trans (Cert.AttnIdeal.Hand.final m c (Cert.Pre_finite.Hand.fini m hpre c))
  · refine (θ_run Cert.AttnRefIdeal.defs _ _).mono (fun r h c => ⟨?_, (h c).2⟩) (Cert.AttnRefIdeal.Value.run (F := Ideal) m' g')
    obtain ⟨e0, e1, e2, e3, e4, e5⟩ := hagree c
    refine (h c).1.trans ((Cert.AttnRefIdeal.Hand.res_steps m' c).trans ?_)
    rw [e0, e1, e2, e3, e4, e5]
    rfl

/-- The merge as printed runs, leaves its arguments as they are and every semaphore at zero. -/
theorem frame_merge : Cert.quiescent_Merge := fun m g _ => Cert.Merge.Gen.frame m g

/-- The merge over the extended reals likewise. -/
theorem frame_merge_ideal : Cert.quiescent_MergeIdeal := fun m g _ => Cert.MergeIdeal.Gen.frame m g

/-- The merge's reference is host code only. -/
theorem frame_merge_reference : Cert.quiescent_MergeRefIdeal := fun m g _ =>
  (θ_run Cert.MergeRefIdeal.defs _ _).mono (fun r h => ⟨fun c => (h c).2.2, sem_eq_zero_of_no_sems (by decide) r.2⟩)
    (Cert.MergeRefIdeal.Value.run (F := Ideal) m g)

/-- Nothing of the merge is rewritten. -/
theorem preserves_merge : Cert.preserves_Merge_MergeIdeal := trivial

/-- The merge and its reference end with the same two results. -/
theorem algebraic_merge : Cert.algebraic_MergeIdeal_MergeRefIdeal := by
  intro m g m' g' _ hagree
  refine ⟨fun c => Cert.MergeRefIdeal.Hand.rFl (Cert.MergeIdeal.Hand.RH m c), fun c => Cert.MergeRefIdeal.Hand.rZ (Cert.MergeIdeal.Hand.RH m c) (Cert.MergeIdeal.Hand.A10 m c), ?_, ?_⟩
  · exact (θ_run Cert.MergeIdeal.defs _ _).mono (fun r h c => ⟨(h c).1.trans (Cert.MergeIdeal.Hand.val_h m c), (h c).2.1.trans (Cert.MergeIdeal.Hand.val_z m c), (h c).2.2⟩)
      (Cert.MergeIdeal.Value.run_blocks (F := Ideal) m g)
  · refine (θ_run Cert.MergeRefIdeal.defs _ _).mono (fun r h c => ⟨?_, ?_, (h c).2.2⟩) (Cert.MergeRefIdeal.Value.run (F := Ideal) m' g')
    · obtain ⟨e0, e1, e2, e3, e4, e5, e6, e7, e8, e9, e10⟩ := hagree c
      refine (h c).1.trans ((Cert.MergeRefIdeal.Hand.res_h m' c).trans ?_)
      rw [e0, e1, e2, e3, e4, e5, e6, e7, e8, e9]
    · obtain ⟨e0, e1, e2, e3, e4, e5, e6, e7, e8, e9, e10⟩ := hagree c
      refine (h c).2.1.trans ((Cert.MergeRefIdeal.Hand.res_z m' c).trans ?_)
      rw [e0, e1, e2, e3, e4, e5, e6, e7, e8, e9, e10]

/-- The feed-forward part as printed runs, leaves its arguments as they are and every semaphore at zero. -/
theorem frame_ffn : Cert.quiescent_Ffn := fun m g _ => Cert.Ffn.Gen.frame m g

/-- The feed-forward part over the extended reals likewise. -/
theorem frame_ffn_ideal : Cert.quiescent_FfnIdeal := fun m g _ => Cert.FfnIdeal.Gen.frame m g

/-- The feed-forward part's reference is host code only. -/
theorem frame_ffn_reference : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- Nothing of the feed-forward part is rewritten. -/
theorem preserves_ffn : Cert.preserves_Ffn_FfnIdeal := trivial

/-- The two calls of the feed-forward part, one after the other, and its reference end with the same result. -/
theorem algebraic_ffn : Cert.algebraic_FfnIdeal_FfnRefIdeal := by
  intro m g m' g' _ hagree
  refine ⟨fun c => Cert.FfnIdeal.Hand.RES m c, ?_, ?_⟩
  · exact (θ_run Cert.FfnIdeal.defs _ _).mono (fun r h c => ⟨(h.1 c).trans (Cert.FfnIdeal.Hand.final m g c), h.2 c⟩)
      (θ_run_and (Cert.FfnIdeal.Hand.run_out m g) (Cert.FfnIdeal.Gen.unchanged m g))
  · refine (θ_run Cert.FfnRefIdeal.defs _ _).mono (fun r h c => ⟨?_, (h c).2⟩) (Cert.FfnRefIdeal.Value.run (F := Ideal) m' g')
    obtain ⟨e0, e1, e2, e3, e4, e5⟩ := hagree c
    refine (h c).1.trans ?_
    rw [e0, e1, e2, e3, e4, e5]
    rfl

/-- The input projection as printed runs, leaves its arguments as they are and every semaphore at zero: its text is the one over the extended reals, so its run is too. -/
theorem frame_in : Cert.quiescent_In := fun m g _ => Cert.In.Hand.frame m g

/-- The input projection over the extended reals likewise. -/
theorem frame_in_ideal : Cert.quiescent_InIdeal := fun m g _ => Cert.InIdeal.Hand.frame m g

/-- The input projection's reference is host code only. -/
theorem frame_in_reference : Cert.quiescent_InRefIdeal := fun m g _ =>
  (θ_run Cert.InRefIdeal.defs _ _).mono (fun r h => ⟨fun c => (h c).2, sem_eq_zero_of_no_sems (by decide) r.2⟩)
    (Cert.InRefIdeal.Value.run (F := Ideal) m g)

/-- Nothing of the input projection is rewritten. -/
theorem preserves_in : Cert.preserves_In_InIdeal := trivial

/-- The input projection and its reference end with the same result. -/
theorem algebraic_in : Cert.algebraic_InIdeal_InRefIdeal := by
  intro m g m' g' _ hagree
  refine ⟨fun c => Cert.InIdeal.Hand.RES m c, ?_, ?_⟩
  · exact (θ_run Cert.InIdeal.defs _ _).mono (fun r h c => ⟨(h.1 c).2.2.2.trans (Cert.InIdeal.Hand.val_p m c), (h.1 c).1, (h.1 c).2.1, (h.1 c).2.2.1⟩)
      (Cert.InIdeal.Hand.run_proj m g)
  · refine (θ_run Cert.InRefIdeal.defs _ _).mono (fun r h c => ⟨?_, (h c).2⟩) (Cert.InRefIdeal.Value.run (F := Ideal) m' g')
    obtain ⟨e0, e1, e2⟩ := hagree c
    refine (h c).1.trans ((Cert.InRefIdeal.Hand.res_p m' c).trans ?_)
    rw [e0, e1, e2]

/-- Every claim of the certificate. -/
theorem claim : Cert.Claim :=
  ⟨Cert.Attn.Gen.facts, Cert.AttnIdeal.Gen.facts, Cert.AttnRefIdeal.Gen.facts, Cert.Merge.Gen.facts, Cert.MergeIdeal.Gen.facts, Cert.MergeRefIdeal.Gen.facts,
    Cert.Ffn.Gen.facts, Cert.FfnIdeal.Gen.facts, Cert.FfnRefIdeal.Gen.facts, Cert.In.Gen.facts, Cert.InIdeal.Gen.facts, Cert.InRefIdeal.Gen.facts, Cert.Pre_finite.Hand.facts,
    frame_kernel, frame_ideal, frame_ideal_finite, frame_reference, frame_reference_finite,
    frame_merge, frame_merge_ideal, frame_merge_reference, frame_ffn, frame_ffn_ideal, frame_ffn_reference,
    frame_in, frame_in_ideal, frame_in_reference,
    preserves, algebraic, preserves_merge, algebraic_merge, preserves_ffn, algebraic_ffn, preserves_in, algebraic_in⟩

end Cert.Proof

end
